-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "log2e" .f32 0x3FB8AA3B#32 (((Real.log 2)⁻¹ : ℝ) : EReal)

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v61_0)) (v1 : (c : Dev Cert.Kernel3Ideal.nD) → Buf (Elt Ideal) ((c.tc : Thread Cert.Kernel3Ideal.nD Cert.Kernel3Ideal.τ).loc Cert.Kernel3Ideal.main_v61_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v61_0) = v0 c
          ∧ r.2.mem ((c.tc : Thread Cert.Kernel3Ideal.nD Cert.Kernel3Ideal.τ).loc Cert.Kernel3Ideal.main_v61_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
-- ==== Pre_finite.lean ====
abbrev S8x4096x16x128 : Shape := ⟨4, ![8, 4096, 16, 128]⟩
abbrev S8x4096x4x128 : Shape := ⟨4, ![8, 4096, 4, 128]⟩
abbrev S32x16 : Shape := ⟨2, ![32, 16]⟩
abbrev S_ : Shape := ⟨0, ![]⟩

class Facts : Prop where
  bcast_S_S8x4096x16x128 : S_.BroadcastsInDim S8x4096x16x128 (![] : Fin 0 → Fin S8x4096x16x128.rank)
  reducesTo_S8x4096x16x128_S_d0_1_2_3 : S8x4096x16x128.ReducesTo [0, 1, 2, 3] S_
  h_S_ : 0 < S_.numel
  bcast_S_S8x4096x4x128 : S_.BroadcastsInDim S8x4096x4x128 (![] : Fin 0 → Fin S8x4096x4x128.rank)
  reducesTo_S8x4096x4x128_S_d0_1_2_3 : S8x4096x4x128.ReducesTo [0, 1, 2, 3] S_
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S8x4096x16x128 .f32) (main_arg1 : FVec F S8x4096x4x128 .f32) (main_arg2 : FVec F S8x4096x4x128 .f32) (main_arg3 : FVec F S32x16 .f32) : IVec S_ 1 :=
  let main_v0 : FVec F S8x4096x16x128 .f32 := Host.absf main_arg0
  let main_cst : FVec F S_ .f32 := constant S_ .f32 0x7F800000#32
  let main_v1 : FVec F S8x4096x16x128 .f32 := broadcastInDim S8x4096x16x128 ![] bcast_S_S8x4096x16x128 main_cst
  let main_v2 : IVec S8x4096x16x128 1 := cmpf .olt main_v0 main_v1
  let main_c : IVec S_ 1 := constantI S_ 1 1#1
  let main_v3 : IVec S_ 1 := (fun x v => Host.reduce IntOp.andi x v reducesTo_S8x4096x16x128_S_d0_1_2_3 h_S_) main_v2 main_c
  let main_v4 : FVec F S8x4096x4x128 .f32 := Host.absf main_arg1
  let main_cst_0 : FVec F S_ .f32 := constant S_ .f32 0x7F800000#32
  let main_v5 : FVec F S8x4096x4x128 .f32 := broadcastInDim S8x4096x4x128 ![] bcast_S_S8x4096x4x128 main_cst_0
  let main_v6 : IVec S8x4096x4x128 1 := cmpf .olt main_v4 main_v5
  let main_c_1 : IVec S_ 1 := constantI S_ 1 1#1
  let main_v7 : IVec S_ 1 := (fun x v => Host.reduce IntOp.andi x v reducesTo_S8x4096x4x128_S_d0_1_2_3 h_S_) main_v6 main_c_1
  let main_v8 : IVec S_ 1 := andi main_v3 main_v7
  let main_v9 : FVec F S32x16 .f32 := Host.absf main_arg3
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  main_v13
-- ==== Kernel.lean ====
abbrev S8x4096x5632 : Shape := ⟨3, ![8, 4096, 5632]⟩
abbrev S5632x2048 : Shape := ⟨2, ![5632, 2048]⟩
abbrev S8x4096x2048 : Shape := ⟨3, ![8, 4096, 2048]⟩
abbrev S32768x5632 : Shape := ⟨2, ![32768, 5632]⟩
abbrev S32768x2048 : Shape := ⟨2, ![32768, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x5632, .f32⟩
  | .hbm, ⟨1, _⟩ => ⟨S5632x2048, .f32⟩
  | .hbm, ⟨2, _⟩ => ⟨S8x4096x2048, .f32⟩
  | .hbm, ⟨3, _⟩ => ⟨S8x4096x5632, .bf16⟩
  | .hbm, ⟨4, _⟩ => ⟨S32768x5632, .bf16⟩
  | .hbm, ⟨5, _⟩ => ⟨S5632x2048, .bf16⟩
  | .hbm, ⟨6, _⟩ => ⟨S32768x2048, .f32⟩
  | .hbm, ⟨7, _⟩ => ⟨S32768x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x5632 : Shape := ⟨3, ![8, 4096, 5632]⟩
abbrev S5632x2048 : Shape := ⟨2, ![5632, 2048]⟩
abbrev S8x4096x2048 : Shape := ⟨3, ![8, 4096, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x5632, .f32⟩
  | .hbm, ⟨1, _⟩ => ⟨S5632x2048, .f32⟩
  | .hbm, ⟨2, _⟩ => ⟨S8x4096x2048, .f32⟩
  | .hbm, ⟨3, _⟩ => ⟨S8x4096x2048, .f32⟩
  | .hbm, ⟨4, _⟩ => ⟨S8x4096x2048, .f32⟩
  | .hbm, ⟨5, _⟩ => ⟨S32768x2048, .f32⟩
  | _, _ => ⟨S8x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel2.lean ====
abbrev S8x4096x16x128 : Shape := ⟨4, ![8, 4096, 16, 128]⟩
abbrev S2048x2048 : Shape := ⟨2, ![2048, 2048]⟩
abbrev S8x4096x2048 : Shape := ⟨3, ![8, 4096, 2048]⟩
abbrev S8x2048x4096 : Shape := ⟨3, ![8, 2048, 4096]⟩
abbrev S32768x2048 : Shape := ⟨2, ![32768, 2048]⟩
abbrev S1x2048x512 : Shape := ⟨3, ![1, 2048, 512]⟩
abbrev S512x2048 : Shape := ⟨2, ![512, 2048]⟩
abbrev S2048x512 : Shape := ⟨2, ![2048, 512]⟩

abbrev nBuf : Space → Nat
  | .hbm => 9
  | .vmem => 7
  | .smem => 0
  | _ => 0

abbrev bufTy : (tb : Table) → Fin (tcTables nBuf tb) → BufTy
  | .hbm, ⟨0, _⟩ => ⟨S8x4096x16x128, .f32⟩
  | .hbm, ⟨1, _⟩ => ⟨S2048x2048, .f32⟩
  | .hbm, ⟨2, _⟩ => ⟨S8x4096x2048, .f32⟩
  | .hbm, ⟨3, _⟩ => ⟨S8x4096x2048, .f32⟩
  | .hbm, ⟨4, _⟩ => ⟨S8x4096x2048, .bf16⟩
  | .hbm, ⟨5, _⟩ => ⟨S8x2048x4096, .bf16⟩
  | .hbm, ⟨6, _⟩ => ⟨S2048x2048, .bf16⟩
  | .hbm, ⟨7, _⟩ => ⟨S32768x2048, .f32⟩
  | .hbm, ⟨8, _⟩ => ⟨S32768x2048, .f32⟩
  | .local _ .vmem, ⟨0, _⟩ => ⟨S1x2048x512, .bf16⟩
  | .local _ .vmem, ⟨1, _⟩ => ⟨S1x2048x512, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x4096x16x128 : Shape := ⟨4, ![8, 4096, 16, 128]⟩
abbrev S2048x2048 : Shape := ⟨2, ![2048, 2048]⟩
abbrev S8x4096x2048 : Shape := ⟨3, ![8, 4096, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x16x128, .f32⟩
  | .hbm, ⟨1, _⟩ => ⟨S2048x2048, .f32⟩
  | .hbm, ⟨2, _⟩ => ⟨S8x4096x2048, .f32⟩
  | .hbm, ⟨3, _⟩ => ⟨S8x4096x2048, .f32⟩
  | .hbm, ⟨4, _⟩ => ⟨S8x4096x2048, .f32⟩
  | .hbm, ⟨5, _⟩ => ⟨S8x4096x2048, .f32⟩
  | .hbm, ⟨6, _⟩ => ⟨S32768x2048, .f32⟩
  | _, _ => ⟨S8x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8x4096x16x128 : Shape := ⟨4, ![8, 4096, 16, 128]⟩
abbrev S8x4096x4x128 : Shape := ⟨4, ![8, 4096, 4, 128]⟩
abbrev S32x16 : Shape := ⟨2, ![32, 16]⟩
abbrev S_ : Shape := ⟨0, ![]⟩
abbrev S8x4096x2048 : Shape := ⟨3, ![8, 4096, 2048]⟩
abbrev S8x2048x4096 : Shape := ⟨3, ![8, 2048, 4096]⟩
abbrev S8x4x4096x128 : Shape := ⟨4, ![8, 4, 4096, 128]⟩
abbrev S8x4x128x4096 : Shape := ⟨4, ![8, 4, 128, 4096]⟩
abbrev S128 : Shape := ⟨1, ![128]⟩
abbrev S1x128 : Shape := ⟨2, ![1, 128]⟩
abbrev S384 : Shape := ⟨1, ![384]⟩
abbrev S384x1 : Shape := ⟨2, ![384, 1]⟩
abbrev S384x128 : Shape := ⟨2, ![384, 128]⟩
abbrev S384x128x1 : Shape := ⟨3, ![384, 128, 1]⟩
abbrev S384x128x16 : Shape := ⟨3, ![384, 128, 16]⟩
abbrev S384x128x4x4 : Shape := ⟨4, ![384, 128, 4, 4]⟩
abbrev S4x384x4x128 : Shape := ⟨4, ![4, 384, 4, 128]⟩
abbrev S4x384x512 : Shape := ⟨3, ![4, 384, 512]⟩
abbrev S8x4x4x4096 : Shape := ⟨4, ![8, 4, 4, 4096]⟩
abbrev S1x512x2048 : Shape := ⟨3, ![1, 512, 2048]⟩
abbrev S1x1x4096x128 : Shape := ⟨4, ![1, 1, 4096, 128]⟩
abbrev S1x1x128x4096 : Shape := ⟨4, ![1, 1, 128, 4096]⟩
abbrev S1x384x512 : Shape := ⟨3, ![1, 384, 512]⟩
abbrev S1x1x4x2048 : Shape := ⟨4, ![1, 1, 4, 2048]⟩
abbrev S16x256x512 : Shape := ⟨3, ![16, 256, 512]⟩
abbrev S1x128x128 : Shape := ⟨3, ![1, 128, 128]⟩
abbrev S128x128 : Shape := ⟨2, ![128, 128]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩
abbrev S1x1x256x128 : Shape := ⟨4, ![1, 1, 256, 128]⟩
abbrev S1x256x512 : Shape := ⟨3, ![1, 256, 512]⟩
abbrev S512 : Shape := ⟨1, ![512]⟩
abbrev S1x512 : Shape := ⟨2, ![1, 512]⟩
abbrev S1x1x128x256 : Shape := ⟨4, ![1, 1, 128, 256]⟩
abbrev S128x256 : Shape := ⟨2, ![128, 256]⟩
abbrev S16x256 : Shape := ⟨2, ![16, 256]⟩
abbrev S144x256 : Shape := ⟨2, ![144, 256]⟩
abbrev S144x512 : Shape := ⟨2, ![144, 512]⟩
abbrev S1x1x1x128 : Shape := ⟨4, ![1, 1, 1, 128]⟩

abbrev nBuf : Space → Nat
  | .hbm => 87
  | .vmem => 14
  | .smem => 0
  | _ => 0

abbrev bufTy : (tb : Table) → Fin (tcTables nBuf tb) → BufTy
  | .hbm, ⟨0, _⟩ => ⟨S8x4096x16x128, .f32⟩
  | .hbm, ⟨1, _⟩ => ⟨S8x4096x4x128, .f32⟩
  | .hbm, ⟨2, _⟩ => ⟨S8x4096x4x128, .f32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x16x128, .f32⟩
  | .hbm, ⟨10, _⟩ => ⟨S8x4096x16x128, .f32⟩
  | .hbm, ⟨11, _⟩ => ⟨S8x4096x16x128, .f32⟩
  | .hbm, ⟨12, _⟩ => ⟨S8x4096x16x128, .f32⟩
  | .hbm, ⟨13, _⟩ => ⟨S8x4096x16x128, .bf16⟩
  | .hbm, ⟨14, _⟩ => ⟨S8x4096x2048, .bf16⟩
  | .hbm, ⟨15, _⟩ => ⟨S8x2048x4096, .bf16⟩
  | .hbm, ⟨16, _⟩ => ⟨S8x4096x4x128, .bf16⟩
  | .hbm, ⟨17, _⟩ => ⟨S8x4x4096x128, .bf16⟩
  | .hbm, ⟨18, _⟩ => ⟨S8x4096x4x128, .bf16⟩
  | .hbm, ⟨19, _⟩ => ⟨S8x4x128x4096, .bf16⟩
  | .hbm, ⟨20, _⟩ => ⟨S128, .i32⟩
  | .hbm, ⟨21, _⟩ => ⟨S1x128, .i32⟩
  | .hbm, ⟨22, _⟩ => ⟨S384, .i32⟩
  | .hbm, ⟨23, _⟩ => ⟨S384x1, .i32⟩
  | .hbm, ⟨24, _⟩ => ⟨S384x128, .i32⟩
  | .hbm, ⟨25, _⟩ => ⟨S384x128, .i32⟩
  | .hbm, ⟨26, _⟩ => ⟨S384x128, .i32⟩
  | .hbm, ⟨27, _⟩ => ⟨S_, .i32⟩
  | .hbm, ⟨28, _⟩ => ⟨S384x128, .i32⟩
  | .hbm, ⟨29, _⟩ => ⟨S384x128, .i32⟩
  | .hbm, ⟨30, _⟩ => ⟨S_, .i32⟩
  | .hbm, ⟨31, _⟩ => ⟨S384x128, .i32⟩
  | .hbm, ⟨32, _⟩ => ⟨S384x128, .i1⟩
  | .hbm, ⟨33, _⟩ => ⟨S_, .i32⟩
  | .hbm, ⟨34, _⟩ => ⟨S384x128, .i32⟩
  | .hbm, ⟨35, _⟩ => ⟨S384x128, .i1⟩
  | .hbm, ⟨36, _⟩ => ⟨S384x128, .i1⟩
  | .hbm, ⟨37, _⟩ => ⟨S_, .i32⟩
  | .hbm, ⟨38, _⟩ => ⟨S384x128, .i32⟩
  | .hbm, ⟨39, _⟩ => ⟨S384x128, .i32⟩
  | .hbm, ⟨40, _⟩ => ⟨S_, .i32⟩
  | .hbm, ⟨41, _⟩ => ⟨S384x128, .i32⟩
  | .hbm, ⟨42, _⟩ => ⟨S384x128, .i32⟩
  | .hbm, ⟨43, _⟩ => ⟨S384x128, .f32⟩
  | .hbm, ⟨44, _⟩ => ⟨S_, .f32⟩
  | .hbm, ⟨45, _⟩ => ⟨S384x128, .f32⟩
  | .hbm, ⟨46, _⟩ => ⟨S384x128, .f32⟩
  | .hbm, ⟨47, _⟩ => ⟨S384x128, .f32⟩
  | .hbm, ⟨48, _⟩ => ⟨S_, .f32⟩
  | .hbm, ⟨49, _⟩ => ⟨S384x128, .f32⟩
  | .hbm, ⟨50, _⟩ => ⟨S384x128, .f32⟩
  | .hbm, ⟨51, _⟩ => ⟨S_, .f32⟩
  | .hbm, ⟨52, _⟩ => ⟨S384x128, .f32⟩
  | .hbm, ⟨53, _⟩ => ⟨S384x128, .f32⟩
  | .hbm, ⟨54, _⟩ => ⟨S384x128, .i32⟩
  | .hbm, ⟨55, _⟩ => ⟨S_, .i32⟩
  | .hbm, ⟨56, _⟩ => ⟨S384x128, .i32⟩
  | .hbm, ⟨57, _⟩ => ⟨S384x128, .i32⟩
  | .hbm, ⟨58, _⟩ => ⟨S_, .i32⟩
  | .hbm, ⟨59, _⟩ => ⟨S384x128, .i32⟩
  | .hbm, ⟨60, _⟩ => ⟨S384x128, .i1⟩
  | .hbm, ⟨61, _⟩ => ⟨S_, .i32⟩
  | .hbm, ⟨62, _⟩ => ⟨S384x128, .i32⟩
  | .hbm, ⟨63, _⟩ => ⟨S384x128, .i32⟩
  | .hbm, ⟨64, _⟩ => ⟨S384x128, .i32⟩
  | .hbm, ⟨65, _⟩ => ⟨S_, .i32⟩
  | .hbm, ⟨66, _⟩ => ⟨S384x128, .i32⟩
  | .hbm, ⟨67, _⟩ => ⟨S384x128, .i1⟩
  | .hbm, ⟨68, _⟩ => ⟨S_, .i32⟩
  | .hbm, ⟨69, _⟩ => ⟨S384x128, .i32⟩
  | .hbm, ⟨70, _⟩ => ⟨S384x128, .i32⟩
  | .hbm, ⟨71, _⟩ => ⟨S384x128, .i32⟩
  | .hbm, ⟨72, _⟩ => ⟨S384x128x1, .i32⟩
  | .hbm, ⟨73, _⟩ => ⟨S384x128x16, .f32⟩
  | .hbm, ⟨74, _⟩ => ⟨S384x128x16, .f32⟩
  | .hbm, ⟨75, _⟩ => ⟨S384x128x16, .f32⟩
  | .hbm, ⟨76, _⟩ => ⟨S384x128x1, .i1⟩
  | .hbm, ⟨77, _⟩ => ⟨S_, .f32⟩
  | .hbm, ⟨78, _⟩ => ⟨S_, .f32⟩
  | .hbm, ⟨79, _⟩ => ⟨S384x128x16, .i1⟩
  | .hbm, ⟨80, _⟩ => ⟨S384x128x16, .f32⟩
  | .hbm, ⟨81, _⟩ => ⟨S384x128x16, .f32⟩
  | .hbm, ⟨82, _⟩ => ⟨S384x128x4x4, .f32⟩
  | .hbm, ⟨83, _⟩ => ⟨S4x384x4x128, .f32⟩
  | .hbm, ⟨84, _⟩ => ⟨S4x384x512, .f32⟩
  | .hbm, ⟨85, _⟩ => ⟨S8x2048x4096, .bf16⟩
  | .hbm, ⟨86, _⟩ => ⟨S8x4x4x4096, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x128x4096, .bf16⟩
  | .local _ .vmem, ⟨5, _⟩ => ⟨S1x1x128x4096, .bf16⟩
  | .local _ .vmem, ⟨6, _⟩ => ⟨S1x384x512, .f32⟩
  | .local _ .vmem, ⟨7, _⟩ => ⟨S1x384x512, .f32⟩
  | .local _ .vmem, ⟨8, _⟩ => ⟨S1x512x2048, .bf16⟩
  | .local _ .vmem, ⟨9, _⟩ => ⟨S1x512x2048, .bf16⟩
  | .local _ .vmem, ⟨10, _⟩ => ⟨S1x1x4x2048, .f32⟩
  | .local _ .vmem, ⟨11, _⟩ => ⟨S1x1x4x2048, .f32⟩
  | .local _ .vmem, ⟨12, _⟩ => ⟨S16x256x512, .f32⟩
  | .local _ .vmem, ⟨13, _⟩ => ⟨S16x256x512, .bf16⟩
  | _, _ => ⟨S8x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_v42 : Ref sig .tc := ⟨.hbm, 59, rfl⟩
abbrev main_v43 : Ref sig .tc := ⟨.hbm, 60, rfl⟩
abbrev main_c_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_v47 : Ref sig .tc := ⟨.hbm, 66, rfl⟩
abbrev main_v48 : Ref sig .tc := ⟨.hbm, 67, rfl⟩
abbrev main_c_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61_0 : Ref sig .tc := ⟨.hbm, 85, rfl⟩
abbrev main_v61_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 2], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  let c0_i32 : BitVec 32 := 0#32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  v12
def k0_mult2 (i : grid0.Coords) : BitVec 32 :=
  let c128_i32_9 : BitVec 32 := 128#32
  let arg2 : BitVec 32 := BitVec.ofNat 32 (i 2).val
  let c2048_i32 : BitVec 32 := 2048#32
  let v0 : BitVec 32 := Scalar.muli arg2 c2048_i32
  let c0_i32 : BitVec 32 := 0#32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  let v13 : BitVec 32 := v12
  let v14 : BitVec 32 := Scalar.subi v10 v13
  let v15 : BitVec 32 := Scalar.subi c128_i32_9 v14
  let c0_i32_10 : BitVec 32 := 0#32
  let v16 : BitVec 32 := Scalar.subi v15 c0_i32_10
  v16
def k0_off1 (i : grid0.Coords) (c0_i32 : BitVec 32) : Fin 3 → Nat :=
  let c0_11 : Index := 0#32
  let c128_i32_9 : BitVec 32 := 128#32
  let arg2 : BitVec 32 := BitVec.ofNat 32 (i 2).val
  let c2048_i32 : BitVec 32 := 2048#32
  let v0 : BitVec 32 := Scalar.muli arg2 c2048_i32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  let v13 : BitVec 32 := v12
  let v14 : BitVec 32 := Scalar.subi v10 v13
  let v15 : BitVec 32 := Scalar.subi c128_i32_9 v14
  let c0_i32_10 : BitVec 32 := 0#32
  let v16 : BitVec 32 := Scalar.subi v15 c0_i32_10
  let v17 : BitVec 32 := v16
  let v18 : Index := Scalar.indexCast v17
  let c0_12 : Index := 0#32
  ![0, v18.toNat, 0]
def k0_mult3 (i : grid0.Coords) : BitVec 32 :=
  let c128_i32_9 : BitVec 32 := 128#32
  let arg2 : BitVec 32 := BitVec.ofNat 32 (i 2).val
  let c2048_i32 : BitVec 32 := 2048#32
  let v0 : BitVec 32 := Scalar.muli arg2 c2048_i32
  let c0_i32 : BitVec 32 := 0#32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  let v13 : BitVec 32 := v12
  let v14 : BitVec 32 := Scalar.subi v10 v13
  let v15 : BitVec 32 := Scalar.subi c128_i32_9 v14
  let c0_i32_13 : BitVec 32 := 0#32
  let v21 : BitVec 32 := Scalar.subi v15 c0_i32_13
  v21
def k0_off2 (i : grid0.Coords) (c0_i32 : BitVec 32) : Fin 3 → Nat :=
  let c0_14 : Index := 0#32
  let c128_i32_9 : BitVec 32 := 128#32
  let arg2 : BitVec 32 := BitVec.ofNat 32 (i 2).val
  let c2048_i32 : BitVec 32 := 2048#32
  let v0 : BitVec 32 := Scalar.muli arg2 c2048_i32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  let v13 : BitVec 32 := v12
  let v14 : BitVec 32 := Scalar.subi v10 v13
  let v15 : BitVec 32 := Scalar.subi c128_i32_9 v14
  let c0_i32_13 : BitVec 32 := 0#32
  let v21 : BitVec 32 := Scalar.subi v15 c0_i32_13
  let v22 : BitVec 32 := v21
  let v23 : Index := Scalar.indexCast v22
  let c128_15 : Index := 128#32
  ![0, v23.toNat, 128]
def k0_mult4 (i : grid0.Coords) : BitVec 32 :=
  let c128_i32_9 : BitVec 32 := 128#32
  let arg2 : BitVec 32 := BitVec.ofNat 32 (i 2).val
  let c2048_i32 : BitVec 32 := 2048#32
  let v0 : BitVec 32 := Scalar.muli arg2 c2048_i32
  let c0_i32 : BitVec 32 := 0#32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  let v13 : BitVec 32 := v12
  let v14 : BitVec 32 := Scalar.subi v10 v13
  let v15 : BitVec 32 := Scalar.subi c128_i32_9 v14
  let c0_i32_16 : BitVec 32 := 0#32
  let v26 : BitVec 32 := Scalar.subi v15 c0_i32_16
  v26
def k0_off3 (i : grid0.Coords) (c0_i32 : BitVec 32) : Fin 3 → Nat :=
  let c0_17 : Index := 0#32
  let c128_i32_9 : BitVec 32 := 128#32
  let arg2 : BitVec 32 := BitVec.ofNat 32 (i 2).val
  let c2048_i32 : BitVec 32 := 2048#32
  let v0 : BitVec 32 := Scalar.muli arg2 c2048_i32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  let v13 : BitVec 32 := v12
  let v14 : BitVec 32 := Scalar.subi v10 v13
  let v15 : BitVec 32 := Scalar.subi c128_i32_9 v14
  let c0_i32_16 : BitVec 32 := 0#32
  let v26 : BitVec 32 := Scalar.subi v15 c0_i32_16
  let v27 : BitVec 32 := v26
  let v28 : Index := Scalar.indexCast v27
  let c256_18 : Index := 256#32
  ![0, v28.toNat, 256]
def k0_mult5 (i : grid0.Coords) : BitVec 32 :=
  let c128_i32_9 : BitVec 32 := 128#32
  let arg2 : BitVec 32 := BitVec.ofNat 32 (i 2).val
  let c2048_i32 : BitVec 32 := 2048#32
  let v0 : BitVec 32 := Scalar.muli arg2 c2048_i32
  let c0_i32 : BitVec 32 := 0#32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  let v13 : BitVec 32 := v12
  let v14 : BitVec 32 := Scalar.subi v10 v13
  let v15 : BitVec 32 := Scalar.subi c128_i32_9 v14
  let c0_i32_19 : BitVec 32 := 0#32
  let v31 : BitVec 32 := Scalar.subi v15 c0_i32_19
  v31
def k0_off4 (i : grid0.Coords) (c0_i32 : BitVec 32) : Fin 3 → Nat :=
  let c0_20 : Index := 0#32
  let c128_i32_9 : BitVec 32 := 128#32
  let arg2 : BitVec 32 := BitVec.ofNat 32 (i 2).val
  let c2048_i32 : BitVec 32 := 2048#32
  let v0 : BitVec 32 := Scalar.muli arg2 c2048_i32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  let v13 : BitVec 32 := v12
  let v14 : BitVec 32 := Scalar.subi v10 v13
  let v15 : BitVec 32 := Scalar.subi c128_i32_9 v14
  let c0_i32_19 : BitVec 32 := 0#32
  let v31 : BitVec 32 := Scalar.subi v15 c0_i32_19
  let v32 : BitVec 32 := v31
  let v33 : Index := Scalar.indexCast v32
  let c384_21 : Index := 384#32
  ![0, v33.toNat, 384]
def k0_off5 (i : grid0.Coords) (c0_i32 : BitVec 32) : Fin 4 → Nat :=
  let c0_22 : Index := 0#32
  let c0_23 : Index := 0#32
  let arg2 : BitVec 32 := BitVec.ofNat 32 (i 2).val
  let c2048_i32 : BitVec 32 := 2048#32
  let v0 : BitVec 32 := Scalar.muli arg2 c2048_i32
  let v10 : BitVec 32 := Scalar.addi v0 c0_i32
  let c128_i32 : BitVec 32 := 128#32
  let v11 : BitVec 32 := Scalar.subi v10 c128_i32
  let c0_i32_8 : BitVec 32 := 0#32
  let v12 : BitVec 32 := Scalar.maxsi v11 c0_i32_8
  let v13 : BitVec 32 := v12
  let v37 : Index := Scalar.indexCast v13
  let c0_24 : Index := 0#32
  ![0, 0, v37.toNat, 0]
def k0_mult6 (i : grid0.Coords) : BitVec 32 :=
  let arg2 : BitVec 32 := BitVec.ofNat 32 (i 2).val
  let c2048_i32 : BitVec 32 := 2048#32
  let v0 : BitVec 32 := Scalar.muli arg2 c2048_i32
  let c128_i32_40 : BitVec 32 := 128#32
  let v54 : BitVec 32 := Scalar.addi v0 c128_i32_40
  let c128_i32_41 : BitVec 32 := 128#32
  let v55 : BitVec 32 := Scalar.subi v54 c128_i32_41
  let c0_i32_42 : BitVec 32 := 0#32
  let v56 : BitVec 32 := Scalar.maxsi v55 c0_i32_42
  v56
def k0_mult7 (i : grid0.Coords) : BitVec 32 :=
  let c128_i32_43 : BitVec 32 := 128#32
  let arg2 : BitVec 32 := BitVec.ofNat 32 (i 2).val
  let c2048_i32 : BitVec 32 := 2048#32
  let v0 : BitVec 32 := Scalar.muli arg2 c2048_i32
  let c128_i32_40 : BitVec 32 := 128#32
  let v54 : BitVec 32 := Scalar.addi v0 c128_i32_40
  let c128_i32_41 : BitVec 32 := 128#32
  let v55 : BitVec 32 := Scalar.subi v54 c128_i32_41
  let c0_i32_42 : BitVec 32 := 0#32
  let v56 : BitVec 32 := Scalar.maxsi v55 c0_i32_42
  let v57 : BitVec 32 := v56
  let v58 : BitVec 32 := Scalar.subi v54 v57
  let v59 : BitVec 32 := Scalar.subi c128_i32_43 v58
  let c0_i32_44 : BitVec 32 := 0#32
  let v60 : BitVec 32 := Scalar.subi v59 c0_i32_44
  v60
def k0_mult8 (i : grid0.Coords) : BitVec 32 :=
  let c128_i32_43 : BitVec 32 := 128#32
  let arg2 : BitVec 32 := BitVec.ofNat 32 (i 2).val
  let c2048_i32 : BitVec 32 := 2048#32
  let v0 : BitVec 32 := Scalar.muli arg2 c2048_i32
  let c128_i32_40 : BitVec 32 := 128#32
  let v54 : BitVec 32 := Scalar.addi v0 c128_i32_40
  let c128_i32_41 : BitVec 32 := 128#32
  let v55 : BitVec 32 := Scalar.subi v54 c128_i32_41
  let c0_i32_42 : BitVec 32 := 0#32
  let v56 : BitVec 32 := Scalar.maxsi v55 c0_i32_42
  let v57 : BitVec 32 := v56
  let v58 : BitVec 32 := Scalar.subi v54 v57
  let v59 : BitVec 32 := Scalar.subi c128_i32_43 v58
  let c0_i32_47 : BitVec 32 := 0#32
  let v65 : BitVec 32 := Scalar.subi v59 c0_i32_47
  v65
def k0_mult9 (i : grid0.Coords) : BitVec 32 :=
  let c128_i32_43 : BitVec 32 := 128#32
  let arg2 : BitVec 32 := BitVec.ofNat 32 (i 2).val
  let c2048_i32 : BitVec 32 := 2048#32
  let v0 : BitVec 32 := Scalar.muli arg2 c2048_i32
  let c128_i32_40 : BitVec 32 := 128#32
  let v54 : BitVec 32 := Scalar.addi v0 c128_i32_40
  let c128_i32_41 : BitVec 32 := 128#32
  let v55 : BitVec 32 := Scalar.subi v54 c128_i32_41
  let c0_i32_42 : BitVec 32 := 0#32
  let v56 : BitVec 32 := Scalar.maxsi v55 c0_i32_42
  let v57 : BitVec 32 := v56
  let v58 : BitVec 32 := Scalar.subi v54 v57
  let v59 : BitVec 32 := Scalar.subi c128_i32_43 v58
  let c0_i32_50 : BitVec 32 := 0#32
  let v70 : BitVec 32 := Scalar.subi v59 c0_i32_50
  v70
def k0_mult10 (i : grid0.Coords) : BitVec 32 :=
  let c128_i32_43 : BitVec 32 := 128#32
  let arg2 : BitVec 32 := BitVec.ofNat 32 (i 2).val
  let c2048_i32 : BitVec 32 := 2048#32
  let v0 : BitVec 32 := Scalar.muli arg2 c2048_i32
  let c128_i32_40 : BitVec 32 := 128#32
  let v54 : BitVec 32 := Scalar.addi v0 c128_i32_40
  let c128_i32_41 : BitVec 32 := 128#32
  let v55 : BitVec 32 := Scalar.subi v54 c128_i32_41
  let c0_i32_42 : BitVec 32 := 0#32
  let v56 : BitVec 32 := Scalar.maxsi v55 c0_i32_42
  let v57 : BitVec 32 := v56
  let v58 : BitVec 32 := Scalar.subi v54 v57
  let v59 : BitVec 32 := Scalar.subi c128_i32_43 v58
  let c0_i32_53 : BitVec 32 := 0#32
  let v75 : BitVec 32 := Scalar.subi v59 c0_i32_53
  v75
def k0_mult11 (i : grid0.Coords) : BitVec 32 :=
  let arg2 : BitVec 32 := BitVec.ofNat 32 (i 2).val
  let c2048_i32 : BitVec 32 := 2048#32
  let v0 : BitVec 32 := Scalar.muli arg2 c2048_i32
  let c256_i32 : BitVec 32 := 256#32
  let v109 : BitVec 32 := Scalar.addi v0 c256_i32
  let c128_i32_81 : BitVec 32 := 128#32
  let v110 : BitVec 32 := Scalar.subi v109 c128_i32_81
  let c0_i32_82 : BitVec 32 := 0#32
  let v111 : BitVec 32 := Scalar.maxsi v110 c0_i32_82
  v111
def k0_mult12 (i : grid0.Coords) : BitVec 32 :=
  let c128_i32_83 : BitVec 32 := 128#32
  let arg2 : BitVec 32 := BitVec.ofNat 32 (i 2).val
  let c2048_i32 : BitVec 32 := 2048#32
  let v0 : BitVec 32 := Scalar.muli arg2 c2048_i32
  let c256_i32 : BitVec 32 := 256#32
  let v109 : BitVec 32 := Scalar.addi v0 c256_i32
  let c128_i32_81 : BitVec 32 := 128#32
  let v110 : BitVec 32 := Scalar.subi v109 c128_i32_81
  let c0_i32_82 : BitVec 32 := 0#32
  let v111 : BitVec 32 := Scalar.maxsi v110 c0_i32_82
  let v112 : BitVec 32 := v111
  let v113 : BitVec 32 := Scalar.subi v109 v112
  let v114 : BitVec 32 := Scalar.subi c128_i32_83 v113
  let c0_i32_84 : BitVec 32 := 0#32
  let v115 : BitVec 32 := Scalar.subi v114 c0_i32_84
  v115
def k0_mult13 (i : grid0.Coords) : BitVec 32 :=
  let c128_i32_83 : BitVec 32 := 128#32
  let arg2 : BitVec 32 := BitVec.ofNat 32 (i 2).val
  let c2048_i32 : BitVec 32 := 2048#32
  let v0 : BitVec 32 := Scalar.muli arg2 c2048_i32
  let c256_i32 : BitVec 32 := 256#32
  let v109 : BitVec 32 := Scalar.addi v0 c256_i32
  let c128_i32_81 : BitVec 32 := 128#32
  let v110 : BitVec 32 := Scalar.subi v109 c128_i32_81
  let c0_i32_82 : BitVec 32 := 0#32
  let v111 : BitVec 32 := Scalar.maxsi v110 c0_i32_82
  let v112 : BitVec 32 := v111
  let v113 : BitVec 32 := Scalar.subi v109 v112
  let v114 : BitVec 32 := Scalar.subi c128_i32_83 v113
  let c0_i32_87 : BitVec 32 := 0#32
  let v120 : BitVec 32 := Scalar.subi v114 c0_i32_87
  v120
def k0_mult14 (i : grid0.Coords) : BitVec 32 :=
  let c128_i32_83 : BitVec 32 := 128#32
  let arg2 : BitVec 32 := BitVec.ofNat 32 (i 2).val
  let c2048_i32 : BitVec 32 := 2048#32
  let v0 : BitVec 32 := Scalar.muli arg2 c2048_i32
  let c256_i32 : BitVec 32 := 256#32
  let v109 : BitVec 32 := Scalar.addi v0 c256_i32
  let c128_i32_81 : BitVec 32 := 128#32
  let v110 : BitVec 32 := Scalar.subi v109 c128_i32_81
  let c0_i32_82 : BitVec 32 := 0#32
  let v111 : BitVec 32 := Scalar.maxsi v110 c0_i32_82
  let v112 : BitVec 32 := v111
  let v113 : BitVec 32 := Scalar.subi v109 v112
  let v114 : BitVec 32 := Scalar.subi c128_i32_83 v113
  let c0_i32_90 : BitVec 32 := 0#32
  let v125 : BitVec 32 := Scalar.subi v114 c0_i32_90
  v125
def k0_mult15 (i : grid0.Coords) : BitVec 32 :=
  let c128_i32_83 : BitVec 32 := 128#32
  let arg2 : BitVec 32 := BitVec.ofNat 32 (i 2).val
  let c2048_i32 : BitVec 32 := 2048#32
  let v0 : BitVec 32 := Scalar.muli arg2 c2048_i32
  let c256_i32 : BitVec 32 := 256#32
  let v109 : BitVec 32 := Scalar.addi v0 c256_i32
  let c128_i32_81 : BitVec 32 := 128#32
  let v110 : BitVec 32 := Scalar.subi v109 c128_i32_81
  let c0_i32_82 : BitVec 32 := 0#32
  let v111 : BitVec 32 := Scalar.maxsi v110 c0_i32_82
  let v112 : BitVec 32 := v111
  let v113 : BitVec 32 := Scalar.subi v109 v112
  let v114 : BitVec 32 := Scalar.subi c128_i32_83 v113
  let c0_i32_93 : BitVec 32 := 0#32
  let v130 : BitVec 32 := Scalar.subi v114 c0_i32_93
  v130
def k0_mult16 (i : grid0.Coords) : BitVec 32 :=
  let arg2 : BitVec 32 := BitVec.ofNat 32 (i 2).val
  let c2048_i32 : BitVec 32 := 2048#32
  let v0 : BitVec 32 := Scalar.muli arg2 c2048_i32
  let c0_i32_102 : BitVec 32 := 0#32
  let v144 : BitVec 32 := Scalar.addi v0 c0_i32_102
  let c128_i32_103 : BitVec 32 := 128#32
  let v145 : BitVec 32 := Scalar.subi v144 c128_i32_103
  let c0_i32_104 : BitVec 32 := 0#32
  let v146 : BitVec 32 := Scalar.maxsi v145 c0_i32_104
  v146
def k0_off6 (i : grid0.Coords) (c0_i32_102 : BitVec 32) : Fin 4 → Nat :=
  let c0_105 : Index := 0#32
  let c0_106 : Index := 0#32
  let c0_107 : Index := 0#32
  let arg2 : BitVec 32 := BitVec.ofNat 32 (i 2).val
  let c2048_i32 : BitVec 32 := 2048#32
  let v0 : BitVec 32 := Scalar.muli arg2 c2048_i32
  let v144 : BitVec 32 := Scalar.addi v0 c0_i32_102
  let c128_i32_103 : BitVec 32 := 128#32
  let v145 : BitVec 32 := Scalar.subi v144 c128_i32_103
  let c0_i32_104 : BitVec 32 := 0#32
  let v146 : BitVec 32 := Scalar.maxsi v145 c0_i32_104
  let v147 : BitVec 32 := v146
  let v148 : Index := Scalar.indexCast v147
  ![0, 0, 0, v148.toNat]
def k0_mult17 (i : grid0.Coords) : BitVec 32 :=
  let arg2 : BitVec 32 := BitVec.ofNat 32 (i 2).val
  let c2048_i32 : BitVec 32 := 2048#32
  let v0 : BitVec 32 := Scalar.muli arg2 c2048_i32
  let c384_i32 : BitVec 32 := 384#32
  let v222 : BitVec 32 := Scalar.addi v0 c384_i32
  let c128_i32_161 : BitVec 32 := 128#32
  let v223 : BitVec 32 := Scalar.subi v222 c128_i32_161
  let c0_i32_162 : BitVec 32 := 0#32
  let v224 : BitVec 32 := Scalar.maxsi v223 c0_i32_162
  v224
def k0_mult18 (i : grid0.Coords) : BitVec 32 :=
  let c128_i32_163 : BitVec 32 := 128#32
  let arg2 : BitVec 32 := BitVec.ofNat 32 (i 2).val
  let c2048_i32 : BitVec 32 := 2048#32
  let v0 : BitVec 32 := Scalar.muli arg2 c2048_i32
  let c384_i32 : BitVec 32 := 384#32
  let v222 : BitVec 32 := Scalar.addi v0 c384_i32
  let c128_i32_161 : BitVec 32 := 128#32
  let v223 : BitVec 32 := Scalar.subi v222 c128_i32_161
  let c0_i32_162 : BitVec 32 := 0#32
  let v224 : BitVec 32 := Scalar.maxsi v223 c0_i32_162
  let v225 : BitVec 32 := v224
  let v226 : BitVec 32 := Scalar.subi v222 v225
  let v227 : BitVec 32 := Scalar.subi c128_i32_163 v226
  let c0_i32_164 : BitVec 32 := 0#32
  let v228 : BitVec 32 := Scalar.subi v227 c0_i32_164
  v228
def k0_mult19 (i : grid0.Coords) : BitVec 32 :=
  let c128_i32_163 : BitVec 32 := 128#32
  let arg2 : BitVec 32 := BitVec.ofNat 32 (i 2).val
  let c2048_i32 : BitVec 32 := 2048#32
  let v0 : BitVec 32 := Scalar.muli arg2 c2048_i32
  let c384_i32 : BitVec 32 := 384#32
  let v222 : BitVec 32 := Scalar.addi v0 c384_i32
  let c128_i32_161 : BitVec 32 := 128#32
  let v223 : BitVec 32 := Scalar.subi v222 c128_i32_161
  let c0_i32_162 : BitVec 32 := 0#32
  let v224 : BitVec 32 := Scalar.maxsi v223 c0_i32_162
  let v225 : BitVec 32 := v224
  let v226 : BitVec 32 := Scalar.subi v222 v225
  let v227 : BitVec 32 := Scalar.subi c128_i32_163 v226
  let c0_i32_167 : BitVec 32 := 0#32
  let v233 : BitVec 32 := Scalar.subi v227 c0_i32_167
  v233
def k0_mult20 (i : grid0.Coords) : BitVec 32 :=
  let c128_i32_163 : BitVec 32 := 128#32
  let arg2 : BitVec 32 := BitVec.ofNat 32 (i 2).val
  let c2048_i32 : BitVec 32 := 2048#32
  let v0 : BitVec 32 := Scalar.muli arg2 c2048_i32
  let c384_i32 : BitVec 32 := 384#32
  let v222 : BitVec 32 := Scalar.addi v0 c384_i32
  let c128_i32_161 : BitVec 32 := 128#32
  let v223 : BitVec 32 := Scalar.subi v222 c128_i32_161
  let c0_i32_162 : BitVec 32 := 0#32
  let v224 : BitVec 32 := Scalar.maxsi v223 c0_i32_162
  let v225 : BitVec 32 := v224
  let v226 : BitVec 32 := Scalar.subi v222 v225
  let v227 : BitVec 32 := Scalar.subi c128_i32_163 v226
  let c0_i32_170 : BitVec 32 := 0#32
  let v238 : BitVec 32 := Scalar.subi v227 c0_i32_170
  v238
def k0_mult21 (i : grid0.Coords) : BitVec 32 :=
  let c128_i32_163 : BitVec 32 := 128#32
  let arg2 : BitVec 32 := BitVec.ofNat 32 (i 2).val
  let c2048_i32 : BitVec 32 := 2048#32
  let v0 : BitVec 32 := Scalar.muli arg2 c2048_i32
  let c384_i32 : BitVec 32 := 384#32
  let v222 : BitVec 32 := Scalar.addi v0 c384_i32
  let c128_i32_161 : BitVec 32 := 128#32
  let v223 : BitVec 32 := Scalar.subi v222 c128_i32_161
  let c0_i32_162 : BitVec 32 := 0#32
  let v224 : BitVec 32 := Scalar.maxsi v223 c0_i32_162
  let v225 : BitVec 32 := v224
  let v226 : BitVec 32 := Scalar.subi v222 v225
  let v227 : BitVec 32 := Scalar.subi c128_i32_163 v226
  let c0_i32_173 : BitVec 32 := 0#32
  let v243 : BitVec 32 := Scalar.subi v227 c0_i32_173
  v243
def k0_mult22 (i : grid0.Coords) : BitVec 32 :=
  let arg2 : BitVec 32 := BitVec.ofNat 32 (i 2).val
  let c2048_i32 : BitVec 32 := 2048#32
  let v0 : BitVec 32 := Scalar.muli arg2 c2048_i32
  let c128_i32_183 : BitVec 32 := 128#32
  let v257 : BitVec 32 := Scalar.addi v0 c128_i32_183
  let c128_i32_184 : BitVec 32 := 128#32
  let v258 : BitVec 32 := Scalar.subi v257 c128_i32_184
  let c0_i32_185 : BitVec 32 := 0#32
  let v259 : BitVec 32 := Scalar.maxsi v258 c0_i32_185
  v259
def k0_mult23 (i : grid0.Coords) : BitVec 32 :=
  let arg2 : BitVec 32 := BitVec.ofNat 32 (i 2).val
  let c2048_i32 : BitVec 32 := 2048#32
  let v0 : BitVec 32 := Scalar.muli arg2 c2048_i32
  let c512_i32 : BitVec 32 := 512#32
  let v335 : BitVec 32 := Scalar.addi v0 c512_i32
  let c128_i32_242 : BitVec 32 := 128#32
  let v336 : BitVec 32 := Scalar.subi v335 c128_i32_242
  let c0_i32_243 : BitVec 32 := 0#32
  let v337 : BitVec 32 := Scalar.maxsi v336 c0_i32_243
  v337
def k0_mult24 (i : grid0.Coords) : BitVec 32 :=
  let c128_i32_244 : BitVec 32 := 128#32
  let arg2 : BitVec 32 := BitVec.ofNat 32 (i 2).val
  let c2048_i32 : BitVec 32 := 2048#32
  let v0 : BitVec 32 := Scalar.muli arg2 c2048_i32
  let c512_i32 : BitVec 32 := 512#32
  let v335 : BitVec 32 := Scalar.addi v0 c512_i32
  let c128_i32_242 : BitVec 32 := 128#32
  let v336 : BitVec 32 := Scalar.subi v335 c128_i32_242
  let c0_i32_243 : BitVec 32 := 0#32
  let v337 : BitVec 32 := Scalar.maxsi v336 c0_i32_243
  let v338 : BitVec 32 := v337
  let v339 : BitVec 32 := Scalar.subi v335 v338
  let v340 : BitVec 32 := Scalar.subi c128_i32_244 v339
  let c0_i32_245 : BitVec 32 := 0#32
  let v341 : BitVec 32 := Scalar.subi v340 c0_i32_245
  v341
def k0_mult25 (i : grid0.Coords) : BitVec 32 :=
  let c128_i32_244 : BitVec 32 := 128#32
  let arg2 : BitVec 32 := BitVec.ofNat 32 (i 2).val
  let c2048_i32 : BitVec 32 := 2048#32
  let v0 : BitVec 32 := Scalar.muli arg2 c2048_i32
  let c512_i32 : BitVec 32 := 512#32
  let v335 : BitVec 32 := Scalar.addi v0 c512_i32
  let c128_i32_242 : BitVec 32 := 128#32
  let v336 : BitVec 32 := Scalar.subi v335 c128_i32_242
  let c0_i32_243 : BitVec 32 := 0#32
  let v337 : BitVec 32 := Scalar.maxsi v336 c0_i32_243
  let v338 : BitVec 32 := v337
  let v339 : BitVec 32 := Scalar.subi v335 v338
  let v340 : BitVec 32 := Scalar.subi c128_i32_244 v339
  let c0_i32_248 : BitVec 32 := 0#32
  let v346 : BitVec 32 := Scalar.subi v340 c0_i32_248
  v346
def k0_mult26 (i : grid0.Coords) : BitVec 32 :=
  let c128_i32_244 : BitVec 32 := 128#32
  let arg2 : BitVec 32 := BitVec.ofNat 32 (i 2).val
  let c2048_i32 : BitVec 32 := 2048#32
  let v0 : BitVec 32 := Scalar.muli arg2 c2048_i32
  let c512_i32 : BitVec 32 := 512#32
  let v335 : BitVec 32 := Scalar.addi v0 c512_i32
  let c128_i32_242 : BitVec 32 := 128#32
  let v336 : BitVec 32 := Scalar.subi v335 c128_i32_242
  let c0_i32_243 : BitVec 32 := 0#32
  let v337 : BitVec 32 := Scalar.maxsi v336 c0_i32_243
  let v338 : BitVec 32 := v337
  let v339 : BitVec 32 := Scalar.subi v335 v338
  let v340 : BitVec 32 := Scalar.subi c128_i32_244 v339
  let c0_i32_251 : BitVec 32 := 0#32
  let v351 : BitVec 32 := Scalar.subi v340 c0_i32_251
  v351
def k0_mult27 (i : grid0.Coords) : BitVec 32 :=
  let c128_i32_244 : BitVec 32 := 128#32
  let arg2 : BitVec 32 := BitVec.ofNat 32 (i 2).val
  let c2048_i32 : BitVec 32 := 2048#32
  let v0 : BitVec 32 := Scalar.muli arg2 c2048_i32
  let c512_i32 : BitVec 32 := 512#32
  let v335 : BitVec 32 := Scalar.addi v0 c512_i32
  let c128_i32_242 : BitVec 32 := 128#32
  let v336 : BitVec 32 := Scalar.subi v335 c128_i32_242
  let c0_i32_243 : BitVec 32 := 0#32
  let v337 : BitVec 32 := Scalar.maxsi v336 c0_i32_243
  let v338 : BitVec 32 := v337
  let v339 : BitVec 32 := Scalar.subi v335 v338
  let v340 : BitVec 32 := Scalar.subi c128_i32_244 v339
  let c0_i32_254 : BitVec 32 := 0#32
  let v356 : BitVec 32 := Scalar.subi v340 c0_i32_254
  v356
def k0_mult28 (i : grid0.Coords) : BitVec 32 :=
  let arg2 : BitVec 32 := BitVec.ofNat 32 (i 2).val
  let c2048_i32 : BitVec 32 := 2048#32
  let v0 : BitVec 32 := Scalar.muli arg2 c2048_i32
  let c256_i32_263 : BitVec 32 := 256#32
  let v370 : BitVec 32 := Scalar.addi v0 c256_i32_263
  let c128_i32_264 : BitVec 32 := 128#32
  let v371 : BitVec 32 := Scalar.subi v370 c128_i32_264
  let c0_i32_265 : BitVec 32 := 0#32
  let v372 : BitVec 32 := Scalar.maxsi v371 c0_i32_265
  v372
def k0_mult29 (i : grid0.Coords) : BitVec 32 :=
  let arg2 : BitVec 32 := BitVec.ofNat 32 (i 2).val
  let c2048_i32 : BitVec 32 := 2048#32
  let v0 : BitVec 32 := Scalar.muli arg2 c2048_i32
  let c640_i32 : BitVec 32 := 640#32
  let v448 : BitVec 32 := Scalar.addi v0 c640_i32
  let c128_i32_322 : BitVec 32 := 128#32
  let v449 : BitVec 32 := Scalar.subi v448 c128_i32_322
  let c0_i32_323 : BitVec 32 := 0#32
  let v450 : BitVec 32 := Scalar.maxsi v449 c0_i32_323
  v450
def k0_mult30 (i : grid0.Coords) : BitVec 32 :=
  let c128_i32_324 : BitVec 32 := 128#32
  let arg2 : BitVec 32 := BitVec.ofNat 32 (i 2).val
  let c2048_i32 : BitVec 32 := 2048#32
  let v0 : BitVec 32 := Scalar.muli arg2 c2048_i32
  let c640_i32 : BitVec 32 := 640#32
  let v448 : BitVec 32 := Scalar.addi v0 c640_i32
  let c128_i32_322 : BitVec 32 := 128#32
  let v449 : BitVec 32 := Scalar.subi v448 c128_i32_322
  let c0_i32_323 : BitVec 32 := 0#32
  let v450 : BitVec 32 := Scalar.maxsi v449 c0_i32_323
  let v451 : BitVec 32 := v450
  let v452 : BitVec 32 := Scalar.subi v448 v451
  let v453 : BitVec 32 := Scalar.subi c128_i32_324 v452
  let c0_i32_325 : BitVec 32 := 0#32
  let v454 : BitVec 32 := Scalar.subi v453 c0_i32_325
  v454
def k0_mult31 (i : grid0.Coords) : BitVec 32 :=
  let c128_i32_324 : BitVec 32 := 128#32
  let arg2 : BitVec 32 := BitVec.ofNat 32 (i 2).val
  let c2048_i32 : BitVec 32 := 2048#32
  let v0 : BitVec 32 := Scalar.muli arg2 c2048_i32
  let c640_i32 : BitVec 32 := 640#32
  let v448 : BitVec 32 := Scalar.addi v0 c640_i32
  let c128_i32_322 : BitVec 32 := 128#32
  let v449 : BitVec 32 := Scalar.subi v448 c128_i32_322
  let c0_i32_323 : BitVec 32 := 0#32
  let v450 : BitVec 32 := Scalar.maxsi v449 c0_i32_323
  let v451 : BitVec 32 := v450
  let v452 : BitVec 32 := Scalar.subi v448 v451
  let v453 : BitVec 32 := Scalar.subi c128_i32_324 v452
  let c0_i32_328 : BitVec 32 := 0#32
  let v459 : BitVec 32 := Scalar.subi v453 c0_i32_328
  v459
def k0_mult32 (i : grid0.Coords) : BitVec 32 :=
  let c128_i32_324 : BitVec 32 := 128#32
  let arg2 : BitVec 32 := BitVec.ofNat 32 (i 2).val
  let c2048_i32 : BitVec 32 := 2048#32
  let v0 : BitVec 32 := Scalar.muli arg2 c2048_i32
  let c640_i32 : BitVec 32 := 640#32
  let v448 : BitVec 32 := Scalar.addi v0 c640_i32
  let c128_i32_322 : BitVec 32 := 128#32
  let v449 : BitVec 32 := Scalar.subi v448 c128_i32_322
  let c0_i32_323 : BitVec 32 := 0#32
  let v450 : BitVec 32 := Scalar.maxsi v449 c0_i32_323
  let v451 : BitVec 32 := v450
  let v452 : BitVec 32 := Scalar.subi v448 v451
  let v453 : BitVec 32 := Scalar.subi c128_i32_324 v452
  let c0_i32_331 : BitVec 32 := 0#32
  let v464 : BitVec 32 := Scalar.subi v453 c0_i32_331
  v464
def k0_mult33 (i : grid0.Coords) : BitVec 32 :=
  let c128_i32_324 : BitVec 32 := 128#32
  let arg2 : BitVec 32 := BitVec.ofNat 32 (i 2).val
  let c2048_i32 : BitVec 32 := 2048#32
  let v0 : BitVec 32 := Scalar.muli arg2 c2048_i32
  let c640_i32 : BitVec 32 := 640#32
  let v448 : BitVec 32 := Scalar.addi v0 c640_i32
  let c128_i32_322 : BitVec 32 := 128#32
  let v449 : BitVec 32 := Scalar.subi v448 c128_i32_322
  let c0_i32_323 : BitVec 32 := 0#32
  let v450 : BitVec 32 := Scalar.maxsi v449 c0_i32_323
  let v451 : BitVec 32 := v450
  let v452 : BitVec 32 := Scalar.subi v448 v451
  let v453 : BitVec 32 := Scalar.subi c128_i32_324 v452
  let c0_i32_334 : BitVec 32 := 0#32
  let v469 : BitVec 32 := Scalar.subi v453 c0_i32_334
  v469
def k0_mult34 (i : grid0.Coords) : BitVec 32 :=
  let arg2 : BitVec 32 := BitVec.ofNat 32 (i 2).val
  let c2048_i32 : BitVec 32 := 2048#32
  let v0 : BitVec 32 := Scalar.muli arg2 c2048_i32
  let c384_i32_343 : BitVec 32 := 384#32
  let v483 : BitVec 32 := Scalar.addi v0 c384_i32_343
  let c128_i32_344 : BitVec 32 := 128#32
  let v484 : BitVec 32 := Scalar.subi v483 c128_i32_344
  let c0_i32_345 : BitVec 32 := 0#32
  let v485 : BitVec 32 := Scalar.maxsi v484 c0_i32_345
  v485
def k0_mult35 (i : grid0.Coords) : BitVec 32 :=
  let arg2 : BitVec 32 := BitVec.ofNat 32 (i 2).val
  let c2048_i32 : BitVec 32 := 2048#32
  let v0 : BitVec 32 := Scalar.muli arg2 c2048_i32
  let c768_i32 : BitVec 32 := 768#32
  let v561 : BitVec 32 := Scalar.addi v0 c768_i32
  let c128_i32_402 : BitVec 32 := 128#32
  let v562 : BitVec 32 := Scalar.subi v561 c128_i32_402
  let c0_i32_403 : BitVec 32 := 0#32
  let v563 : BitVec 32 := Scalar.maxsi v562 c0_i32_403
  v563
def k0_mult36 (i : grid0.Coords) : BitVec 32 :=
  let c128_i32_404 : BitVec 32 := 128#32
  let arg2 : BitVec 32 := BitVec.ofNat 32 (i 2).val
  let c2048_i32 : BitVec 32 := 2048#32
  let v0 : BitVec 32 := Scalar.muli arg2 c2048_i32
  let c768_i32 : BitVec 32 := 768#32
  let v561 : BitVec 32 := Scalar.addi v0 c768_i32
  let c128_i32_402 : BitVec 32 := 128#32
  let v562 : BitVec 32 := Scalar.subi v561 c128_i32_402
  let c0_i32_403 : BitVec 32 := 0#32
  let v563 : BitVec 32 := Scalar.maxsi v562 c0_i32_403
  let v564 : BitVec 32 := v563
  let v565 : BitVec 32 := Scalar.subi v561 v564
  let v566 : BitVec 32 := Scalar.subi c128_i32_404 v565
  let c0_i32_405 : BitVec 32 := 0#32
  let v567 : BitVec 32 := Scalar.subi v566 c0_i32_405
  v567
def k0_mult37 (i : grid0.Coords) : BitVec 32 :=
  let c128_i32_404 : BitVec 32 := 128#32
  let arg2 : BitVec 32 := BitVec.ofNat 32 (i 2).val
  let c2048_i32 : BitVec 32 := 2048#32
  let v0 : BitVec 32 := Scalar.muli arg2 c2048_i32
  let c768_i32 : BitVec 32 := 768#32
  let v561 : BitVec 32 := Scalar.addi v0 c768_i32
  let c128_i32_402 : BitVec 32 := 128#32
  let v562 : BitVec 32 := Scalar.subi v561 c128_i32_402
  let c0_i32_403 : BitVec 32 := 0#32
  let v563 : BitVec 32 := Scalar.maxsi v562 c0_i32_403
  let v564 : BitVec 32 := v563
  let v565 : BitVec 32 := Scalar.subi v561 v564
  let v566 : BitVec 32 := Scalar.subi c128_i32_404 v565
  let c0_i32_408 : BitVec 32 := 0#32
  let v572 : BitVec 32 := Scalar.subi v566 c0_i32_408
  v572
def k0_mult38 (i : grid0.Coords) : BitVec 32 :=
  let c128_i32_404 : BitVec 32 := 128#32
  let arg2 : BitVec 32 := BitVec.ofNat 32 (i 2).val
  let c2048_i32 : BitVec 32 := 2048#32
  let v0 : BitVec 32 := Scalar.muli arg2 c2048_i32
  let c768_i32 : BitVec 32 := 768#32
  let v561 : BitVec 32 := Scalar.addi v0 c768_i32
  let c128_i32_402 : BitVec 32 := 128#32
  let v562 : BitVec 32 := Scalar.subi v561 c128_i32_402
  let c0_i32_403 : BitVec 32 := 0#32
  let v563 : BitVec 32 := Scalar.maxsi v562 c0_i32_403
  let v564 : BitVec 32 := v563
  let v565 : BitVec 32 := Scalar.subi v561 v564
  let v566 : BitVec 32 := Scalar.subi c128_i32_404 v565
  let c0_i32_411 : BitVec 32 := 0#32
  let v577 : BitVec 32 := Scalar.subi v566 c0_i32_411
  v577
def k0_mult39 (i : grid0.Coords) : BitVec 32 :=
  let c128_i32_404 : BitVec 32 := 128#32
  let arg2 : BitVec 32 := BitVec.ofNat 32 (i 2).val
  let c2048_i32 : BitVec 32 := 2048#32
  let v0 : BitVec 32 := Scalar.muli arg2 c2048_i32
  let c768_i32 : BitVec 32 := 768#32
  let v561 : BitVec 32 := Scalar.addi v0 c768_i32
  let c128_i32_402 : BitVec 32 := 128#32
  let v562 : BitVec 32 := Scalar.subi v561 c128_i32_402
  let c0_i32_403 : BitVec 32 := 0#32
  let v563 : BitVec 32 := Scalar.maxsi v562 c0_i32_403
  let v564 : BitVec 32 := v563
  let v565 : BitVec 32 := Scalar.subi v561 v564
  let v566 : BitVec 32 := Scalar.subi c128_i32_404 v565
  let c0_i32_414 : BitVec 32 := 0#32
  let v582 : BitVec 32 := Scalar.subi v566 c0_i32_414
  v582
def k0_mult40 (i : grid0.Coords) : BitVec 32 :=
  let arg2 : BitVec 32 := BitVec.ofNat 32 (i 2).val
  let c2048_i32 : BitVec 32 := 2048#32
  let v0 : BitVec 32 := Scalar.muli arg2 c2048_i32
  let c512_i32_423 : BitVec 32 := 512#32
  let v596 : BitVec 32 := Scalar.addi v0 c512_i32_423
  let c128_i32_424 : BitVec 32 := 128#32
  let v597 : BitVec 32 := Scalar.subi v596 c128_i32_424
  let c0_i32_425 : BitVec 32 := 0#32
  let v598 : BitVec 32 := Scalar.maxsi v597 c0_i32_425
  v598
def k0_mult41 (i : grid0.Coords) : BitVec 32 :=
  let arg2 : BitVec 32 := BitVec.ofNat 32 (i 2).val
  let c2048_i32 : BitVec 32 := 2048#32
  let v0 : BitVec 32 := Scalar.muli arg2 c2048_i32
  let c896_i32 : BitVec 32 := 896#32
  let v674 : BitVec 32 := Scalar.addi v0 c896_i32
  let c128_i32_482 : BitVec 32 := 128#32
  let v675 : BitVec 32 := Scalar.subi v674 c128_i32_482
  let c0_i32_483 : BitVec 32 := 0#32
  let v676 : BitVec 32 := Scalar.maxsi v675 c0_i32_483
  v676
def k0_mult42 (i : grid0.Coords) : BitVec 32 :=
  let c128_i32_484 : BitVec 32 := 128#32
  let arg2 : BitVec 32 := BitVec.ofNat 32 (i 2).val
  let c2048_i32 : BitVec 32 := 2048#32
  let v0 : BitVec 32 := Scalar.muli arg2 c2048_i32
  let c896_i32 : BitVec 32 := 896#32
  let v674 : BitVec 32 := Scalar.addi v0 c896_i32
  let c128_i32_482 : BitVec 32 := 128#32
  let v675 : BitVec 32 := Scalar.subi v674 c128_i32_482
  let c0_i32_483 : BitVec 32 := 0#32
  let v676 : BitVec 32 := Scalar.maxsi v675 c0_i32_483
  let v677 : BitVec 32 := v676
  let v678 : BitVec 32 := Scalar.subi v674 v677
  let v679 : BitVec 32 := Scalar.subi c128_i32_484 v678
  let c0_i32_485 : BitVec 32 := 0#32
  let v680 : BitVec 32 := Scalar.subi v679 c0_i32_485
  v680
def k0_mult43 (i : grid0.Coords) : BitVec 32 :=
  let c128_i32_484 : BitVec 32 := 128#32
  let arg2 : BitVec 32 := BitVec.ofNat 32 (i 2).val
  let c2048_i32 : BitVec 32 := 2048#32
  let v0 : BitVec 32 := Scalar.muli arg2 c2048_i32
  let c896_i32 : BitVec 32 := 896#32
  let v674 : BitVec 32 := Scalar.addi v0 c896_i32
  let c128_i32_482 : BitVec 32 := 128#32
  let v675 : BitVec 32 := Scalar.subi v674 c128_i32_482
  let c0_i32_483 : BitVec 32 := 0#32
  let v676 : BitVec 32 := Scalar.maxsi v675 c0_i32_483
  let v677 : BitVec 32 := v676
  let v678 : BitVec 32 := Scalar.subi v674 v677
  let v679 : BitVec 32 := Scalar.subi c128_i32_484 v678
  let c0_i32_488 : BitVec 32 := 0#32
  let v685 : BitVec 32 := Scalar.subi v679 c0_i32_488
  v685
def k0_mult44 (i : grid0.Coords) : BitVec 32 :=
  let c128_i32_484 : BitVec 32 := 128#32
  let arg2 : BitVec 32 := BitVec.ofNat 32 (i 2).val
  let c2048_i32 : BitVec 32 := 2048#32
  let v0 : BitVec 32 := Scalar.muli arg2 c2048_i32
  let c896_i32 : BitVec 32 := 896#32
  let v674 : BitVec 32 := Scalar.addi v0 c896_i32
  let c128_i32_482 : BitVec 32 := 128#32
  let v675 : BitVec 32 := Scalar.subi v674 c128_i32_482
  let c0_i32_483 : BitVec 32 := 0#32
  let v676 : BitVec 32 := Scalar.maxsi v675 c0_i32_483
  let v677 : BitVec 32 := v676
  let v678 : BitVec 32 := Scalar.subi v674 v677
  let v679 : BitVec 32 := Scalar.subi c128_i32_484 v678
  let c0_i32_491 : BitVec 32 := 0#32
  let v690 : BitVec 32 := Scalar.subi v679 c0_i32_491
  v690
def k0_mult45 (i : grid0.Coords) : BitVec 32 :=
  let c128_i32_484 : BitVec 32 := 128#32
  let arg2 : BitVec 32 := BitVec.ofNat 32 (i 2).val
  let c2048_i32 : BitVec 32 := 2048#32
  let v0 : BitVec 32 := Scalar.muli arg2 c2048_i32
  let c896_i32 : BitVec 32 := 896#32
  let v674 : BitVec 32 := Scalar.addi v0 c896_i32
  let c128_i32_482 : BitVec 32 := 128#32
  let v675 : BitVec 32 := Scalar.subi v674 c128_i32_482
  let c0_i32_483 : BitVec 32 := 0#32
  let v676 : BitVec 32 := Scalar.maxsi v675 c0_i32_483
  let v677 : BitVec 32 := v676
  let v678 : BitVec 32 := Scalar.subi v674 v677
  let v679 : BitVec 32 := Scalar.subi c128_i32_484 v678
  let c0_i32_494 : BitVec 32 := 0#32
  let v695 : BitVec 32 := Scalar.subi v679 c0_i32_494
  v695
def k0_mult46 (i : grid0.Coords) : BitVec 32 :=
  let arg2 : BitVec 32 := BitVec.ofNat 32 (i 2).val
  let c2048_i32 : BitVec 32 := 2048#32
  let v0 : BitVec 32 := Scalar.muli arg2 c2048_i32
  let c640_i32_503 : BitVec 32 := 640#32
  let v709 : BitVec 32 := Scalar.addi v0 c640_i32_503
  let c128_i32_504 : BitVec 32 := 128#32
  let v710 : BitVec 32 := Scalar.subi v709 c128_i32_504
  let c0_i32_505 : BitVec 32 := 0#32
  let v711 : BitVec 32 := Scalar.maxsi v710 c0_i32_505
  v711
def k0_mult47 (i : grid0.Coords) : BitVec 32 :=
  let arg2 : BitVec 32 := BitVec.ofNat 32 (i 2).val
  let c2048_i32 : BitVec 32 := 2048#32
  let v0 : BitVec 32 := Scalar.muli arg2 c2048_i32
  let c1024_i32 : BitVec 32 := 1024#32
  let v787 : BitVec 32 := Scalar.addi v0 c1024_i32
  let c128_i32_562 : BitVec 32 := 128#32
  let v788 : BitVec 32 := Scalar.subi v787 c128_i32_562
  let c0_i32_563 : BitVec 32 := 0#32
  let v789 : BitVec 32 := Scalar.maxsi v788 c0_i32_563
  v789
def k0_mult48 (i : grid0.Coords) : BitVec 32 :=
  let c128_i32_564 : BitVec 32 := 128#32
  let arg2 : BitVec 32 := BitVec.ofNat 32 (i 2).val
  let c2048_i32 : BitVec 32 := 2048#32
  let v0 : BitVec 32 := Scalar.muli arg2 c2048_i32
  let c1024_i32 : BitVec 32 := 1024#32
  let v787 : BitVec 32 := Scalar.addi v0 c1024_i32
  let c128_i32_562 : BitVec 32 := 128#32
  let v788 : BitVec 32 := Scalar.subi v787 c128_i32_562
  let c0_i32_563 : BitVec 32 := 0#32
  let v789 : BitVec 32 := Scalar.maxsi v788 c0_i32_563
  let v790 : BitVec 32 := v789
  let v791 : BitVec 32 := Scalar.subi v787 v790
  let v792 : BitVec 32 := Scalar.subi c128_i32_564 v791
  let c0_i32_565 : BitVec 32 := 0#32
  let v793 : BitVec 32 := Scalar.subi v792 c0_i32_565
  v793
def k0_mult49 (i : grid0.Coords) : BitVec 32 :=
  let c128_i32_564 : BitVec 32 := 128#32
  let arg2 : BitVec 32 := BitVec.ofNat 32 (i 2).val
  let c2048_i32 : BitVec 32 := 2048#32
  let v0 : BitVec 32 := Scalar.muli arg2 c2048_i32
  let c1024_i32 : BitVec 32 := 1024#32
  let v787 : BitVec 32 := Scalar.addi v0 c1024_i32
  let c128_i32_562 : BitVec 32 := 128#32
  let v788 : BitVec 32 := Scalar.subi v787 c128_i32_562
  let c0_i32_563 : BitVec 32 := 0#32
  let v789 : BitVec 32 := Scalar.maxsi v788 c0_i32_563
  let v790 : BitVec 32 := v789
  let v791 : BitVec 32 := Scalar.subi v787 v790
  let v792 : BitVec 32 := Scalar.subi c128_i32_564 v791
  let c0_i32_568 : BitVec 32 := 0#32
  let v798 : BitVec 32 := Scalar.subi v792 c0_i32_568
  v798
def k0_mult50 (i : grid0.Coords) : BitVec 32 :=
  let c128_i32_564 : BitVec 32 := 128#32
  let arg2 : BitVec 32 := BitVec.ofNat 32 (i 2).val
  let c2048_i32 : BitVec 32 := 2048#32
  let v0 : BitVec 32 := Scalar.muli arg2 c2048_i32
  let c1024_i32 : BitVec 32 := 1024#32
  let v787 : BitVec 32 := Scalar.addi v0 c1024_i32
  let c128_i32_562 : BitVec 32 := 128#32
  let v788 : BitVec 32 := Scalar.subi v787 c128_i32_562
  let c0_i32_563 : BitVec 32 := 0#32
  let v789 : BitVec 32 := Scalar.maxsi v788 c0_i32_563
  let v790 : BitVec 32 := v789
  let v791 : BitVec 32 := Scalar.subi v787 v790
  let v792 : BitVec 32 := Scalar.subi c128_i32_564 v791
  let c0_i32_571 : BitVec 32 := 0#32
  let v803 : BitVec 32 := Scalar.subi v792 c0_i32_571
  v803
def k0_mult51 (i : grid0.Coords) : BitVec 32 :=
  let c128_i32_564 : BitVec 32 := 128#32
  let arg2 : BitVec 32 := BitVec.ofNat 32 (i 2).val
  let c2048_i32 : BitVec 32 := 2048#32
  let v0 : BitVec 32 := Scalar.muli arg2 c2048_i32
  let c1024_i32 : BitVec 32 := 1024#32
  let v787 : BitVec 32 := Scalar.addi v0 c1024_i32
  let c128_i32_562 : BitVec 32 := 128#32
  let v788 : BitVec 32 := Scalar.subi v787 c128_i32_562
  let c0_i32_563 : BitVec 32 := 0#32
  let v789 : BitVec 32 := Scalar.maxsi v788 c0_i32_563
  let v790 : BitVec 32 := v789
  let v791 : BitVec 32 := Scalar.subi v787 v790
  let v792 : BitVec 32 := Scalar.subi c128_i32_564 v791
  let c0_i32_574 : BitVec 32 := 0#32
  let v808 : BitVec 32 := Scalar.subi v792 c0_i32_574
  v808
def k0_mult52 (i : grid0.Coords) : BitVec 32 :=
  let arg2 : BitVec 32 := BitVec.ofNat 32 (i 2).val
  let c2048_i32 : BitVec 32 := 2048#32
  let v0 : BitVec 32 := Scalar.muli arg2 c2048_i32
  let c768_i32_583 : BitVec 32 := 768#32
  let v822 : BitVec 32 := Scalar.addi v0 c768_i32_583
  let c128_i32_584 : BitVec 32 := 128#32
  let v823 : BitVec 32 := Scalar.subi v822 c128_i32_584
  let c0_i32_585 : BitVec 32 := 0#32
  let v824 : BitVec 32 := Scalar.maxsi v823 c0_i32_585
  v824
def k0_mult53 (i : grid0.Coords) : BitVec 32 :=
  let arg2 : BitVec 32 := BitVec.ofNat 32 (i 2).val
  let c2048_i32 : BitVec 32 := 2048#32
  let v0 : BitVec 32 := Scalar.muli arg2 c2048_i32
  let c1152_i32 : BitVec 32 := 1152#32
  let v900 : BitVec 32 := Scalar.addi v0 c1152_i32
  let c128_i32_642 : BitVec 32 := 128#32
  let v901 : BitVec 32 := Scalar.subi v900 c128_i32_642
  let c0_i32_643 : BitVec 32 := 0#32
  let v902 : BitVec 32 := Scalar.maxsi v901 c0_i32_643
  v902
def k0_mult54 (i : grid0.Coords) : BitVec 32 :=
  let c128_i32_644 : BitVec 32 := 128#32
  let arg2 : BitVec 32 := BitVec.ofNat 32 (i 2).val
  let c2048_i32 : BitVec 32 := 2048#32
  let v0 : BitVec 32 := Scalar.muli arg2 c2048_i32
  let c1152_i32 : BitVec 32 := 1152#32
  let v900 : BitVec 32 := Scalar.addi v0 c1152_i32
  let c128_i32_642 : BitVec 32 := 128#32
  let v901 : BitVec 32 := Scalar.subi v900 c128_i32_642
  let c0_i32_643 : BitVec 32 := 0#32
  let v902 : BitVec 32 := Scalar.maxsi v901 c0_i32_643
  let v903 : BitVec 32 := v902
  let v904 : BitVec 32 := Scalar.subi v900 v903
  let v905 : BitVec 32 := Scalar.subi c128_i32_644 v904
  let c0_i32_645 : BitVec 32 := 0#32
  let v906 : BitVec 32 := Scalar.subi v905 c0_i32_645
  v906
def k0_mult55 (i : grid0.Coords) : BitVec 32 :=
  let c128_i32_644 : BitVec 32 := 128#32
  let arg2 : BitVec 32 := BitVec.ofNat 32 (i 2).val
  let c2048_i32 : BitVec 32 := 2048#32
  let v0 : BitVec 32 := Scalar.muli arg2 c2048_i32
  let c1152_i32 : BitVec 32 := 1152#32
  let v900 : BitVec 32 := Scalar.addi v0 c1152_i32
  let c128_i32_642 : BitVec 32 := 128#32
  let v901 : BitVec 32 := Scalar.subi v900 c128_i32_642
  let c0_i32_643 : BitVec 32 := 0#32
  let v902 : BitVec 32 := Scalar.maxsi v901 c0_i32_643
  let v903 : BitVec 32 := v902
  let v904 : BitVec 32 := Scalar.subi v900 v903
  let v905 : BitVec 32 := Scalar.subi c128_i32_644 v904
  let c0_i32_648 : BitVec 32 := 0#32
  let v911 : BitVec 32 := Scalar.subi v905 c0_i32_648
  v911
def k0_mult56 (i : grid0.Coords) : BitVec 32 :=
  let c128_i32_644 : BitVec 32 := 128#32
  let arg2 : BitVec 32 := BitVec.ofNat 32 (i 2).val
  let c2048_i32 : BitVec 32 := 2048#32
  let v0 : BitVec 32 := Scalar.muli arg2 c2048_i32
  let c1152_i32 : BitVec 32 := 1152#32
  let v900 : BitVec 32 := Scalar.addi v0 c1152_i32
  let c128_i32_642 : BitVec 32 := 128#32
  let v901 : BitVec 32 := Scalar.subi v900 c128_i32_642
  let c0_i32_643 : BitVec 32 := 0#32
  let v902 : BitVec 32 := Scalar.maxsi v901 c0_i32_643
  let v903 : BitVec 32 := v902
  let v904 : BitVec 32 := Scalar.subi v900 v903
  let v905 : BitVec 32 := Scalar.subi c128_i32_644 v904
  let c0_i32_651 : BitVec 32 := 0#32
  let v916 : BitVec 32 := Scalar.subi v905 c0_i32_651
  v916
def k0_mult57 (i : grid0.Coords) : BitVec 32 :=
  let c128_i32_644 : BitVec 32 := 128#32
  let arg2 : BitVec 32 := BitVec.ofNat 32 (i 2).val
  let c2048_i32 : BitVec 32 := 2048#32
  let v0 : BitVec 32 := Scalar.muli arg2 c2048_i32
  let c1152_i32 : BitVec 32 := 1152#32
  let v900 : BitVec 32 := Scalar.addi v0 c1152_i32
  let c128_i32_642 : BitVec 32 := 128#32
  let v901 : BitVec 32 := Scalar.subi v900 c128_i32_642
  let c0_i32_643 : BitVec 32 := 0#32
  let v902 : BitVec 32 := Scalar.maxsi v901 c0_i32_643
  let v903 : BitVec 32 := v902
  let v904 : BitVec 32 := Scalar.subi v900 v903
  let v905 : BitVec 32 := Scalar.subi c128_i32_644 v904
  let c0_i32_654 : BitVec 32 := 0#32
  let v921 : BitVec 32 := Scalar.subi v905 c0_i32_654
  v921
def k0_mult58 (i : grid0.Coords) : BitVec 32 :=
  let arg2 : BitVec 32 := BitVec.ofNat 32 (i 2).val
  let c2048_i32 : BitVec 32 := 2048#32
  let v0 : BitVec 32 := Scalar.muli arg2 c2048_i32
  let c896_i32_663 : BitVec 32 := 896#32
  let v935 : BitVec 32 := Scalar.addi v0 c896_i32_663
  let c128_i32_664 : BitVec 32 := 128#32
  let v936 : BitVec 32 := Scalar.subi v935 c128_i32_664
  let c0_i32_665 : BitVec 32 := 0#32
  let v937 : BitVec 32 := Scalar.maxsi v936 c0_i32_665
  v937
def k0_mult59 (i : grid0.Coords) : BitVec 32 :=
  let arg2 : BitVec 32 := BitVec.ofNat 32 (i 2).val
  let c2048_i32 : BitVec 32 := 2048#32
  let v0 : BitVec 32 := Scalar.muli arg2 c2048_i32
  let c1280_i32 : BitVec 32 := 1280#32
  let v1013 : BitVec 32 := Scalar.addi v0 c1280_i32
  let c128_i32_722 : BitVec 32 := 128#32
  let v1014 : BitVec 32 := Scalar.subi v1013 c128_i32_722
  let c0_i32_723 : BitVec 32 := 0#32
  let v1015 : BitVec 32 := Scalar.maxsi v1014 c0_i32_723
  v1015
def k0_mult60 (i : grid0.Coords) : BitVec 32 :=
  let c128_i32_724 : BitVec 32 := 128#32
  let arg2 : BitVec 32 := BitVec.ofNat 32 (i 2).val
  let c2048_i32 : BitVec 32 := 2048#32
  let v0 : BitVec 32 := Scalar.muli arg2 c2048_i32
  let c1280_i32 : BitVec 32 := 1280#32
  let v1013 : BitVec 32 := Scalar.addi v0 c1280_i32
  let c128_i32_722 : BitVec 32 := 128#32
  let v1014 : BitVec 32 := Scalar.subi v1013 c128_i32_722
  let c0_i32_723 : BitVec 32 := 0#32
  let v1015 : BitVec 32 := Scalar.maxsi v1014 c0_i32_723
  let v1016 : BitVec 32 := v1015
  let v1017 : BitVec 32 := Scalar.subi v1013 v1016
  let v1018 : BitVec 32 := Scalar.subi c128_i32_724 v1017
  let c0_i32_725 : BitVec 32 := 0#32
  let v1019 : BitVec 32 := Scalar.subi v1018 c0_i32_725
  v1019
def k0_mult61 (i : grid0.Coords) : BitVec 32 :=
  let c128_i32_724 : BitVec 32 := 128#32
  let arg2 : BitVec 32 := BitVec.ofNat 32 (i 2).val
  let c2048_i32 : BitVec 32 := 2048#32
  let v0 : BitVec 32 := Scalar.muli arg2 c2048_i32
  let c1280_i32 : BitVec 32 := 1280#32
  let v1013 : BitVec 32 := Scalar.addi v0 c1280_i32
  let c128_i32_722 : BitVec 32 := 128#32
  let v1014 : BitVec 32 := Scalar.subi v1013 c128_i32_722
  let c0_i32_723 : BitVec 32 := 0#32
  let v1015 : BitVec 32 := Scalar.maxsi v1014 c0_i32_723
  let v1016 : BitVec 32 := v1015
  let v1017 : BitVec 32 := Scalar.subi v1013 v1016
  let v1018 : BitVec 32 := Scalar.subi c128_i32_724 v1017
  let c0_i32_728 : BitVec 32 := 0#32
  let v1024 : BitVec 32 := Scalar.subi v1018 c0_i32_728
  v1024
def k0_mult62 (i : grid0.Coords) : BitVec 32 :=
  let c128_i32_724 : BitVec 32 := 128#32
  let arg2 : BitVec 32 := BitVec.ofNat 32 (i 2).val
  let c2048_i32 : BitVec 32 := 2048#32
  let v0 : BitVec 32 := Scalar.muli arg2 c2048_i32
  let c1280_i32 : BitVec 32 := 1280#32
  let v1013 : BitVec 32 := Scalar.addi v0 c1280_i32
  let c128_i32_722 : BitVec 32 := 128#32
  let v1014 : BitVec 32 := Scalar.subi v1013 c128_i32_722
  let c0_i32_723 : BitVec 32 := 0#32
  let v1015 : BitVec 32 := Scalar.maxsi v1014 c0_i32_723
  let v1016 : BitVec 32 := v1015
  let v1017 : BitVec 32 := Scalar.subi v1013 v1016
  let v1018 : BitVec 32 := Scalar.subi c128_i32_724 v1017
  let c0_i32_731 : BitVec 32 := 0#32
  let v1029 : BitVec 32 := Scalar.subi v1018 c0_i32_731
  v1029
def k0_mult63 (i : grid0.Coords) : BitVec 32 :=
  let c128_i32_724 : BitVec 32 := 128#32
  let arg2 : BitVec 32 := BitVec.ofNat 32 (i 2).val
  let c2048_i32 : BitVec 32 := 2048#32
  let v0 : BitVec 32 := Scalar.muli arg2 c2048_i32
  let c1280_i32 : BitVec 32 := 1280#32
  let v1013 : BitVec 32 := Scalar.addi v0 c1280_i32
  let c128_i32_722 : BitVec 32 := 128#32
  let v1014 : BitVec 32 := Scalar.subi v1013 c128_i32_722
  let c0_i32_723 : BitVec 32 := 0#32
  let v1015 : BitVec 32 := Scalar.maxsi v1014 c0_i32_723
  let v1016 : BitVec 32 := v1015
  let v1017 : BitVec 32 := Scalar.subi v1013 v1016
  let v1018 : BitVec 32 := Scalar.subi c128_i32_724 v1017
  let c0_i32_734 : BitVec 32 := 0#32
  let v1034 : BitVec 32 := Scalar.subi v1018 c0_i32_734
  v1034
def k0_mult64 (i : grid0.Coords) : BitVec 32 :=
  let arg2 : BitVec 32 := BitVec.ofNat 32 (i 2).val
  let c2048_i32 : BitVec 32 := 2048#32
  let v0 : BitVec 32 := Scalar.muli arg2 c2048_i32
  let c1024_i32_743 : BitVec 32 := 1024#32
  let v1048 : BitVec 32 := Scalar.addi v0 c1024_i32_743
  let c128_i32_744 : BitVec 32 := 128#32
  let v1049 : BitVec 32 := Scalar.subi v1048 c128_i32_744
  let c0_i32_745 : BitVec 32 := 0#32
  let v1050 : BitVec 32 := Scalar.maxsi v1049 c0_i32_745
  v1050
def k0_mult65 (i : grid0.Coords) : BitVec 32 :=
  let arg2 : BitVec 32 := BitVec.ofNat 32 (i 2).val
  let c2048_i32 : BitVec 32 := 2048#32
  let v0 : BitVec 32 := Scalar.muli arg2 c2048_i32
  let c1408_i32 : BitVec 32 := 1408#32
  let v1126 : BitVec 32 := Scalar.addi v0 c1408_i32
  let c128_i32_802 : BitVec 32 := 128#32
  let v1127 : BitVec 32 := Scalar.subi v1126 c128_i32_802
  let c0_i32_803 : BitVec 32 := 0#32
  let v1128 : BitVec 32 := Scalar.maxsi v1127 c0_i32_803
  v1128
def k0_mult66 (i : grid0.Coords) : BitVec 32 :=
  let c128_i32_804 : BitVec 32 := 128#32
  let arg2 : BitVec 32 := BitVec.ofNat 32 (i 2).val
  let c2048_i32 : BitVec 32 := 2048#32
  let v0 : BitVec 32 := Scalar.muli arg2 c2048_i32
  let c1408_i32 : BitVec 32 := 1408#32
  let v1126 : BitVec 32 := Scalar.addi v0 c1408_i32
  let c128_i32_802 : BitVec 32 := 128#32
  let v1127 : BitVec 32 := Scalar.subi v1126 c128_i32_802
  let c0_i32_803 : BitVec 32 := 0#32
  let v1128 : BitVec 32 := Scalar.maxsi v1127 c0_i32_803
  let v1129 : BitVec 32 := v1128
  let v1130 : BitVec 32 := Scalar.subi v1126 v1129
  let v1131 : BitVec 32 := Scalar.subi c128_i32_804 v1130
  let c0_i32_805 : BitVec 32 := 0#32
  let v1132 : BitVec 32 := Scalar.subi v1131 c0_i32_805
  v1132
def k0_mult67 (i : grid0.Coords) : BitVec 32 :=
  let c128_i32_804 : BitVec 32 := 128#32
  let arg2 : BitVec 32 := BitVec.ofNat 32 (i 2).val
  let c2048_i32 : BitVec 32 := 2048#32
  let v0 : BitVec 32 := Scalar.muli arg2 c2048_i32
  let c1408_i32 : BitVec 32 := 1408#32
  let v1126 : BitVec 32 := Scalar.addi v0 c1408_i32
  let c128_i32_802 : BitVec 32 := 128#32
  let v1127 : BitVec 32 := Scalar.subi v1126 c128_i32_802
  let c0_i32_803 : BitVec 32 := 0#32
  let v1128 : BitVec 32 := Scalar.maxsi v1127 c0_i32_803
  let v1129 : BitVec 32 := v1128
  let v1130 : BitVec 32 := Scalar.subi v1126 v1129
  let v1131 : BitVec 32 := Scalar.subi c128_i32_804 v1130
  let c0_i32_808 : BitVec 32 := 0#32
  let v1137 : BitVec 32 := Scalar.subi v1131 c0_i32_808
  v1137
def k0_mult68 (i : grid0.Coords) : BitVec 32 :=
  let c128_i32_804 : BitVec 32 := 128#32
  let arg2 : BitVec 32 := BitVec.ofNat 32 (i 2).val
  let c2048_i32 : BitVec 32 := 2048#32
  let v0 : BitVec 32 := Scalar.muli arg2 c2048_i32
  let c1408_i32 : BitVec 32 := 1408#32
  let v1126 : BitVec 32 := Scalar.addi v0 c1408_i32
  let c128_i32_802 : BitVec 32 := 128#32
  let v1127 : BitVec 32 := Scalar.subi v1126 c128_i32_802
  let c0_i32_803 : BitVec 32 := 0#32
  let v1128 : BitVec 32 := Scalar.maxsi v1127 c0_i32_803
  let v1129 : BitVec 32 := v1128
  let v1130 : BitVec 32 := Scalar.subi v1126 v1129
  let v1131 : BitVec 32 := Scalar.subi c128_i32_804 v1130
  let c0_i32_811 : BitVec 32 := 0#32
  let v1142 : BitVec 32 := Scalar.subi v1131 c0_i32_811
  v1142
def k0_mult69 (i : grid0.Coords) : BitVec 32 :=
  let c128_i32_804 : BitVec 32 := 128#32
  let arg2 : BitVec 32 := BitVec.ofNat 32 (i 2).val
  let c2048_i32 : BitVec 32 := 2048#32
  let v0 : BitVec 32 := Scalar.muli arg2 c2048_i32
  let c1408_i32 : BitVec 32 := 1408#32
  let v1126 : BitVec 32 := Scalar.addi v0 c1408_i32
  let c128_i32_802 : BitVec 32 := 128#32
  let v1127 : BitVec 32 := Scalar.subi v1126 c128_i32_802
  let c0_i32_803 : BitVec 32 := 0#32
  let v1128 : BitVec 32 := Scalar.maxsi v1127 c0_i32_803
  let v1129 : BitVec 32 := v1128
  let v1130 : BitVec 32 := Scalar.subi v1126 v1129
  let v1131 : BitVec 32 := Scalar.subi c128_i32_804 v1130
  let c0_i32_814 : BitVec 32 := 0#32
  let v1147 : BitVec 32 := Scalar.subi v1131 c0_i32_814
  v1147
def k0_mult70 (i : grid0.Coords) : BitVec 32 :=
  let arg2 : BitVec 32 := BitVec.ofNat 32 (i 2).val
  let c2048_i32 : BitVec 32 := 2048#32
  let v0 : BitVec 32 := Scalar.muli arg2 c2048_i32
  let c1152_i32_823 : BitVec 32 := 1152#32
  let v1161 : BitVec 32 := Scalar.addi v0 c1152_i32_823
  let c128_i32_824 : BitVec 32 := 128#32
  let v1162 : BitVec 32 := Scalar.subi v1161 c128_i32_824
  let c0_i32_825 : BitVec 32 := 0#32
  let v1163 : BitVec 32 := Scalar.maxsi v1162 c0_i32_825
  v1163
def k0_mult71 (i : grid0.Coords) : BitVec 32 :=
  let arg2 : BitVec 32 := BitVec.ofNat 32 (i 2).val
  let c2048_i32 : BitVec 32 := 2048#32
  let v0 : BitVec 32 := Scalar.muli arg2 c2048_i32
  let c1536_i32 : BitVec 32 := 1536#32
  let v1239 : BitVec 32 := Scalar.addi v0 c1536_i32
  let c128_i32_882 : BitVec 32 := 128#32
  let v1240 : BitVec 32 := Scalar.subi v1239 c128_i32_882
  let c0_i32_883 : BitVec 32 := 0#32
  let v1241 : BitVec 32 := Scalar.maxsi v1240 c0_i32_883
  v1241
def k0_mult72 (i : grid0.Coords) : BitVec 32 :=
  let c128_i32_884 : BitVec 32 := 128#32
  let arg2 : BitVec 32 := BitVec.ofNat 32 (i 2).val
  let c2048_i32 : BitVec 32 := 2048#32
  let v0 : BitVec 32 := Scalar.muli arg2 c2048_i32
  let c1536_i32 : BitVec 32 := 1536#32
  let v1239 : BitVec 32 := Scalar.addi v0 c1536_i32
  let c128_i32_882 : BitVec 32 := 128#32
  let v1240 : BitVec 32 := Scalar.subi v1239 c128_i32_882
  let c0_i32_883 : BitVec 32 := 0#32
  let v1241 : BitVec 32 := Scalar.maxsi v1240 c0_i32_883
  let v1242 : BitVec 32 := v1241
  let v1243 : BitVec 32 := Scalar.subi v1239 v1242
  let v1244 : BitVec 32 := Scalar.subi c128_i32_884 v1243
  let c0_i32_885 : BitVec 32 := 0#32
  let v1245 : BitVec 32 := Scalar.subi v1244 c0_i32_885
  v1245
def k0_mult73 (i : grid0.Coords) : BitVec 32 :=
  let c128_i32_884 : BitVec 32 := 128#32
  let arg2 : BitVec 32 := BitVec.ofNat 32 (i 2).val
  let c2048_i32 : BitVec 32 := 2048#32
  let v0 : BitVec 32 := Scalar.muli arg2 c2048_i32
  let c1536_i32 : BitVec 32 := 1536#32
  let v1239 : BitVec 32 := Scalar.addi v0 c1536_i32
  let c128_i32_882 : BitVec 32 := 128#32
  let v1240 : BitVec 32 := Scalar.subi v1239 c128_i32_882
  let c0_i32_883 : BitVec 32 := 0#32
  let v1241 : BitVec 32 := Scalar.maxsi v1240 c0_i32_883
  let v1242 : BitVec 32 := v1241
  let v1243 : BitVec 32 := Scalar.subi v1239 v1242
  let v1244 : BitVec 32 := Scalar.subi c128_i32_884 v1243
  let c0_i32_888 : BitVec 32 := 0#32
  let v1250 : BitVec 32 := Scalar.subi v1244 c0_i32_888
  v1250
def k0_mult74 (i : grid0.Coords) : BitVec 32 :=
  let c128_i32_884 : BitVec 32 := 128#32
  let arg2 : BitVec 32 := BitVec.ofNat 32 (i 2).val
  let c2048_i32 : BitVec 32 := 2048#32
  let v0 : BitVec 32 := Scalar.muli arg2 c2048_i32
  let c1536_i32 : BitVec 32 := 1536#32
  let v1239 : BitVec 32 := Scalar.addi v0 c1536_i32
  let c128_i32_882 : BitVec 32 := 128#32
  let v1240 : BitVec 32 := Scalar.subi v1239 c128_i32_882
  let c0_i32_883 : BitVec 32 := 0#32
  let v1241 : BitVec 32 := Scalar.maxsi v1240 c0_i32_883
  let v1242 : BitVec 32 := v1241
  let v1243 : BitVec 32 := Scalar.subi v1239 v1242
  let v1244 : BitVec 32 := Scalar.subi c128_i32_884 v1243
  let c0_i32_891 : BitVec 32 := 0#32
  let v1255 : BitVec 32 := Scalar.subi v1244 c0_i32_891
  v1255
def k0_mult75 (i : grid0.Coords) : BitVec 32 :=
  let c128_i32_884 : BitVec 32 := 128#32
  let arg2 : BitVec 32 := BitVec.ofNat 32 (i 2).val
  let c2048_i32 : BitVec 32 := 2048#32
  let v0 : BitVec 32 := Scalar.muli arg2 c2048_i32
  let c1536_i32 : BitVec 32 := 1536#32
  let v1239 : BitVec 32 := Scalar.addi v0 c1536_i32
  let c128_i32_882 : BitVec 32 := 128#32
  let v1240 : BitVec 32 := Scalar.subi v1239 c128_i32_882
  let c0_i32_883 : BitVec 32 := 0#32
  let v1241 : BitVec 32 := Scalar.maxsi v1240 c0_i32_883
  let v1242 : BitVec 32 := v1241
  let v1243 : BitVec 32 := Scalar.subi v1239 v1242
  let v1244 : BitVec 32 := Scalar.subi c128_i32_884 v1243
  let c0_i32_894 : BitVec 32 := 0#32
  let v1260 : BitVec 32 := Scalar.subi v1244 c0_i32_894
  v1260
def k0_mult76 (i : grid0.Coords) : BitVec 32 :=
  let arg2 : BitVec 32 := BitVec.ofNat 32 (i 2).val
  let c2048_i32 : BitVec 32 := 2048#32
  let v0 : BitVec 32 := Scalar.muli arg2 c2048_i32
  let c1280_i32_903 : BitVec 32 := 1280#32
  let v1274 : BitVec 32 := Scalar.addi v0 c1280_i32_903
  let c128_i32_904 : BitVec 32 := 128#32
  let v1275 : BitVec 32 := Scalar.subi v1274 c128_i32_904
  let c0_i32_905 : BitVec 32 := 0#32
  let v1276 : BitVec 32 := Scalar.maxsi v1275 c0_i32_905
  v1276
def k0_mult77 (i : grid0.Coords) : BitVec 32 :=
  let arg2 : BitVec 32 := BitVec.ofNat 32 (i 2).val
  let c2048_i32 : BitVec 32 := 2048#32
  let v0 : BitVec 32 := Scalar.muli arg2 c2048_i32
  let c1664_i32 : BitVec 32 := 1664#32
  let v1352 : BitVec 32 := Scalar.addi v0 c1664_i32
  let c128_i32_962 : BitVec 32 := 128#32
  let v1353 : BitVec 32 := Scalar.subi v1352 c128_i32_962
  let c0_i32_963 : BitVec 32 := 0#32
  let v1354 : BitVec 32 := Scalar.maxsi v1353 c0_i32_963
  v1354
def k0_mult78 (i : grid0.Coords) : BitVec 32 :=
  let c128_i32_964 : BitVec 32 := 128#32
  let arg2 : BitVec 32 := BitVec.ofNat 32 (i 2).val
  let c2048_i32 : BitVec 32 := 2048#32
  let v0 : BitVec 32 := Scalar.muli arg2 c2048_i32
  let c1664_i32 : BitVec 32 := 1664#32
  let v1352 : BitVec 32 := Scalar.addi v0 c1664_i32
  let c128_i32_962 : BitVec 32 := 128#32
  let v1353 : BitVec 32 := Scalar.subi v1352 c128_i32_962
  let c0_i32_963 : BitVec 32 := 0#32
  let v1354 : BitVec 32 := Scalar.maxsi v1353 c0_i32_963
  let v1355 : BitVec 32 := v1354
  let v1356 : BitVec 32 := Scalar.subi v1352 v1355
  let v1357 : BitVec 32 := Scalar.subi c128_i32_964 v1356
  let c0_i32_965 : BitVec 32 := 0#32
  let v1358 : BitVec 32 := Scalar.subi v1357 c0_i32_965
  v1358
def k0_mult79 (i : grid0.Coords) : BitVec 32 :=
  let c128_i32_964 : BitVec 32 := 128#32
  let arg2 : BitVec 32 := BitVec.ofNat 32 (i 2).val
  let c2048_i32 : BitVec 32 := 2048#32
  let v0 : BitVec 32 := Scalar.muli arg2 c2048_i32
  let c1664_i32 : BitVec 32 := 1664#32
  let v1352 : BitVec 32 := Scalar.addi v0 c1664_i32
  let c128_i32_962 : BitVec 32 := 128#32
  let v1353 : BitVec 32 := Scalar.subi v1352 c128_i32_962
  let c0_i32_963 : BitVec 32 := 0#32
  let v1354 : BitVec 32 := Scalar.maxsi v1353 c0_i32_963
  let v1355 : BitVec 32 := v1354
  let v1356 : BitVec 32 := Scalar.subi v1352 v1355
  let v1357 : BitVec 32 := Scalar.subi c128_i32_964 v1356
  let c0_i32_968 : BitVec 32 := 0#32
  let v1363 : BitVec 32 := Scalar.subi v1357 c0_i32_968
  v1363
def k0_mult80 (i : grid0.Coords) : BitVec 32 :=
  let c128_i32_964 : BitVec 32 := 128#32
  let arg2 : BitVec 32 := BitVec.ofNat 32 (i 2).val
  let c2048_i32 : BitVec 32 := 2048#32
  let v0 : BitVec 32 := Scalar.muli arg2 c2048_i32
  let c1664_i32 : BitVec 32 := 1664#32
  let v1352 : BitVec 32 := Scalar.addi v0 c1664_i32
  let c128_i32_962 : BitVec 32 := 128#32
  let v1353 : BitVec 32 := Scalar.subi v1352 c128_i32_962
  let c0_i32_963 : BitVec 32 := 0#32
  let v1354 : BitVec 32 := Scalar.maxsi v1353 c0_i32_963
  let v1355 : BitVec 32 := v1354
  let v1356 : BitVec 32 := Scalar.subi v1352 v1355
  let v1357 : BitVec 32 := Scalar.subi c128_i32_964 v1356
  let c0_i32_971 : BitVec 32 := 0#32
  let v1368 : BitVec 32 := Scalar.subi v1357 c0_i32_971
  v1368
def k0_mult81 (i : grid0.Coords) : BitVec 32 :=
  let c128_i32_964 : BitVec 32 := 128#32
  let arg2 : BitVec 32 := BitVec.ofNat 32 (i 2).val
  let c2048_i32 : BitVec 32 := 2048#32
  let v0 : BitVec 32 := Scalar.muli arg2 c2048_i32
  let c1664_i32 : BitVec 32 := 1664#32
  let v1352 : BitVec 32 := Scalar.addi v0 c1664_i32
  let c128_i32_962 : BitVec 32 := 128#32
  let v1353 : BitVec 32 := Scalar.subi v1352 c128_i32_962
  let c0_i32_963 : BitVec 32 := 0#32
  let v1354 : BitVec 32 := Scalar.maxsi v1353 c0_i32_963
  let v1355 : BitVec 32 := v1354
  let v1356 : BitVec 32 := Scalar.subi v1352 v1355
  let v1357 : BitVec 32 := Scalar.subi c128_i32_964 v1356
  let c0_i32_974 : BitVec 32 := 0#32
  let v1373 : BitVec 32 := Scalar.subi v1357 c0_i32_974
  v1373
def k0_mult82 (i : grid0.Coords) : BitVec 32 :=
  let arg2 : BitVec 32 := BitVec.ofNat 32 (i 2).val
  let c2048_i32 : BitVec 32 := 2048#32
  let v0 : BitVec 32 := Scalar.muli arg2 c2048_i32
  let c1408_i32_983 : BitVec 32 := 1408#32
  let v1387 : BitVec 32 := Scalar.addi v0 c1408_i32_983
  let c128_i32_984 : BitVec 32 := 128#32
  let v1388 : BitVec 32 := Scalar.subi v1387 c128_i32_984
  let c0_i32_985 : BitVec 32 := 0#32
  let v1389 : BitVec 32 := Scalar.maxsi v1388 c0_i32_985
  v1389
def k0_mult83 (i : grid0.Coords) : BitVec 32 :=
  let arg2 : BitVec 32 := BitVec.ofNat 32 (i 2).val
  let c2048_i32 : BitVec 32 := 2048#32
  let v0 : BitVec 32 := Scalar.muli arg2 c2048_i32
  let c1792_i32 : BitVec 32 := 1792#32
  let v1465 : BitVec 32 := Scalar.addi v0 c1792_i32
  let c128_i32_1042 : BitVec 32 := 128#32
  let v1466 : BitVec 32 := Scalar.subi v1465 c128_i32_1042
  let c0_i32_1043 : BitVec 32 := 0#32
  let v1467 : BitVec 32 := Scalar.maxsi v1466 c0_i32_1043
  v1467
def k0_mult84 (i : grid0.Coords) : BitVec 32 :=
  let c128_i32_1044 : BitVec 32 := 128#32
  let arg2 : BitVec 32 := BitVec.ofNat 32 (i 2).val
  let c2048_i32 : BitVec 32 := 2048#32
  let v0 : BitVec 32 := Scalar.muli arg2 c2048_i32
  let c1792_i32 : BitVec 32 := 1792#32
  let v1465 : BitVec 32 := Scalar.addi v0 c1792_i32
  let c128_i32_1042 : BitVec 32 := 128#32
  let v1466 : BitVec 32 := Scalar.subi v1465 c128_i32_1042
  let c0_i32_1043 : BitVec 32 := 0#32
  let v1467 : BitVec 32 := Scalar.maxsi v1466 c0_i32_1043
  let v1468 : BitVec 32 := v1467
  let v1469 : BitVec 32 := Scalar.subi v1465 v1468
  let v1470 : BitVec 32 := Scalar.subi c128_i32_1044 v1469
  let c0_i32_1045 : BitVec 32 := 0#32
  let v1471 : BitVec 32 := Scalar.subi v1470 c0_i32_1045
  v1471
def k0_mult85 (i : grid0.Coords) : BitVec 32 :=
  let c128_i32_1044 : BitVec 32 := 128#32
  let arg2 : BitVec 32 := BitVec.ofNat 32 (i 2).val
  let c2048_i32 : BitVec 32 := 2048#32
  let v0 : BitVec 32 := Scalar.muli arg2 c2048_i32
  let c1792_i32 : BitVec 32 := 1792#32
  let v1465 : BitVec 32 := Scalar.addi v0 c1792_i32
  let c128_i32_1042 : BitVec 32 := 128#32
  let v1466 : BitVec 32 := Scalar.subi v1465 c128_i32_1042
  let c0_i32_1043 : BitVec 32 := 0#32
  let v1467 : BitVec 32 := Scalar.maxsi v1466 c0_i32_1043
  let v1468 : BitVec 32 := v1467
  let v1469 : BitVec 32 := Scalar.subi v1465 v1468
  let v1470 : BitVec 32 := Scalar.subi c128_i32_1044 v1469
  let c0_i32_1048 : BitVec 32 := 0#32
  let v1476 : BitVec 32 := Scalar.subi v1470 c0_i32_1048
  v1476
def k0_mult86 (i : grid0.Coords) : BitVec 32 :=
  let c128_i32_1044 : BitVec 32 := 128#32
  let arg2 : BitVec 32 := BitVec.ofNat 32 (i 2).val
  let c2048_i32 : BitVec 32 := 2048#32
  let v0 : BitVec 32 := Scalar.muli arg2 c2048_i32
  let c1792_i32 : BitVec 32 := 1792#32
  let v1465 : BitVec 32 := Scalar.addi v0 c1792_i32
  let c128_i32_1042 : BitVec 32 := 128#32
  let v1466 : BitVec 32 := Scalar.subi v1465 c128_i32_1042
  let c0_i32_1043 : BitVec 32 := 0#32
  let v1467 : BitVec 32 := Scalar.maxsi v1466 c0_i32_1043
  let v1468 : BitVec 32 := v1467
  let v1469 : BitVec 32 := Scalar.subi v1465 v1468
  let v1470 : BitVec 32 := Scalar.subi c128_i32_1044 v1469
  let c0_i32_1051 : BitVec 32 := 0#32
  let v1481 : BitVec 32 := Scalar.subi v1470 c0_i32_1051
  v1481
def k0_mult87 (i : grid0.Coords) : BitVec 32 :=
  let c128_i32_1044 : BitVec 32 := 128#32
  let arg2 : BitVec 32 := BitVec.ofNat 32 (i 2).val
  let c2048_i32 : BitVec 32 := 2048#32
  let v0 : BitVec 32 := Scalar.muli arg2 c2048_i32
  let c1792_i32 : BitVec 32 := 1792#32
  let v1465 : BitVec 32 := Scalar.addi v0 c1792_i32
  let c128_i32_1042 : BitVec 32 := 128#32
  let v1466 : BitVec 32 := Scalar.subi v1465 c128_i32_1042
  let c0_i32_1043 : BitVec 32 := 0#32
  let v1467 : BitVec 32 := Scalar.maxsi v1466 c0_i32_1043
  let v1468 : BitVec 32 := v1467
  let v1469 : BitVec 32 := Scalar.subi v1465 v1468
  let v1470 : BitVec 32 := Scalar.subi c128_i32_1044 v1469
  let c0_i32_1054 : BitVec 32 := 0#32
  let v1486 : BitVec 32 := Scalar.subi v1470 c0_i32_1054
  v1486
def k0_mult88 (i : grid0.Coords) : BitVec 32 :=
  let arg2 : BitVec 32 := BitVec.ofNat 32 (i 2).val
  let c2048_i32 : BitVec 32 := 2048#32
  let v0 : BitVec 32 := Scalar.muli arg2 c2048_i32
  let c1536_i32_1063 : BitVec 32 := 1536#32
  let v1500 : BitVec 32 := Scalar.addi v0 c1536_i32_1063
  let c128_i32_1064 : BitVec 32 := 128#32
  let v1501 : BitVec 32 := Scalar.subi v1500 c128_i32_1064
  let c0_i32_1065 : BitVec 32 := 0#32
  let v1502 : BitVec 32 := Scalar.maxsi v1501 c0_i32_1065
  v1502
def k0_mult89 (i : grid0.Coords) : BitVec 32 :=
  let arg2 : BitVec 32 := BitVec.ofNat 32 (i 2).val
  let c2048_i32 : BitVec 32 := 2048#32
  let v0 : BitVec 32 := Scalar.muli arg2 c2048_i32
  let c1920_i32 : BitVec 32 := 1920#32
  let v1578 : BitVec 32 := Scalar.addi v0 c1920_i32
  let c128_i32_1122 : BitVec 32 := 128#32
  let v1579 : BitVec 32 := Scalar.subi v1578 c128_i32_1122
  let c0_i32_1123 : BitVec 32 := 0#32
  let v1580 : BitVec 32 := Scalar.maxsi v1579 c0_i32_1123
  v1580
def k0_mult90 (i : grid0.Coords) : BitVec 32 :=
  let c128_i32_1124 : BitVec 32 := 128#32
  let arg2 : BitVec 32 := BitVec.ofNat 32 (i 2).val
  let c2048_i32 : BitVec 32 := 2048#32
  let v0 : BitVec 32 := Scalar.muli arg2 c2048_i32
  let c1920_i32 : BitVec 32 := 1920#32
  let v1578 : BitVec 32 := Scalar.addi v0 c1920_i32
  let c128_i32_1122 : BitVec 32 := 128#32
  let v1579 : BitVec 32 := Scalar.subi v1578 c128_i32_1122
  let c0_i32_1123 : BitVec 32 := 0#32
  let v1580 : BitVec 32 := Scalar.maxsi v1579 c0_i32_1123
  let v1581 : BitVec 32 := v1580
  let v1582 : BitVec 32 := Scalar.subi v1578 v1581
  let v1583 : BitVec 32 := Scalar.subi c128_i32_1124 v1582
  let c0_i32_1125 : BitVec 32 := 0#32
  let v1584 : BitVec 32 := Scalar.subi v1583 c0_i32_1125
  v1584
def k0_mult91 (i : grid0.Coords) : BitVec 32 :=
  let c128_i32_1124 : BitVec 32 := 128#32
  let arg2 : BitVec 32 := BitVec.ofNat 32 (i 2).val
  let c2048_i32 : BitVec 32 := 2048#32
  let v0 : BitVec 32 := Scalar.muli arg2 c2048_i32
  let c1920_i32 : BitVec 32 := 1920#32
  let v1578 : BitVec 32 := Scalar.addi v0 c1920_i32
  let c128_i32_1122 : BitVec 32 := 128#32
  let v1579 : BitVec 32 := Scalar.subi v1578 c128_i32_1122
  let c0_i32_1123 : BitVec 32 := 0#32
  let v1580 : BitVec 32 := Scalar.maxsi v1579 c0_i32_1123
  let v1581 : BitVec 32 := v1580
  let v1582 : BitVec 32 := Scalar.subi v1578 v1581
  let v1583 : BitVec 32 := Scalar.subi c128_i32_1124 v1582
  let c0_i32_1128 : BitVec 32 := 0#32
  let v1589 : BitVec 32 := Scalar.subi v1583 c0_i32_1128
  v1589
def k0_mult92 (i : grid0.Coords) : BitVec 32 :=
  let c128_i32_1124 : BitVec 32 := 128#32
  let arg2 : BitVec 32 := BitVec.ofNat 32 (i 2).val
  let c2048_i32 : BitVec 32 := 2048#32
  let v0 : BitVec 32 := Scalar.muli arg2 c2048_i32
  let c1920_i32 : BitVec 32 := 1920#32
  let v1578 : BitVec 32 := Scalar.addi v0 c1920_i32
  let c128_i32_1122 : BitVec 32 := 128#32
  let v1579 : BitVec 32 := Scalar.subi v1578 c128_i32_1122
  let c0_i32_1123 : BitVec 32 := 0#32
  let v1580 : BitVec 32 := Scalar.maxsi v1579 c0_i32_1123
  let v1581 : BitVec 32 := v1580
  let v1582 : BitVec 32 := Scalar.subi v1578 v1581
  let v1583 : BitVec 32 := Scalar.subi c128_i32_1124 v1582
  let c0_i32_1131 : BitVec 32 := 0#32
  let v1594 : BitVec 32 := Scalar.subi v1583 c0_i32_1131
  v1594
def k0_mult93 (i : grid0.Coords) : BitVec 32 :=
  let c128_i32_1124 : BitVec 32 := 128#32
  let arg2 : BitVec 32 := BitVec.ofNat 32 (i 2).val
  let c2048_i32 : BitVec 32 := 2048#32
  let v0 : BitVec 32 := Scalar.muli arg2 c2048_i32
  let c1920_i32 : BitVec 32 := 1920#32
  let v1578 : BitVec 32 := Scalar.addi v0 c1920_i32
  let c128_i32_1122 : BitVec 32 := 128#32
  let v1579 : BitVec 32 := Scalar.subi v1578 c128_i32_1122
  let c0_i32_1123 : BitVec 32 := 0#32
  let v1580 : BitVec 32 := Scalar.maxsi v1579 c0_i32_1123
  let v1581 : BitVec 32 := v1580
  let v1582 : BitVec 32 := Scalar.subi v1578 v1581
  let v1583 : BitVec 32 := Scalar.subi c128_i32_1124 v1582
  let c0_i32_1134 : BitVec 32 := 0#32
  let v1599 : BitVec 32 := Scalar.subi v1583 c0_i32_1134
  v1599
def k0_mult94 (i : grid0.Coords) : BitVec 32 :=
  let arg2 : BitVec 32 := BitVec.ofNat 32 (i 2).val
  let c2048_i32 : BitVec 32 := 2048#32
  let v0 : BitVec 32 := Scalar.muli arg2 c2048_i32
  let c1664_i32_1143 : BitVec 32 := 1664#32
  let v1613 : BitVec 32 := Scalar.addi v0 c1664_i32_1143
  let c128_i32_1144 : BitVec 32 := 128#32
  let v1614 : BitVec 32 := Scalar.subi v1613 c128_i32_1144
  let c0_i32_1145 : BitVec 32 := 0#32
  let v1615 : BitVec 32 := Scalar.maxsi v1614 c0_i32_1145
  v1615
def k0_mult95 (i : grid0.Coords) : BitVec 32 :=
  let arg2 : BitVec 32 := BitVec.ofNat 32 (i 2).val
  let c2048_i32 : BitVec 32 := 2048#32
  let v0 : BitVec 32 := Scalar.muli arg2 c2048_i32
  let c1792_i32_1191 : BitVec 32 := 1792#32
  let v1682 : BitVec 32 := Scalar.addi v0 c1792_i32_1191
  let c128_i32_1192 : BitVec 32 := 128#32
  let v1683 : BitVec 32 := Scalar.subi v1682 c128_i32_1192
  let c0_i32_1193 : BitVec 32 := 0#32
  let v1684 : BitVec 32 := Scalar.maxsi v1683 c0_i32_1193
  v1684
def k0_mult96 (i : grid0.Coords) : BitVec 32 :=
  let arg2 : BitVec 32 := BitVec.ofNat 32 (i 2).val
  let c2048_i32 : BitVec 32 := 2048#32
  let v0 : BitVec 32 := Scalar.muli arg2 c2048_i32
  let c1920_i32_1239 : BitVec 32 := 1920#32
  let v1751 : BitVec 32 := Scalar.addi v0 c1920_i32_1239
  let c128_i32_1240 : BitVec 32 := 128#32
  let v1752 : BitVec 32 := Scalar.subi v1751 c128_i32_1240
  let c0_i32_1241 : BitVec 32 := 0#32
  let v1753 : BitVec 32 := Scalar.maxsi v1752 c0_i32_1241
  v1753
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel3Ideal.lean ====
variable {F : FTy → Type} [FloatOps F] [Named F]
def κ : String → Option EReal := fun
  | "log2e" => some (((Real.log 2)⁻¹ : ℝ) : EReal)
  | _ => none
-- ==== Reference3Ideal.lean ====
abbrev S8x4096x16x128 : Shape := ⟨4, ![8, 4096, 16, 128]⟩
abbrev S8x4096x4x128 : Shape := ⟨4, ![8, 4096, 4, 128]⟩
abbrev S32x16 : Shape := ⟨2, ![32, 16]⟩
abbrev S8x4096x4x4x128 : Shape := ⟨5, ![8, 4096, 4, 4, 128]⟩
abbrev S8x4x4096x4096x4 : Shape := ⟨5, ![8, 4, 4096, 4096, 4]⟩
abbrev S8x4x4x4096x4096 : Shape := ⟨5, ![8, 4, 4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x16 : Shape := ⟨3, ![4096, 4096, 16]⟩
abbrev S4096x4096x4x4 : Shape := ⟨4, ![4096, 4096, 4, 4]⟩
abbrev S4x4x4096x4096 : Shape := ⟨4, ![4, 4, 4096, 4096]⟩
abbrev S1x4x4x4096x4096 : Shape := ⟨5, ![1, 4, 4, 4096, 4096]⟩
abbrev S8x4x4x4096 : Shape := ⟨4, ![8, 4, 4, 4096]⟩
abbrev S8x4x4x4096x1 : Shape := ⟨5, ![8, 4, 4, 4096, 1]⟩
abbrev S8x4x128x4x4096 : Shape := ⟨5, ![8, 4, 128, 4, 4096]⟩
abbrev S8x4096x2048 : Shape := ⟨3, ![8, 4096, 2048]⟩
abbrev S8x2048x4096 : Shape := ⟨3, ![8, 2048, 4096]⟩

abbrev nBuf : Space → Nat
  | .hbm => 103
  | .vmem => 0
  | .smem => 0
  | _ => 0

abbrev bufTy : (tb : Table) → Fin (tcTables nBuf tb) → BufTy
  | .hbm, ⟨0, _⟩ => ⟨S8x4096x16x128, .f32⟩
  | .hbm, ⟨1, _⟩ => ⟨S8x4096x4x128, .f32⟩
  | .hbm, ⟨2, _⟩ => ⟨S8x4096x4x128, .f32⟩
  | .hbm, ⟨3, _⟩ => ⟨S32x16, .f32⟩
  | .hbm, ⟨4, _⟩ => ⟨S8x4096x4x4x128, .f32⟩
  | .hbm, ⟨5, _⟩ => ⟨S8x4x4096x4096x4, .f32⟩
  | .hbm, ⟨6, _⟩ => ⟨S8x4x4x4096x4096, .f32⟩
  | .hbm, ⟨7, _⟩ => ⟨S_, .f32⟩
  | .hbm, ⟨8, _⟩ => ⟨S8x4x4x4096x4096, .f32⟩
  | .hbm, ⟨9, _⟩ => ⟨S8x4x4x4096x4096, .f32⟩
  | .hbm, ⟨10, _⟩ => ⟨S4096, .i32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S4096x4096, .i1⟩
  | .hbm, ⟨23, _⟩ => ⟨S_, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .i32⟩
  | .hbm, ⟨41, _⟩ => ⟨S_, .i32⟩
  | .hbm, ⟨42, _⟩ => ⟨S4096x4096, .i32⟩
  | .hbm, ⟨43, _⟩ => ⟨S4096x4096, .i32⟩
  | .hbm, ⟨44, _⟩ => ⟨S_, .i32⟩
  | .hbm, ⟨45, _⟩ => ⟨S4096x4096, .i32⟩
  | .hbm, ⟨46, _⟩ => ⟨S4096x4096, .i1⟩
  | .hbm, ⟨47, _⟩ => ⟨S_, .i32⟩
  | .hbm, ⟨48, _⟩ => ⟨S4096x4096, .i32⟩
  | .hbm, ⟨49, _⟩ => ⟨S4096x4096, .i32⟩
  | .hbm, ⟨50, _⟩ => ⟨S4096x4096, .i32⟩
  | .hbm, ⟨51, _⟩ => ⟨S_, .i32⟩
  | .hbm, ⟨52, _⟩ => ⟨S4096x4096, .i32⟩
  | .hbm, ⟨53, _⟩ => ⟨S4096x4096, .i1⟩
  | .hbm, ⟨54, _⟩ => ⟨S_, .i32⟩
  | .hbm, ⟨55, _⟩ => ⟨S4096x4096, .i32⟩
  | .hbm, ⟨56, _⟩ => ⟨S4096x4096, .i32⟩
  | .hbm, ⟨57, _⟩ => ⟨S4096x4096, .i32⟩
  | .hbm, ⟨58, _⟩ => ⟨S4096x4096x1, .i32⟩
  | .hbm, ⟨59, _⟩ => ⟨S4096x4096x16, .f32⟩
  | .hbm, ⟨60, _⟩ => ⟨S4096x4096x4x4, .f32⟩
  | .hbm, ⟨61, _⟩ => ⟨S4x4x4096x4096, .f32⟩
  | .hbm, ⟨62, _⟩ => ⟨S1x4x4x4096x4096, .f32⟩
  | .hbm, ⟨63, _⟩ => ⟨S8x4x4x4096x4096, .f32⟩
  | .hbm, ⟨64, _⟩ => ⟨S8x4x4x4096x4096, .f32⟩
  | .hbm, ⟨65, _⟩ => ⟨S_, .f32⟩
  | .hbm, ⟨66, _⟩ => ⟨S_, .f32⟩
  | .hbm, ⟨67, _⟩ => ⟨S8x4x4x4096x4096, .i1⟩
  | .hbm, ⟨68, _⟩ => ⟨S8x4x4x4096x4096, .f32⟩
  | .hbm, ⟨69, _⟩ => ⟨S8x4x4x4096x4096, .f32⟩
  | .hbm, ⟨70, _⟩ => ⟨S_, .f32⟩
  | .hbm, ⟨71, _⟩ => ⟨S8x4x4x4096, .f32⟩
  | .hbm, ⟨72, _⟩ => ⟨S8x4x4x4096x1, .f32⟩
  | .hbm, ⟨73, _⟩ => ⟨S_, .f32⟩
  | .hbm, ⟨74, _⟩ => ⟨S8x4x4x4096x1, .f32⟩
  | .hbm, ⟨75, _⟩ => ⟨S8x4x4x4096x1, .i1⟩
  | .hbm, ⟨76, _⟩ => ⟨S_, .f32⟩
  | .hbm, ⟨77, _⟩ => ⟨S_, .f32⟩
  | .hbm, ⟨78, _⟩ => ⟨S8x4x4x4096x1, .f32⟩
  | .hbm, ⟨79, _⟩ => ⟨S8x4x4x4096x1, .f32⟩
  | .hbm, ⟨80, _⟩ => ⟨S8x4x4x4096x4096, .f32⟩
  | .hbm, ⟨81, _⟩ => ⟨S8x4x4x4096x4096, .f32⟩
  | .hbm, ⟨82, _⟩ => ⟨S8x4x4x4096x4096, .f32⟩
  | .hbm, ⟨83, _⟩ => ⟨S_, .f32⟩
  | .hbm, ⟨84, _⟩ => ⟨S8x4x4x4096, .f32⟩
  | .hbm, ⟨85, _⟩ => ⟨S8x4x4x4096x1, .f32⟩
  | .hbm, ⟨86, _⟩ => ⟨S_, .f32⟩
  | .hbm, ⟨87, _⟩ => ⟨S8x4x4x4096x1, .f32⟩
  | .hbm, ⟨88, _⟩ => ⟨S8x4x4x4096x1, .f32⟩
  | .hbm, ⟨89, _⟩ => ⟨S8x4x4x4096x4096, .f32⟩
  | .hbm, ⟨90, _⟩ => ⟨S8x4x4x4096x4096, .f32⟩
  | .hbm, ⟨91, _⟩ => ⟨S8x4x4x4096x1, .f32⟩
  | .hbm, ⟨92, _⟩ => ⟨S8x4x4x4096x1, .f32⟩
  | .hbm, ⟨93, _⟩ => ⟨S8x4x4x4096, .f32⟩
  | .hbm, ⟨94, _⟩ => ⟨S8x4x128x4x4096, .f32⟩
  | .hbm, ⟨95, _⟩ => ⟨S8x4096x4x4x128, .f32⟩
  | .hbm, ⟨96, _⟩ => ⟨S8x4096x2048, .f32⟩
  | .hbm, ⟨97, _⟩ => ⟨S8x2048x4096, .f32⟩
  | .hbm, ⟨98, _⟩ => ⟨S8x2048x4096, .bf16⟩
  | .hbm, ⟨99, _⟩ => ⟨S_, .f32⟩
  | .hbm, ⟨100, _⟩ => ⟨S_, .f32⟩
  | .hbm, ⟨101, _⟩ => ⟨S8x4x4x4096, .f32⟩
  | .hbm, ⟨102, _⟩ => ⟨S8x4x4x4096, .f32⟩
  | _, _ => ⟨S8x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_call2_v0 : Ref sig .tc := ⟨.hbm, 77, rfl⟩
abbrev main_call2_v1 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_v58 : Ref sig .tc := ⟨.hbm, 85, rfl⟩
abbrev main_cst_16 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Kernel4.lean ====
abbrev S8x4096x2048 : Shape := ⟨3, ![8, 4096, 2048]⟩
abbrev S2048 : Shape := ⟨1, ![2048]⟩
abbrev S2048x11264 : Shape := ⟨2, ![2048, 11264]⟩
abbrev S3x11264 : Shape := ⟨2, ![3, 11264]⟩
abbrev S32768x2048 : Shape := ⟨2, ![32768, 2048]⟩
abbrev S_ : Shape := ⟨0, ![]⟩
abbrev S8x11264 : Shape := ⟨2, ![8, 11264]⟩
abbrev S1x2048 : Shape := ⟨2, ![1, 2048]⟩
abbrev S32768x5632 : Shape := ⟨2, ![32768, 5632]⟩
abbrev S1024x2048 : Shape := ⟨2, ![1024, 2048]⟩
abbrev S16x2048 : Shape := ⟨2, ![16, 2048]⟩
abbrev S2048x512 : Shape := ⟨2, ![2048, 512]⟩
abbrev S8x512 : Shape := ⟨2, ![8, 512]⟩
abbrev S1024x512 : Shape := ⟨2, ![1024, 512]⟩
abbrev S1040x2048 : Shape := ⟨2, ![1040, 2048]⟩
abbrev S1040x1024 : Shape := ⟨2, ![1040, 1024]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2048x256 : Shape := ⟨2, ![2048, 256]⟩
abbrev S1040x256 : Shape := ⟨2, ![1040, 256]⟩
abbrev S80x128 : Shape := ⟨2, ![80, 128]⟩
abbrev S8x128 : Shape := ⟨2, ![8, 128]⟩
abbrev S1x128 : Shape := ⟨2, ![1, 128]⟩
abbrev S64x128 : Shape := ⟨2, ![64, 128]⟩

abbrev nBuf : Space → Nat
  | .hbm => 11
  | .vmem => 18
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S32768x2048, .f32⟩
  | .hbm, ⟨5, _⟩ => ⟨S2048x11264, .bf16⟩
  | .hbm, ⟨6, _⟩ => ⟨S_, .i32⟩
  | .hbm, ⟨7, _⟩ => ⟨S_, .f32⟩
  | .hbm, ⟨8, _⟩ => ⟨S8x11264, .f32⟩
  | .hbm, ⟨9, _⟩ => ⟨S1x2048, .f32⟩
  | .hbm, ⟨10, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S1024x512, .bf16⟩
  | .local _ .vmem, ⟨14, _⟩ => ⟨S1024x512, .bf16⟩
  | .local _ .vmem, ⟨15, _⟩ => ⟨S1040x2048, .bf16⟩
  | .local _ .vmem, ⟨16, _⟩ => ⟨S1040x1024, .f32⟩
  | .local _ .vmem, ⟨17, _⟩ => ⟨S1040x1024, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![353], ![false]⟩

def k0_cond3 (i : grid0.Coords) : BitVec 1 :=
  let arg0 : BitVec 32 := BitVec.ofNat 32 (i 0).val
  let c2_i32 : BitVec 32 := 2#32
  let v12 : BitVec 32 := Scalar.remsi arg0 c2_i32
  let c0_i32_4 : BitVec 32 := 0#32
  let v13 : BitVec 1 := Scalar.cmpi .eq v12 c0_i32_4
  let v14 : BitVec 32 := Scalar.extui v13
  let c0_i32_5 : BitVec 32 := 0#32
  let v15 : BitVec 1 := Scalar.cmpi .ne v14 c0_i32_5
  v15

def k0_cond4 (i : grid0.Coords) : BitVec 1 :=
  let arg0 : BitVec 32 := BitVec.ofNat 32 (i 0).val
  let c2_i32_6 : BitVec 32 := 2#32
  let v16 : BitVec 32 := Scalar.remsi arg0 c2_i32_6
  let c1_i32 : BitVec 32 := 1#32
  let v17 : BitVec 1 := Scalar.cmpi .eq v16 c1_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let c351_i32 : BitVec 32 := 351#32
  let v0 : BitVec 32 := Scalar.minsi arg0 c351_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 2 → Nat :=
  let arg0 : BitVec 32 := BitVec.ofNat 32 (i 0).val
  let c351_i32 : BitVec 32 := 351#32
  let v0 : BitVec 32 := Scalar.minsi arg0 c351_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c64_i32 : BitVec 32 := 64#32
  let v28 : BitVec 32 := Scalar.muli v17 c64_i32
  let c1_i32_10 : BitVec 32 := 1#32
  let v29 : BitVec 32 := Scalar.subi v28 c1_i32_10
  let c0_i32_11 : BitVec 32 := 0#32
  let v30 : BitVec 32 := Scalar.maxsi v29 c0_i32_11
  let c0_i32_12 : BitVec 32 := 0#32
  let c0_i32_13 : BitVec 32 := 0#32
  ![v30.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c351_i32 : BitVec 32 := 351#32
  let v0 : BitVec 32 := Scalar.minsi arg0 c351_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![c0_i32_10.toNat, v27.toNat]

def cc0_transform_4 (i : grid0.Coords) : Fin 2 → Nat :=
  let arg0 : BitVec 32 := BitVec.ofNat 32 (i 0).val
  let c351_i32 : BitVec 32 := 351#32
  let v0 : BitVec 32 := Scalar.minsi arg0 c351_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c11_i32_10 : BitVec 32 := 11#32
  let v28 : BitVec 32 := Scalar.addi c11_i32_10 v27
  let c0_i32_11 : BitVec 32 := 0#32
  let c0_i32_12 : BitVec 32 := 0#32
  ![c0_i32_11.toNat, v28.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![c0_i32_12.toNat, v28.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c11_i32_12 : BitVec 32 := 11#32
  let v29 : BitVec 32 := Scalar.addi c11_i32_12 v28
  let c0_i32_13 : BitVec 32 := 0#32
  let c0_i32_14 : BitVec 32 := 0#32
  ![c0_i32_13.toNat, v29.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x4096x2048 : Shape := ⟨3, ![8, 4096, 2048]⟩
abbrev S2048 : Shape := ⟨1, ![2048]⟩
abbrev S2048x11264 : Shape := ⟨2, ![2048, 11264]⟩
abbrev S3x11264 : Shape := ⟨2, ![3, 11264]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11264 : Shape := ⟨3, ![8, 4096, 11264]⟩
abbrev S8x4098x11264 : Shape := ⟨3, ![8, 4098, 11264]⟩
abbrev S1x11264 : Shape := ⟨2, ![1, 11264]⟩
abbrev S11264 : Shape := ⟨1, ![11264]⟩
abbrev S1x1x11264 : Shape := ⟨3, ![1, 1, 11264]⟩
abbrev S8x4096x5632 : Shape := ⟨3, ![8, 4096, 5632]⟩
abbrev S32768x5632 : Shape := ⟨2, ![32768, 5632]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x11264, .f32⟩
  | .hbm, ⟨21, _⟩ => ⟨S_, .i32⟩
  | .hbm, ⟨22, _⟩ => ⟨S_, .f32⟩
  | .hbm, ⟨23, _⟩ => ⟨S8x4098x11264, .f32⟩
  | .hbm, ⟨24, _⟩ => ⟨S1x11264, .f32⟩
  | .hbm, ⟨25, _⟩ => ⟨S11264, .f32⟩
  | .hbm, ⟨26, _⟩ => ⟨S8x4096x11264, .f32⟩
  | .hbm, ⟨27, _⟩ => ⟨S1x1x11264, .f32⟩
  | .hbm, ⟨28, _⟩ => ⟨S8x4096x11264, .f32⟩
  | .hbm, ⟨29, _⟩ => ⟨S8x4096x11264, .f32⟩
  | .hbm, ⟨30, _⟩ => ⟨S1x11264, .f32⟩
  | .hbm, ⟨31, _⟩ => ⟨S11264, .f32⟩
  | .hbm, ⟨32, _⟩ => ⟨S8x4096x11264, .f32⟩
  | .hbm, ⟨33, _⟩ => ⟨S1x1x11264, .f32⟩
  | .hbm, ⟨34, _⟩ => ⟨S8x4096x11264, .f32⟩
  | .hbm, ⟨35, _⟩ => ⟨S8x4096x11264, .f32⟩
  | .hbm, ⟨36, _⟩ => ⟨S8x4096x11264, .f32⟩
  | .hbm, ⟨37, _⟩ => ⟨S1x11264, .f32⟩
  | .hbm, ⟨38, _⟩ => ⟨S11264, .f32⟩
  | .hbm, ⟨39, _⟩ => ⟨S8x4096x11264, .f32⟩
  | .hbm, ⟨40, _⟩ => ⟨S1x1x11264, .f32⟩
  | .hbm, ⟨41, _⟩ => ⟨S8x4096x11264, .f32⟩
  | .hbm, ⟨42, _⟩ => ⟨S8x4096x11264, .f32⟩
  | .hbm, ⟨43, _⟩ => ⟨S8x4096x11264, .f32⟩
  | .hbm, ⟨44, _⟩ => ⟨S8x4096x5632, .f32⟩
  | .hbm, ⟨45, _⟩ => ⟨S8x4096x5632, .f32⟩
  | .hbm, ⟨46, _⟩ => ⟨S8x4096x5632, .f32⟩
  | .hbm, ⟨47, _⟩ => ⟨S8x4096x5632, .f32⟩
  | .hbm, ⟨48, _⟩ => ⟨S_, .f32⟩
  | .hbm, ⟨49, _⟩ => ⟨S8x4096x5632, .f32⟩
  | .hbm, ⟨50, _⟩ => ⟨S8x4096x5632, .f32⟩
  | .hbm, ⟨51, _⟩ => ⟨S_, .f32⟩
  | .hbm, ⟨52, _⟩ => ⟨S8x4096x5632, .f32⟩
  | .hbm, ⟨53, _⟩ => ⟨S8x4096x5632, .f32⟩
  | .hbm, ⟨54, _⟩ => ⟨S8x4096x5632, .f32⟩
  | .hbm, ⟨55, _⟩ => ⟨S8x4096x5632, .f32⟩
  | .hbm, ⟨56, _⟩ => ⟨S32768x5632, .f32⟩
  | .hbm, ⟨57, _⟩ => ⟨S32768x5632, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Proof.Down.lean ====
/- The array that `KernelIdeal`'s region leaves is the reference's term: the down projection of the feed-forward block added to the residual. -/
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The reference's result, over the kernel's three arguments. -/
def REF (A : FVec Ideal S8x4096x5632 .f32) (W : FVec Ideal S5632x2048 .f32) (X : FVec Ideal S8x4096x2048 .f32) : FVec Ideal S32768x2048 .f32 :=
  shapeCast Cert.ReferenceIdeal.S32768x2048 (addf X (Host.dotGeneral Cert.ReferenceIdeal.dot_S8x4096x5632_S5632x2048_S8x4096x2048_2_0_01_1_n_n none A W)) Cert.ReferenceIdeal.Gen.shapeCasts_S8x4096x2048_S32768x2048

/-- The body's payload at an index: the residual there plus the contraction of the activation row with the weight column. -/
theorem pay_at (a : FVec Ideal S512x5632 .bf16) (w : FVec Ideal S5632x1024 .bf16) (r : FVec Ideal S512x1024 .f32) (y : S512x1024.Idx) :
    k0_pay1 a w r y = r y + ∑ k : Fin 5632, a (ix2 (y 0) k) * w (ix2 k (y 1)) := by
  pointwise [k0_pay1]

/-- The reference's result at an index of the token-major array. -/
theorem REF_at (A : FVec Ideal S8x4096x5632 .f32) (W : FVec Ideal S5632x2048 .f32) (X : FVec Ideal S8x4096x2048 .f32) (i : S32768x2048.Idx) :
    REF A W X i = X (ix3 ⟨(i 0).val / 4096, by idx_bounds; omega⟩ ⟨(i 0).val % 4096, Nat.mod_lt _ (by norm_num)⟩ (i 1))
      + ∑ k : Fin 5632, A (ix3 ⟨(i 0).val / 4096, by idx_bounds; omega⟩ ⟨(i 0).val % 4096, Nat.mod_lt _ (by norm_num)⟩ k) * W (ix2 k (i 1)) := by
  pointwise [REF]

/-- The block each window stages at grid point `t`: row tile `t % 64`, column tile `t / 64`. -/
theorem idx : ∀ t : Fin cfg0.N, win0_0.index t = ![t.val % 64, 0] ∧ win0_1.index t = ![0, t.val / 64] ∧ win0_2.index t = ![t.val % 64, t.val / 64] ∧ win0_3.index t = ![t.val % 64, t.val / 64] :=
  (by decide +kernel : ∀ t : Fin grid0.N, _)

/-- The staged left operand, as the region finds it, at an index. -/
theorem V0_at (c : Dev nD) (R : Fin 32768) (k : Fin 5632) :
    @Eq EReal ((show FVec Ideal S32768x5632 .bf16 from V m c main_v1) (ix2 R k)) ((show FVec Ideal S8x4096x5632 .f32 from m ((c : Thread nD τ).loc main_arg0)) (ix3 ⟨R.val / 4096, by omega⟩ ⟨R.val % 4096, Nat.mod_lt _ (by norm_num)⟩ k)) := by
  have h : @Eq (FVec Ideal S32768x5632 .bf16) (V m c main_v1) (shapeCast S32768x5632 (truncf .bf16 (show FVec Ideal S8x4096x5632 .f32 from m ((c : Thread nD τ).loc main_arg0)) bitsLt_bf16_f32) shapeCasts_S8x4096x5632_S32768x5632) := by
    entry_read; rfl
  rw [h]
  pointwise

/-- The staged weight, as the region finds it. -/
theorem V1_at (c : Dev nD) (k : Fin 5632) (j : Fin 2048) :
    @Eq EReal ((show FVec Ideal S5632x2048 .bf16 from V m c main_v2) (ix2 k j)) ((show FVec Ideal S5632x2048 .f32 from m ((c : Thread nD τ).loc main_arg1)) (ix2 k j)) := by
  have h : @Eq (FVec Ideal S5632x2048 .bf16) (V m c main_v2) (truncf .bf16 (show FVec Ideal S5632x2048 .f32 from m ((c : Thread nD τ).loc main_arg1)) bitsLt_bf16_f32) := by
    entry_read; rfl
  rw [h]
  pointwise

/-- The staged residual, as the region finds it, at an index. -/
theorem V2_at (c : Dev nD) (R : Fin 32768) (j : Fin 2048) :
    @Eq EReal ((show FVec Ideal S32768x2048 .f32 from V m c main_v3) (ix2 R j)) ((show FVec Ideal S8x4096x2048 .f32 from m ((c : Thread nD τ).loc main_arg2)) (ix3 ⟨R.val / 4096, by omega⟩ ⟨R.val % 4096, Nat.mod_lt _ (by norm_num)⟩ j)) := by
  have h : @Eq (FVec Ideal S32768x2048 .f32) (V m c main_v3) (shapeCast S32768x2048 (show FVec Ideal S8x4096x2048 .f32 from m ((c : Thread nD τ).loc main_arg2)) shapeCasts_S8x4096x2048_S32768x2048) := by
    entry_read; rfl
  rw [h]
  pointwise

/-- The activation block: rows of the token tile. -/
theorem in0 (c : Dev nD) (t : Fin cfg0.N) (r : Fin 512) (k : Fin 5632) (R : Fin 32768) (hR : R.val = t.val % 64 * 512 + r.val) :
    @Eq EReal ((show FVec Ideal S512x5632 .bf16 from iblk m c 0 t) (ix2 r k)) ((show FVec Ideal S32768x5632 .bf16 from V m c main_v1) (ix2 R k)) := by
  blk_ext [iblk, idx t]

/-- The weight block: columns of the column tile. -/
theorem in1 (c : Dev nD) (t : Fin cfg0.N) (k : Fin 5632) (j : Fin 1024) (C : Fin 2048) (hC : C.val = t.val / 64 * 1024 + j.val) :
    @Eq EReal ((show FVec Ideal S5632x1024 .bf16 from iblk m c 1 t) (ix2 k j)) ((show FVec Ideal S5632x2048 .bf16 from V m c main_v2) (ix2 k C)) := by
  blk_ext [iblk, idx t]

/-- The residual block: the same place as the result's. -/
theorem in2 (c : Dev nD) (t : Fin cfg0.N) (r : Fin 512) (j : Fin 1024) (R : Fin 32768) (C : Fin 2048) (hR : R.val = t.val % 64 * 512 + r.val) (hC : C.val = t.val / 64 * 1024 + j.val) :
    @Eq EReal ((show FVec Ideal S512x1024 .f32 from iblk m c 2 t) (ix2 r j)) ((show FVec Ideal S32768x2048 .f32 from V m c main_v3) (ix2 R C)) := by
  blk_ext [iblk, idx t]

/-- What the body stores at an index of grid point `t`'s block is the reference at the place of that index in the array. -/
theorem point (c : Dev nD) (t : Fin cfg0.N) (y : S512x1024.Idx) (R : Fin 32768) (C : Fin 2048) (hR : R.val = t.val % 64 * 512 + (y 0).val) (hC : C.val = t.val / 64 * 1024 + (y 1).val) :
    k0_pay1 (iblk m c 0 t) (iblk m c 1 t) (iblk m c 2 t) y
    = REF (m ((c : Thread nD τ).loc main_arg0)) (m ((c : Thread nD τ).loc main_arg1)) (m ((c : Thread nD τ).loc main_arg2)) (ix2 R C) := by
  refine (pay_at _ _ _ y).trans (Eq.trans ?_ (REF_at _ _ _ (ix2 R C)).symm)
  refine Ideal.add_congr ?_ (Finset.sum_congr rfl fun k _ => Ideal.mul_congr ?_ ?_)
  · rw [show y = ix2 (y 0) (y 1) from eq_ix2 y]
    exact (in2 m c t (y 0) (y 1) R C hR hC).trans (V2_at m c R C)
  · exact (in0 m c t (y 0) k R hR).trans (V0_at m c R k)
  · exact (in1 m c t k (y 1) C hC).trans (V1_at m c k C)

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨ht, hb⟩ : t.val < 128 ∧ True := ⟨t.isLt, trivial⟩
  have h0 : (y 0).val < 512 := (y 0).isLt
  have h1 : (y 1).val < 1024 := (y 1).isLt
  refine (point m c t y ⟨t.val % 64 * 512 + (y 0).val, by omega⟩ ⟨t.val / 64 * 1024 + (y 1).val, by omega⟩ rfl rfl).trans (congrArg _ ?_)
  blk_ext [idx t]

end Cert.KernelIdeal.Value

end
-- ==== Proof.Out.lean ====
/- The array that `Kernel2Ideal`'s region leaves is the reference's term: the output projection of an attention layer added to the residual. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The reference's result, over the kernel's three arguments. -/
def REF (A : FVec Ideal S8x4096x16x128 .f32) (W : FVec Ideal S2048x2048 .f32) (X : FVec Ideal S8x4096x2048 .f32) : FVec Ideal S32768x2048 .f32 :=
  shapeCast Cert.Reference2Ideal.S32768x2048 (addf X (Host.dotGeneral Cert.Reference2Ideal.dot_S8x4096x2048_S2048x2048_S8x4096x2048_2_0_01_1_n_n none (shapeCast Cert.Reference2Ideal.S8x4096x2048 A Cert.Reference2Ideal.Gen.shapeCasts_S8x4096x16x128_S8x4096x2048) W)) Cert.Reference2Ideal.Gen.shapeCasts_S8x4096x2048_S32768x2048

/-- The body's payload at an index: the residual there plus the contraction of the activation row with the weight column. -/
theorem pay_at (a : FVec Ideal S1x2048x512 .bf16) (w : FVec Ideal S2048x2048 .bf16) (r : FVec Ideal S512x2048 .f32) (y : S512x2048.Idx) :
    k0_pay1 a w r y = r y + ∑ k : Fin 2048, a (ix3 0 k (y 0)) * w (ix2 k (y 1)) := by
  pointwise [k0_pay1]

/-- The reference's result at an index of the token-major array. -/
theorem REF_at (A : FVec Ideal S8x4096x16x128 .f32) (W : FVec Ideal S2048x2048 .f32) (X : FVec Ideal S8x4096x2048 .f32) (i : S32768x2048.Idx) :
    REF A W X i = X (ix3 ⟨(i 0).val / 4096, by idx_bounds; omega⟩ ⟨(i 0).val % 4096, Nat.mod_lt _ (by norm_num)⟩ (i 1))
      + ∑ k : Fin 2048, A (ix4 ⟨(i 0).val / 4096, by idx_bounds; omega⟩ ⟨(i 0).val % 4096, Nat.mod_lt _ (by norm_num)⟩ ⟨k.val / 128, by omega⟩ ⟨k.val % 128, Nat.mod_lt _ (by norm_num)⟩) * W (ix2 k (i 1)) := by
  pointwise [REF]

/-- The block each window stages at grid point `t`: row tile `t % 64`, column tile `t / 64`. -/
theorem idx : ∀ t : Fin cfg0.N, win0_0.index t = ![t.val / 8, 0, t.val % 8] ∧ win0_1.index t = ![0, 0] ∧ win0_2.index t = ![t.val, 0] ∧ win0_3.index t = ![t.val, 0] :=
  (by decide +kernel : ∀ t : Fin grid0.N, _)

/-- The staged left operand, as the region finds it, at an index. -/
theorem V0_at (c : Dev nD) (B : Fin 8) (k : Fin 2048) (s : Fin 4096) :
    @Eq EReal ((show FVec Ideal S8x2048x4096 .bf16 from V m c main_v2) (ix3 B k s)) ((show FVec Ideal S8x4096x16x128 .f32 from m ((c : Thread nD τ).loc main_arg0)) (ix4 B s ⟨k.val / 128, by omega⟩ ⟨k.val % 128, Nat.mod_lt _ (by norm_num)⟩)) := by
  have h : @Eq (FVec Ideal S8x2048x4096 .bf16) (V m c main_v2) (transpose S8x2048x4096 [0, 2, 1] (truncf .bf16 (shapeCast S8x4096x2048 (show FVec Ideal S8x4096x16x128 .f32 from m ((c : Thread nD τ).loc main_arg0)) shapeCasts_S8x4096x16x128_S8x4096x2048) bitsLt_bf16_f32) transposes_S8x4096x2048_S8x2048x4096_0_2_1) := by
    entry_read; rfl
  rw [h]
  pointwise

/-- The staged weight, as the region finds it. -/
theorem V1_at (c : Dev nD) (k : Fin 2048) (j : Fin 2048) :
    @Eq EReal ((show FVec Ideal S2048x2048 .bf16 from V m c main_v3) (ix2 k j)) ((show FVec Ideal S2048x2048 .f32 from m ((c : Thread nD τ).loc main_arg1)) (ix2 k j)) := by
  have h : @Eq (FVec Ideal S2048x2048 .bf16) (V m c main_v3) (truncf .bf16 (show FVec Ideal S2048x2048 .f32 from m ((c : Thread nD τ).loc main_arg1)) bitsLt_bf16_f32) := by
    entry_read; rfl
  rw [h]
  pointwise

/-- The staged residual, as the region finds it, at an index. -/
theorem V2_at (c : Dev nD) (R : Fin 32768) (j : Fin 2048) :
    @Eq EReal ((show FVec Ideal S32768x2048 .f32 from V m c main_v4) (ix2 R j)) ((show FVec Ideal S8x4096x2048 .f32 from m ((c : Thread nD τ).loc main_arg2)) (ix3 ⟨R.val / 4096, by omega⟩ ⟨R.val % 4096, Nat.mod_lt _ (by norm_num)⟩ j)) := by
  have h : @Eq (FVec Ideal S32768x2048 .f32) (V m c main_v4) (shapeCast S32768x2048 (show FVec Ideal S8x4096x2048 .f32 from m ((c : Thread nD τ).loc main_arg2)) shapeCasts_S8x4096x2048_S32768x2048) := by
    entry_read; rfl
  rw [h]
  pointwise

/-- The attention block: the tokens of the tile, all features. -/
theorem in0 (c : Dev nD) (t : Fin cfg0.N) (k : Fin 2048) (r : Fin 512) (B : Fin 8) (s : Fin 4096) (hB : B.val = t.val / 8) (hs : s.val = t.val % 8 * 512 + r.val) :
    @Eq EReal ((show FVec Ideal S1x2048x512 .bf16 from iblk m c 0 t) (ix3 0 k r)) ((show FVec Ideal S8x2048x4096 .bf16 from V m c main_v2) (ix3 B k s)) := by
  blk_ext [iblk, idx t]

/-- The weight block is the whole weight. -/
theorem in1 (c : Dev nD) (t : Fin cfg0.N) (k : Fin 2048) (j : Fin 2048) (C : Fin 2048) (hC : C.val = j.val) :
    @Eq EReal ((show FVec Ideal S2048x2048 .bf16 from iblk m c 1 t) (ix2 k j)) ((show FVec Ideal S2048x2048 .bf16 from V m c main_v3) (ix2 k C)) := by
  blk_ext [iblk, idx t]

/-- The residual block: the same place as the result's. -/
theorem in2 (c : Dev nD) (t : Fin cfg0.N) (r : Fin 512) (j : Fin 2048) (R : Fin 32768) (C : Fin 2048) (hR : R.val = t.val * 512 + r.val) (hC : C.val = j.val) :
    @Eq EReal ((show FVec Ideal S512x2048 .f32 from iblk m c 2 t) (ix2 r j)) ((show FVec Ideal S32768x2048 .f32 from V m c main_v4) (ix2 R C)) := by
  blk_ext [iblk, idx t]

/-- What the body stores at an index of grid point `t`'s block is the reference at the place of that index in the array. -/
theorem point (c : Dev nD) (t : Fin cfg0.N) (y : S512x2048.Idx) (R : Fin 32768) (C : Fin 2048) (hR : R.val = t.val * 512 + (y 0).val) (hC : C.val = (y 1).val) :
    k0_pay1 (iblk m c 0 t) (iblk m c 1 t) (iblk m c 2 t) y
    = REF (m ((c : Thread nD τ).loc main_arg0)) (m ((c : Thread nD τ).loc main_arg1)) (m ((c : Thread nD τ).loc main_arg2)) (ix2 R C) := by
  refine (pay_at _ _ _ y).trans (Eq.trans ?_ (REF_at _ _ _ (ix2 R C)).symm)
  refine Ideal.add_congr ?_ (Finset.sum_congr rfl fun k _ => Ideal.mul_congr ?_ ?_)
  · rw [show y = ix2 (y 0) (y 1) from eq_ix2 y]
    exact (in2 m c t (y 0) (y 1) R C hR hC).trans (V2_at m c R C)
  · exact (in0 m c t k (y 0) ⟨R.val / 4096, by omega⟩ ⟨R.val % 4096, Nat.mod_lt _ (by norm_num)⟩ (by have : (y 0).val < 512 := (y 0).isLt; simp only [hR]; omega) (by have : (y 0).val < 512 := (y 0).isLt; simp only [hR]; omega)).trans (V0_at m c _ k _)
  · exact (in1 m c t k (y 1) C hC).trans (V1_at m c k C)

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨ht, hb⟩ : t.val < 64 ∧ True := ⟨t.isLt, trivial⟩
  have h0 : (y 0).val < 512 := (y 0).isLt
  have h1 : (y 1).val < 2048 := (y 1).isLt
  refine (point m c t y ⟨t.val * 512 + (y 0).val, by omega⟩ ⟨(y 1).val, by omega⟩ rfl rfl).trans (congrArg _ ?_)
  blk_ext [idx t]

end Cert.Kernel2Ideal.Value

end
-- ==== Proof.BandMath.lean ====
/- The arithmetic of one query of the band attention, over the extended reals: a softmax over 256 lanes in base two, with the logits scaled by `1 / log 2`, against a softmax over a whole
   row in base e whose entries outside the lanes are masked. -/
module

public import Idealize.ShloMosaic.Lib.Pipeline.ValueKit
public import Idealize.ShloMosaic.Lib.Pointwise

@[expose] public section

noncomputable section

namespace Cert.Band

open Idealize.ShloMosaic

/-- The reciprocal of the natural logarithm of two. -/
abbrev L2 : ℝ := (Real.log 2)⁻¹

/-- The reciprocal of the logarithm of two is positive. -/
theorem L2_pos : 0 < L2 := inv_pos.2 (Real.log_pos (by norm_num))

/-- The maximum of a row, as a reduction folds it, is its supremum. -/
theorem fold_max_sup {n : ℕ} (f : Fin n → EReal) : Finset.univ.fold max ⊥ f = Finset.univ.sup f := rfl

/-- Scaling by a nonnegative finite number goes through a sum of extended reals. -/
theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

/-- A logit in base two less the maximum in base two, raised from base two, is the exponential of the difference in base e. -/
theorem exp2_sub (x : EReal) (hx : x ≠ ⊤) (μ : ℝ) : Ideal.exp2 (x * (L2 : EReal) - (μ : EReal) * (L2 : EReal)) = Ideal.exp (x - (μ : EReal)) := by
  induction x using EReal.rec with
  | bot =>
    rw [EReal.bot_mul_coe_of_pos L2_pos, ← EReal.coe_mul, EReal.bot_sub, EReal.bot_sub]; rfl
  | top => exact absurd rfl hx
  | coe r =>
    rw [← EReal.coe_mul, ← EReal.coe_mul, ← EReal.coe_sub, ← EReal.coe_sub, Ideal.exp2_coe, Ideal.exp_coe]
    refine congrArg _ ?_
    show (2 : ℝ) ^ (r * L2 - μ * L2) = _
    rw [Real.rpow_def_of_pos (by norm_num)]
    congr 1
    have h : Real.log 2 ≠ 0 := (Real.log_pos (by norm_num)).ne'
    simp only [L2]; field_simp

variable {n N : ℕ} {φ : Fin n → Fin N} {x : Fin N → EReal} {s : Fin n → EReal}

/-- What the lemmas of one row assume: the lanes `s` are the row's entries at `φ` in base two, the row's other entries are masked, no entry is `⊤` and one is not masked. -/
structure Row (φ : Fin n → Fin N) (x : Fin N → EReal) (s : Fin n → EReal) : Prop where
  inj : Function.Injective φ
  out : ∀ j, j ∉ Set.range φ → x j = ⊥
  lane : ∀ c, s c = x (φ c) * (L2 : EReal)
  top : ∀ j, x j ≠ ⊤
  bot : ∃ j, x j ≠ ⊥

/-- The row's maximum. -/
abbrev rmax (x : Fin N → EReal) : EReal := Finset.univ.fold max ⊥ x

/-- The row's maximum is a real number. -/
theorem Row.max_real (h : Row φ x s) : ∃ μ : ℝ, rmax x = μ := by
  obtain ⟨j, hj⟩ := h.bot
  have h1 : rmax x ≠ ⊥ := fun e => hj (le_bot_iff.1 (e ▸ (Finset.le_sup (f := x) (Finset.mem_univ j))))
  have h2 : rmax x ≠ ⊤ := by
    intro e
    haveI : Nonempty (Fin N) := ⟨j⟩
    obtain ⟨i, -, hi⟩ := Finset.exists_mem_eq_sup Finset.univ Finset.univ_nonempty x
    exact h.top i (hi.symm.trans e)
  exact ⟨(rmax x).toReal, (EReal.coe_toReal h2 h1).symm⟩

/-- The lanes' maximum is the row's in base two. -/
theorem Row.max_eq (h : Row φ x s) : rmax s = rmax x * (L2 : EReal) := by
  have hL : (0 : EReal) ≤ (L2 : EReal) := EReal.coe_nonneg.2 L2_pos.le
  refine le_antisymm (Finset.sup_le fun c _ => ?_) ?_
  · rw [h.lane]; exact mul_le_mul_of_nonneg_right (Finset.le_sup (f := x) (Finset.mem_univ _)) hL
  · obtain ⟨j, hj⟩ := h.bot
    haveI : Nonempty (Fin N) := ⟨j⟩
    obtain ⟨i, -, hi⟩ := Finset.exists_mem_eq_sup Finset.univ Finset.univ_nonempty x
    show Finset.univ.sup x * _ ≤ _
    rw [hi]
    by_cases hr : i ∈ Set.range φ
    · obtain ⟨c, rfl⟩ := hr
      rw [← h.lane]; exact Finset.le_sup (f := s) (Finset.mem_univ c)
    · rw [h.out i hr, EReal.bot_mul_coe_of_pos L2_pos]; exact bot_le

/-- The row's unnormalised weight. -/
abbrev wt (x : Fin N → EReal) (j : Fin N) : EReal := Ideal.exp (x j - rmax x)

/-- The lanes' weights are the row's. -/
theorem Row.wt_eq (h : Row φ x s) (c : Fin n) : Ideal.exp2 (s c - rmax s) = wt x (φ c) := by
  obtain ⟨μ, hμ⟩ := h.max_real
  rw [h.max_eq, h.lane, wt, hμ]; exact exp2_sub _ (h.top _) μ

/-- A weight is a nonnegative real number. -/
theorem Row.wt_real (h : Row φ x s) (j : Fin N) : ∃ r : ℝ, 0 ≤ r ∧ wt x j = r := by
  obtain ⟨μ, hμ⟩ := h.max_real
  unfold wt; rw [hμ]
  rcases hx : x j with _ | _ | r
  · exact ⟨0, le_rfl, by show Ideal.exp (⊥ - _) = _; rw [EReal.bot_sub]; rfl⟩
  · exact absurd hx (h.top j)
  · exact ⟨Real.exp (r - μ), (Real.exp_pos _).le, rfl⟩

/-- A masked entry has weight zero. -/
theorem Row.wt_out (h : Row φ x s) (j : Fin N) (hj : j ∉ Set.range φ) : wt x j = 0 := by
  obtain ⟨μ, hμ⟩ := h.max_real
  unfold wt; rw [hμ, h.out j hj, EReal.bot_sub]; rfl

/-- The row's denominator. -/
abbrev rden (x : Fin N → EReal) : EReal := ∑ j, wt x j

/-- The denominator is a real number, at least one. -/
theorem Row.den_real (h : Row φ x s) : ∃ d : ℝ, 1 ≤ d ∧ rden x = d := by
  choose r hr0 hr using h.wt_real
  refine ⟨∑ j, r j, ?_, ?_⟩
  · obtain ⟨j, hj⟩ := h.bot
    haveI : Nonempty (Fin N) := ⟨j⟩
    obtain ⟨i, -, hi⟩ := Finset.exists_mem_eq_sup Finset.univ Finset.univ_nonempty x
    obtain ⟨μ, hμ⟩ := h.max_real
    have h1 : r i = 1 := by
      have hxi : x i = μ := hi.symm.trans hμ
      have := hr i
      unfold wt at this
      rw [hμ, hxi, ← EReal.coe_sub, sub_self, Ideal.exp_coe, Real.exp_zero] at this
      exact (EReal.coe_eq_coe_iff.1 this).symm
    exact h1 ▸ Finset.single_le_sum (f := r) (fun j _ => hr0 j) (Finset.mem_univ i)
  · rw [rden, Finset.sum_congr rfl fun j _ => hr j]
    exact (map_sum (⟨⟨Real.toEReal, rfl⟩, EReal.coe_add⟩ : ℝ →+ EReal) _ _).symm

/-- The lanes' sum of weights is the row's denominator. -/
theorem Row.den_eq (h : Row φ x s) : ∑ c, Ideal.exp2 (s c - rmax s) = rden x :=
  Fintype.sum_of_injective φ h.inj _ _ (h.wt_out) h.wt_eq

/-- Division by a real number that is at least one is a product with its reciprocal. -/
theorem div_real (a : EReal) {d : ℝ} (hd : 1 ≤ d) : Ideal.div a d = a * ((d⁻¹ : ℝ) : EReal) := by
  have h0 : (d : EReal) ≠ 0 := by
    intro e; have := EReal.coe_eq_zero.1 e; linarith
  unfold Ideal.div; rw [if_neg h0, EReal.coe_inv]

/-- The attention's output: the lanes' weighted sum times the reciprocal of their sum is the row's normalised sum. -/
theorem Row.out_eq (h : Row φ x s) (V : Fin N → EReal) (ε : EReal) (hε : ε ≤ 1) :
    (∑ c, V (φ c) * Ideal.exp2 (s c - rmax s)) * Ideal.div 1 (∑ c, Ideal.exp2 (s c - rmax s))
      = ∑ j, Ideal.div (wt x j) (max (rden x) ε) * V j := by
  obtain ⟨d, hd, e⟩ := h.den_real
  have h1 : max (rden x) ε = (d : EReal) := by
    rw [e]; exact max_eq_left (hε.trans (by exact_mod_cast hd))
  rw [h1, h.den_eq, e, div_real 1 hd, one_mul, sum_mul_real _ _ (inv_nonneg.2 (by linarith))]
  refine Fintype.sum_of_injective φ h.inj _ _ (fun j hj => ?_) fun c => ?_
  · rw [h.wt_out j hj, div_real _ hd, zero_mul, zero_mul]
  · rw [h.wt_eq, div_real _ hd]; ac_rfl

/-- The logarithm of the denominator in base two: the lanes' is the row's over `log 2`. -/
theorem Row.lse_eq (h : Row φ x s) :
    rmax s + Ideal.log (∑ c, Ideal.exp2 (s c - rmax s)) * (L2 : EReal)
      = Ideal.div ((if ⊥ < rmax x then rmax x else 0) + Ideal.log (rden x)) ((Real.log 2 : ℝ) : EReal) := by
  obtain ⟨d, hd, e⟩ := h.den_real
  obtain ⟨μ, hμ⟩ := h.max_real
  have hl : Ideal.log (d : EReal) = (Real.log d : ℝ) := by rw [Ideal.log_coe, if_neg (by linarith)]
  have h2 : ((Real.log 2 : ℝ) : EReal) ≠ 0 := by
    intro e; exact (Real.log_pos (by norm_num : (1 : ℝ) < 2)).ne' (EReal.coe_eq_zero.1 e)
  rw [h.den_eq, e, h.max_eq, hμ, hl, if_pos (EReal.bot_lt_coe μ), Ideal.div, if_neg h2, ← EReal.coe_inv]
  norm_cast
  ring

end Cert.Band

end
-- ==== Proof.BandGather.lean ====
/- A table `[N, C]` gathered by one row index per place of an array `[A, B]`: the result at `(a, b, c)` is the table at the row the index at `(a, b)` names. -/
module

public import Idealize.ShloMosaic.Lib.Pipeline.ValueKit
public import Idealize.ShloMosaic.Lib.Pointwise

@[expose] public section

noncomputable section

namespace Cert.Band

open Idealize.ShloMosaic

/-- The dimension numbers of a lookup of whole rows of a table `[N, C]` at an array of row numbers `[A, B, 1]`. -/
abbrev lookDims (N C A B : Nat) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The lookup at `(a, b, c)`: the table at the row whose number stands at `(a, b)`, read signed and clamped into the table. -/
theorem look_at {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (c : Fin C) :
    Host.gather (lookDims N C A B wf) x idx (ix3 a b c)
      = x (ix2 ⟨min (idx (ix3 a b 0)).toInt.toNat (N - 1), by omega⟩ c) := by
  unfold Host.gather
  refine congrArg x (funext fun e => Fin.ext ?_)
  show (lookDims N C A B wf).start (ix3 a b c) idx e + (lookDims N C A B wf).batchCoord (ix3 a b c) e
      + (lookDims N C A B wf).offCoord (ix3 a b c) e = _
  rw [GatherDims.batchCoord_eq_zero _ _ _ List.not_mem_nil, Nat.add_zero]
  have h01 : e = 0 ∨ e = 1 := by
    match e with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (lookDims N C A B wf).startIndexMap from List.mem_singleton.mpr rfl)]
    have hsi : (lookDims N C A B wf).siIdx (ix3 a b c) ⟨List.idxOf (0 : Fin 2) (lookDims N C A B wf).startIndexMap,
        List.idxOf_lt_length_iff.2 (List.mem_singleton.mpr rfl)⟩ = ix3 a b 0 := by
      funext f; refine Fin.ext ?_
      match f with
      | ⟨0, _⟩ => rfl
      | ⟨1, _⟩ => rfl
      | ⟨2, _⟩ => rfl
    rw [hsi]
    rfl
  · unfold GatherDims.start
    rw [dif_neg (show ¬ ((1 : Fin 2) ∈ (lookDims N C A B wf).startIndexMap) from fun h => by
      have := List.mem_singleton.mp h; exact Nat.one_ne_zero (congrArg Fin.val this)), Nat.zero_add]
    unfold GatherDims.offCoord
    rw [dif_pos ((GatherDims.mem_sKept (lookDims N C A B wf) (1 : Fin 2)).mpr
      ⟨fun h => by have := List.mem_singleton.mp h; exact Nat.one_ne_zero (congrArg Fin.val this), List.not_mem_nil⟩)]
    rfl

end Cert.Band
-- ==== Proof.BandRef.lean ====
/- The reference attention of a query: what its printed run computes, read at one place of each result. -/
module

public import proofs.«01_k».proof.Proof.Gen.Reference3Ideal.Run
public import proofs.«01_k».proof.Proof.BandMath
public import proofs.«01_k».proof.Proof.BandGather

@[expose] public section

set_option maxRecDepth 16384

noncomputable section

namespace Cert.Reference3Ideal.Value

open Cert.Reference3Ideal Cert.Reference3Ideal.Gen Idealize.ShloMosaic Idealize.ShloMosaic.TcCoe Idealize.SL.Sem

/-- How many positions each query stands after each key. -/
def ST : IVec S4096x4096 32 :=
  subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))

/-- A word at every place. -/
def CI (n : BitVec 32) : IVec S4096x4096 32 := broadcastInDim S4096x4096 ![] bcast_S_S4096x4096 (constantI S_ 32 n)

/-- A number at every place. -/
def CF (n : BitVec 32) : FVec Ideal S4096x4096 .f32 := broadcastInDim S4096x4096 ![] bcast_S_S4096x4096 (constant S_ .f32 n)

/-- The bias bucket of every distance. -/
def BK (st : IVec S4096x4096 32) : IVec S4096x4096 32 :=
  select (cmpi .slt (maxsi st (CI 0#32)) (CI 16#32)) (maxsi st (CI 0#32)) (minsi (addi (CI 16#32) (fptosi 32 (mulf (Host.divf (Host.log (Host.divf (sitofp .f32 (maxsi (maxsi st (CI 0#32)) (CI 1#32))) (CF 0x41800000#32))) (CF 0x40B17218#32)) (CF 0x41800000#32)))) (CI 31#32))

/-- The table row of every bucket. -/
def WR (b : IVec S4096x4096 32) : IVec S4096x4096 32 := select (cmpi .slt b (CI 0#32)) (addi b (CI 32#32)) b

/-- Which keys a query reads. -/
def MK : IVec S4096x4096 1 := andi (cmpi .sge ST (CI 0#32)) (cmpi .sle ST (CI 128#32))

/-- The scaled scores. -/
def LG (Q : FVec Ideal S8x4096x16x128 .f32) (K : FVec Ideal S8x4096x4x128 .f32) : FVec Ideal S8x4x4x4096x4096 .f32 :=
  mulf (transpose S8x4x4x4096x4096 [0, 1, 4, 3, 2] (Host.dotGeneral dot_S8x4096x4x128_S8x4096x4x4x128_S8x4x4096x4096x4_3_4_1_13_02_02 none K (shapeCast _ Q shapeCasts_S8x4096x16x128_S8x4096x4x4x128)) transposes_S8x4x4096x4096x4_S8x4x4x4096x4096_0_1_4_3_2) (broadcastInDim S8x4x4x4096x4096 ![] bcast_S_S8x4x4x4096x4096 (constant S_ .f32 0x3DB504F3#32))

/-- The bias gathered from the table. -/
def GA (T : FVec Ideal S32x16 .f32) : FVec Ideal S4096x4096x16 .f32 :=
  Host.gather gather_S32x16_S4096x4096x1_S4096x4096x16_2_0_n_n_0_2_116 T (broadcastInDim S4096x4096x1 ![0, 1] bcast_S4096x4096_S4096x4096x1_0_1 (WR (BK ST)))

/-- The masked logits, with the bias already gathered. -/
def XG (Q : FVec Ideal S8x4096x16x128 .f32) (K : FVec Ideal S8x4096x4x128 .f32) (mk : IVec S4096x4096 1) (ga : FVec Ideal S4096x4096x16 .f32) : FVec Ideal S8x4x4x4096x4096 .f32 :=
  select (broadcastInDim S8x4x4x4096x4096 ![3, 4] bcast_S4096x4096_S8x4x4x4096x4096_3_4 mk) (addf (LG Q K) (broadcastInDim S8x4x4x4096x4096 ![0, 1, 2, 3, 4] bcast_S1x4x4x4096x4096_S8x4x4x4096x4096_0_1_2_3_4 (broadcastInDim S1x4x4x4096x4096 ![1, 2, 3, 4] bcast_S4x4x4096x4096_S1x4x4x4096x4096_1_2_3_4 (transpose S4x4x4096x4096 [2, 3, 0, 1] (shapeCast _ ga shapeCasts_S4096x4096x16_S4096x4096x4x4) transposes_S4096x4096x4x4_S4x4x4096x4096_2_3_0_1)))) (broadcastInDim S8x4x4x4096x4096 ![] bcast_S_S8x4x4x4096x4096 (id (constant S_ .f32 0xFF800000#32)))

/-- The masked logits. -/
def XX (Q : FVec Ideal S8x4096x16x128 .f32) (K : FVec Ideal S8x4096x4x128 .f32) (T : FVec Ideal S32x16 .f32) : FVec Ideal S8x4x4x4096x4096 .f32 := XG Q K MK (GA T)

/-- The largest logit of each row. -/
def M0 (X : FVec Ideal S8x4x4x4096x4096 .f32) : FVec Ideal S8x4x4x4096x1 .f32 :=
  broadcastInDim S8x4x4x4096x1 ![0, 1, 2, 3] bcast_S8x4x4x4096_S8x4x4x4096x1_0_1_2_3 (Host.reduce FloatOps.maximumf X (constant S_ .f32 0xFF800000#32) reducesTo_S8x4x4x4096x4096_S8x4x4x4096_d4 h_S_)

/-- The shift of a row with a given maximum. -/
def SH (M : FVec Ideal S8x4x4x4096x1 .f32) : FVec Ideal S8x4x4x4096x1 .f32 :=
  select (cmpf .ogt M (broadcastInDim S8x4x4x4096x1 ![] bcast_S_S8x4x4x4096x1 (constant S_ .f32 0xFF800000#32))) M (broadcastInDim S8x4x4x4096x1 ![] bcast_S_S8x4x4x4096x1 (id (constant S_ .f32 0x00000000#32)))

/-- The shift of each row. -/
def M1 (X : FVec Ideal S8x4x4x4096x4096 .f32) : FVec Ideal S8x4x4x4096x1 .f32 := SH (M0 X)

/-- The weights of each row before they are normalised. -/
def EE (X : FVec Ideal S8x4x4x4096x4096 .f32) : FVec Ideal S8x4x4x4096x4096 .f32 :=
  Host.exp (subf X (broadcastInDim S8x4x4x4096x4096 ![0, 1, 2, 3, 4] bcast_S8x4x4x4096x1_S8x4x4x4096x4096_0_1_2_3_4 (M1 X)))

/-- The sum of each row's weights. -/
def DD (E : FVec Ideal S8x4x4x4096x4096 .f32) : FVec Ideal S8x4x4x4096x1 .f32 :=
  broadcastInDim S8x4x4x4096x1 ![0, 1, 2, 3] bcast_S8x4x4x4096_S8x4x4x4096x1_0_1_2_3 (Host.reduceAdd E (constant S_ .f32 0x00000000#32) reducesTo_S8x4x4x4096x4096_S8x4x4x4096_d4 h_S_)

/-- The normalised weights. -/
def PP (E : FVec Ideal S8x4x4x4096x4096 .f32) (D : FVec Ideal S8x4x4x4096x1 .f32) : FVec Ideal S8x4x4x4096x4096 .f32 :=
  Host.divf E (broadcastInDim S8x4x4x4096x4096 ![0, 1, 2, 3, 4] bcast_S8x4x4x4096x1_S8x4x4x4096x4096_0_1_2_3_4 (maximumf D (broadcastInDim S8x4x4x4096x1 ![] bcast_S_S8x4x4x4096x1 (constant S_ .f32 0x0DA24260#32))))

/-- The weighted values, in the layout of the result. -/
def OO (V : FVec Ideal S8x4096x4x128 .f32) (P : FVec Ideal S8x4x4x4096x4096 .f32) : FVec Ideal S8x2048x4096 .bf16 :=
  truncf .bf16 (transpose S8x2048x4096 [0, 2, 1] (shapeCast _ (transpose S8x4096x4x4x128 [0, 4, 1, 3, 2] (Host.dotGeneral dot_S8x4096x4x128_S8x4x4x4096x4096_S8x4x128x4x4096_1_4_3_23_02_01 none V P) transposes_S8x4x128x4x4096_S8x4096x4x4x128_0_4_1_3_2) shapeCasts_S8x4096x4x4x128_S8x4096x2048) transposes_S8x4096x2048_S8x2048x4096_0_2_1) bitsLt_bf16_f32

/-- The log of each row's normaliser, in base two. -/
def LS (M D : FVec Ideal S8x4x4x4096x1 .f32) : FVec Ideal S8x4x4x4096 .f32 :=
  Host.divf (shapeCast _ (addf M (Host.log D)) shapeCasts_S8x4x4x4096x1_S8x4x4x4096) (broadcastInDim S8x4x4x4096 ![] bcast_S_S8x4x4x4096 (Host.log (constant S_ .f32 0x40000000#32)))

variable (m : (ℓ : Loc nD τ sig) → Buf (Elt Ideal) ℓ)

/-- The first result is the weighted values of the arguments. -/
theorem res0 (c : Dev nD) : res_main_v70 m c = (OO (m ((c.tc : Thread nD τ).loc main_arg2)) (PP (EE (XX (m ((c.tc : Thread nD τ).loc main_arg0)) (m ((c.tc : Thread nD τ).loc main_arg1)) (m ((c.tc : Thread nD τ).loc main_arg3))))
    (DD (EE (XX (m ((c.tc : Thread nD τ).loc main_arg0)) (m ((c.tc : Thread nD τ).loc main_arg1)) (m ((c.tc : Thread nD τ).loc main_arg3)))))) : FVec Ideal S8x2048x4096 .bf16) := rfl

/-- The second result is the log of the normaliser of the arguments. -/
theorem res1 (c : Dev nD) : res_main_v73 m c = (LS (M1 (XX (m ((c.tc : Thread nD τ).loc main_arg0)) (m ((c.tc : Thread nD τ).loc main_arg1)) (m ((c.tc : Thread nD τ).loc main_arg3))))
    (DD (EE (XX (m ((c.tc : Thread nD τ).loc main_arg0)) (m ((c.tc : Thread nD τ).loc main_arg1)) (m ((c.tc : Thread nD τ).loc main_arg3))))) : FVec Ideal S8x4x4x4096 .f32) := rfl

/-- The natural logarithm of the word of 2. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe]; norm_num

/-- The word of minus infinity. -/
theorem word_bot : Ideal.ofBits .f32 0xFF800000#32 = (⊥ : EReal) := by simp [Ideal.ofBits, Ideal.ieee]

/-- The gathered bias at a query, a key and a head. -/
theorem GA_at (T : FVec Ideal S32x16 .f32) (q k : Fin 4096) (h : Fin 16) :
    GA T (ix3 q k h) = T (ix2 ⟨min (WR (BK ST) (ix2 q k)).toInt.toNat 31, by omega⟩ h) := by
  refine (Cert.Band.look_at (by decide) gather_S32x16_S4096x4096x1_S4096x4096x16_2_0_n_n_0_2_116.wf T _ q k h).trans ?_
  rfl

/-- A masked logit. -/
theorem XG_at (Q : FVec Ideal S8x4096x16x128 .f32) (K : FVec Ideal S8x4096x4x128 .f32) (mk : IVec S4096x4096 1) (ga : FVec Ideal S4096x4096x16 .f32)
    (b : Fin 8) (g r : Fin 4) (h : Fin 16) (hh : h.val = 4 * g.val + r.val) (q k : Fin 4096) :
    XG Q K mk ga (ix5 b g r q k) = if mk (ix2 q k) = 1#1 then (∑ d : Fin 128, K (ix4 b k g d) * Q (ix4 b q h d)) * Ideal.ofBits .f32 0x3DB504F3#32 + ga (ix3 q k h) else ⊥ := by
  pointwise [XG, LG]
  have e : (⟨g.val * 4 + r.val, by omega⟩ : Fin 16) = h := Fin.ext (by show g.val * 4 + r.val = h.val; omega)
  simp only [e]
  show (if mk (ix2 q k) = 1#1 then _ else Ideal.ofBits .f32 0xFF800000#32) = _
  rw [word_bot]

/-- The largest logit of a row. -/
theorem M0_at (X : FVec Ideal S8x4x4x4096x4096 .f32) (b : Fin 8) (g r : Fin 4) (q : Fin 4096) :
    M0 X (ix5 b g r q 0) = Finset.univ.fold max (Ideal.ofBits .f32 0xFF800000#32) (fun j => X (ix5 b g r q j)) := by
  pointwise [M0]

/-- The shift of a row with a given maximum, at its place. -/
theorem SH_at (M : FVec Ideal S8x4x4x4096x1 .f32) (b : Fin 8) (g r : Fin 4) (q : Fin 4096) :
    SH M (ix5 b g r q 0) = if ⊥ < M (ix5 b g r q 0) then M (ix5 b g r q 0) else 0 := by
  pointwise [SH]
  rw [word_bot]
  refine congrArg (fun z : EReal => if ⊥ < M (ix5 b g r q 0) then M (ix5 b g r q 0) else z) ?_
  exact Ideal.ofBits_zero_f32

/-- The shift of a row. -/
theorem M1_at (X : FVec Ideal S8x4x4x4096x4096 .f32) (b : Fin 8) (g r : Fin 4) (q : Fin 4096) :
    M1 X (ix5 b g r q 0) = if ⊥ < Cert.Band.rmax (fun j => X (ix5 b g r q j)) then Cert.Band.rmax (fun j => X (ix5 b g r q j)) else 0 := by
  have h : M0 X (ix5 b g r q 0) = Cert.Band.rmax (fun j => X (ix5 b g r q j)) := (M0_at X b g r q).trans (by rw [word_bot, Cert.Band.rmax])
  have h2 := SH_at (M0 X) b g r q
  rw [h] at h2
  exact h2

/-- A weight before normalising: the exponential of the logit less the row's maximum. -/
theorem EE_at (X : FVec Ideal S8x4x4x4096x4096 .f32) (b : Fin 8) (g r : Fin 4) (q k : Fin 4096) :
    EE X (ix5 b g r q k) = Ideal.exp (X (ix5 b g r q k) - M1 X (ix5 b g r q 0)) := by
  pointwise [EE]

/-- A row's denominator is the sum of its weights. -/
theorem DD_at (X : FVec Ideal S8x4x4x4096x4096 .f32) (b : Fin 8) (g r : Fin 4) (q : Fin 4096) :
    DD X (ix5 b g r q 0) = ∑ k : Fin 4096, X (ix5 b g r q k) := by
  pointwise [DD]

/-- A weight over the denominator, kept from zero. -/
theorem PP_at (X : FVec Ideal S8x4x4x4096x4096 .f32) (D : FVec Ideal S8x4x4x4096x1 .f32) (b : Fin 8) (g r : Fin 4) (q k : Fin 4096) :
    PP X D (ix5 b g r q k) = Ideal.div (X (ix5 b g r q k)) (max (D (ix5 b g r q 0)) (Ideal.ofBits .f32 0x0DA24260#32)) := by
  pointwise [PP]

/-- An output is the sum of the values, weighted. -/
theorem OO_at (V : FVec Ideal S8x4096x4x128 .f32) (P : FVec Ideal S8x4x4x4096x4096 .f32) (b : Fin 8) (g r : Fin 4) (d : Fin 128) (q : Fin 4096) (n : Fin 2048)
    (hn : n.val = 512 * g.val + 128 * r.val + d.val) :
    OO V P (ix3 b n q) = ∑ k : Fin 4096, V (ix4 b k g d) * P (ix5 b g r q k) := by
  pointwise [OO]
  have e1 : (⟨n.val / 512, by omega⟩ : Fin 4) = g := Fin.ext (by show n.val / 512 = g.val; omega)
  have e2 : (⟨n.val % 128, by omega⟩ : Fin 128) = d := Fin.ext (by show n.val % 128 = d.val; omega)
  have e3 : (⟨n.val / 128 % 4, by omega⟩ : Fin 4) = r := Fin.ext (by show n.val / 128 % 4 = r.val; omega)
  simp only [e1, e2, e3]

/-- The log of the normaliser over the log of two. -/
theorem LS_at (M D : FVec Ideal S8x4x4x4096x1 .f32) (b : Fin 8) (g r : Fin 4) (q : Fin 4096) :
    LS M D (ix4 b g r q) = Ideal.div (M (ix5 b g r q 0) + Ideal.log (D (ix5 b g r q 0))) (Real.log 2 : ℝ) := by
  pointwise [LS]
  rw [log_two]

end Cert.Reference3Ideal.Value
-- ==== Proof.BandRow.lean ====
/- One query's row of the reference attention, and the lanes of a kernel unit that hold it. -/
module

public import proofs.«01_k».proof.Proof.BandRef
public import Idealize.ShloMosaic.Lib.ReduceAll

@[expose] public section

set_option maxRecDepth 16384

noncomputable section

namespace Cert.Reference3Ideal.Value

open Cert.Reference3Ideal Cert.Reference3Ideal.Gen Idealize.ShloMosaic Idealize.ShloMosaic.TcCoe Idealize.SL.Sem
open Cert.Band

section
variable (X : FVec Ideal S8x4x4x4096x4096 .f32) (b : Fin 8) (g r : Fin 4) (q : Fin 4096)

/-- A row whose largest logit is a real number is shifted by it. -/
theorem shift_row (h : ∃ μ : ℝ, rmax (fun j => X (ix5 b g r q j)) = μ) : M1 X (ix5 b g r q 0) = rmax (fun j => X (ix5 b g r q j)) := by
  obtain ⟨μ, h⟩ := h
  rw [M1_at, h, if_pos (EReal.bot_lt_coe μ)]

/-- The weight of a key in such a row. -/
theorem weight_row (h : ∃ μ : ℝ, rmax (fun j => X (ix5 b g r q j)) = μ) (k : Fin 4096) :
    EE X (ix5 b g r q k) = wt (fun j => X (ix5 b g r q j)) k := by
  rw [EE_at, shift_row X b g r q h]

/-- The sum of the weights of such a row. -/
theorem den_row (h : ∃ μ : ℝ, rmax (fun j => X (ix5 b g r q j)) = μ) :
    DD (EE X) (ix5 b g r q 0) = rden (fun j => X (ix5 b g r q j)) := by
  rw [DD_at]
  exact Finset.sum_congr rfl fun k _ => weight_row X b g r q h k

/-- The output of such a row at one feature. -/
theorem out_row (V : FVec Ideal S8x4096x4x128 .f32) (d : Fin 128) (n : Fin 2048) (hn : n.val = 512 * g.val + 128 * r.val + d.val)
    (h : ∃ μ : ℝ, rmax (fun j => X (ix5 b g r q j)) = μ) :
    OO V (PP (EE X) (DD (EE X))) (ix3 b n q)
      = ∑ j, Ideal.div (wt (fun j => X (ix5 b g r q j)) j) (max (rden (fun j => X (ix5 b g r q j))) (Ideal.ofBits .f32 0x0DA24260#32)) * V (ix4 b j g d) := by
  rw [OO_at V _ b g r d q n hn]
  refine Finset.sum_congr rfl fun k _ => ?_
  rw [PP_at, weight_row X b g r q h, den_row X b g r q h, mul_comm]

/-- The log of such a row's normaliser in base two. -/
theorem lse_row (h : ∃ μ : ℝ, rmax (fun j => X (ix5 b g r q j)) = μ) :
    LS (M1 X) (DD (EE X)) (ix4 b g r q)
      = Ideal.div ((if ⊥ < rmax (fun j => X (ix5 b g r q j)) then rmax (fun j => X (ix5 b g r q j)) else 0) + Ideal.log (rden (fun j => X (ix5 b g r q j)))) (Real.log 2 : ℝ) := by
  rw [LS_at, M1_at, den_row X b g r q h]

end

/-- The word that keeps the denominator from zero is at most one. -/
theorem word_eps : Ideal.ofBits .f32 0x0DA24260#32 ≤ 1 := by
  rw [show (1 : EReal) = ((1 : ℝ) : EReal) by norm_cast]
  simp [Ideal.ofBits, Ideal.ieee, -EReal.coe_mul]
  exact_mod_cast (by norm_num : (10633824 * (2 ^ 123)⁻¹ : ℝ) ≤ 1)

/-- The scale's word is a real number. -/
theorem word_scale : Ideal.ofBits .f32 0x3DB504F3#32 = ((11863283 / 134217728 : ℝ) : EReal) := by
  simp [Ideal.ofBits, Ideal.ieee, -EReal.coe_mul]; norm_num

/-- A query reads the keys at most 128 positions before it, itself included. -/
theorem MK_iff (q k : Fin 4096) : MK (ix2 q k) = 1#1 ↔ k.val ≤ q.val ∧ q.val ≤ k.val + 128 := by
  have h : MK (ix2 q k) = IntOp.andi (BitVec.ofBool ((0#32).sle (BitVec.ofNat 32 q.val - BitVec.ofNat 32 k.val))) (BitVec.ofBool ((BitVec.ofNat 32 q.val - BitVec.ofNat 32 k.val).sle 128#32)) := rfl
  rw [h, IntOp.andi_eq_one]
  have hq := q.isLt
  have hk := k.isLt
  have e : (BitVec.ofNat 32 q.val - BitVec.ofNat 32 k.val).toInt = (q.val : ℤ) - k.val := by
    rw [BitVec.toInt_sub, BitVec.toInt_ofNat', BitVec.toInt_ofNat']
    simp only [Int.bmod_def]; omega
  have b1 : ∀ b : Bool, BitVec.ofBool b = 1#1 ↔ b = true := by decide
  rw [b1, b1, BitVec.sle, BitVec.sle, decide_eq_true_iff, decide_eq_true_iff, e]
  have e0 : (0#32 : BitVec 32).toInt = 0 := by decide
  have e1 : (128#32 : BitVec 32).toInt = 128 := by decide
  rw [e0, e1]; omega

/-- A sum of real numbers is one. -/
theorem real_sum {ι : Type} (s : Finset ι) (f : ι → EReal) (h : ∀ i, ∃ r : ℝ, f i = r) : ∃ r : ℝ, ∑ i ∈ s, f i = r := by
  choose r hr using h
  exact ⟨∑ i ∈ s, r i, by rw [Finset.sum_congr rfl fun i _ => hr i]; exact (map_sum (⟨⟨Real.toEReal, rfl⟩, EReal.coe_add⟩ : ℝ →+ EReal) _ _).symm⟩

/-- A logit of the reference: the scaled product with the bias where the key is read, minus infinity elsewhere. -/
theorem XX_at (Q : FVec Ideal S8x4096x16x128 .f32) (K : FVec Ideal S8x4096x4x128 .f32) (T : FVec Ideal S32x16 .f32)
    (b : Fin 8) (g r : Fin 4) (h : Fin 16) (hh : h.val = 4 * g.val + r.val) (q k : Fin 4096) :
    XX Q K T (ix5 b g r q k) = if MK (ix2 q k) = 1#1 then (∑ d : Fin 128, K (ix4 b k g d) * Q (ix4 b q h d)) * Ideal.ofBits .f32 0x3DB504F3#32 + GA T (ix3 q k h) else ⊥ :=
  XG_at Q K MK (GA T) b g r h hh q k

/-- THE ROW: 256 keys from `start` on hold every key the query reads, and lanes scaled by `1 / log 2` hold their logits. -/
theorem row_at (Q : FVec Ideal S8x4096x16x128 .f32) (K : FVec Ideal S8x4096x4x128 .f32) (T : FVec Ideal S32x16 .f32)
    (hQ : ∀ i, ∃ r : ℝ, Q i = r) (hK : ∀ i, ∃ r : ℝ, K i = r) (hT : ∀ i, ∃ r : ℝ, T i = r)
    (b : Fin 8) (g r : Fin 4) (h : Fin 16) (hh : h.val = 4 * g.val + r.val) (q : Fin 4096)
    (start : ℕ) (h1 : start + 256 ≤ 4096) (h2 : start ≤ q.val) (h3 : q.val < start + 256) (h4 : start = 0 ∨ start + 128 ≤ q.val)
    (s : Fin 256 → EReal)
    (hs : ∀ c : Fin 256, s c = (∑ d : Fin 128, K (ix4 b ⟨start + c.val, by omega⟩ g d) * (Q (ix4 b q h d) * Ideal.ofBits .f32 0x3DB504F3#32 * (L2 : EReal)))
      + (if MK (ix2 q ⟨start + c.val, by omega⟩) = 1#1 then GA T (ix3 q ⟨start + c.val, by omega⟩ h) * (L2 : EReal) else ⊥)) :
    Row (fun c : Fin 256 => (⟨start + c.val, by omega⟩ : Fin 4096)) (fun j => XX Q K T (ix5 b g r q j)) s := by
  have hS : ∀ j, ∃ a : ℝ, (∑ d : Fin 128, K (ix4 b j g d) * Q (ix4 b q h d)) = a := fun j => real_sum _ _ fun d => by
    obtain ⟨x, hx⟩ := hK (ix4 b j g d); obtain ⟨y, hy⟩ := hQ (ix4 b q h d)
    exact ⟨x * y, by rw [hx, hy, EReal.coe_mul]⟩
  have hG : ∀ j, ∃ a : ℝ, GA T (ix3 q j h) = a := fun j => by
    rw [GA_at]; exact hT _
  refine ⟨fun c d e => Fin.ext (by have := congrArg Fin.val e; simp only at this; omega), fun j hj => ?_, fun c => ?_, fun j => ?_, ⟨q, ?_⟩⟩
  · rw [XX_at Q K T b g r h hh, if_neg]
    rw [MK_iff]
    rintro ⟨a1, a2⟩
    exact hj ⟨⟨j.val - start, by omega⟩, Fin.ext (by show start + (j.val - start) = j.val; omega)⟩
  · rw [hs, XX_at Q K T b g r h hh]
    have hsum : (∑ d : Fin 128, K (ix4 b ⟨start + c.val, by omega⟩ g d) * (Q (ix4 b q h d) * Ideal.ofBits .f32 0x3DB504F3#32 * (L2 : EReal)))
        = (∑ d : Fin 128, K (ix4 b ⟨start + c.val, by omega⟩ g d) * Q (ix4 b q h d)) * Ideal.ofBits .f32 0x3DB504F3#32 * (L2 : EReal) := by
      rw [word_scale, sum_mul_real _ _ (by norm_num), sum_mul_real _ _ L2_pos.le]
      exact Finset.sum_congr rfl fun d _ => by ac_rfl
    rw [hsum]
    obtain ⟨a, ha⟩ := hS ⟨start + c.val, by omega⟩
    obtain ⟨t, ht⟩ := hG ⟨start + c.val, by omega⟩
    rw [ha, ht, word_scale]
    split
    · rw [← EReal.coe_mul, ← EReal.coe_mul, ← EReal.coe_mul, ← EReal.coe_add, ← EReal.coe_add, ← EReal.coe_mul]
      congr 1; ring
    · rw [EReal.add_bot, EReal.bot_mul_coe_of_pos L2_pos]
  · rw [XX_at Q K T b g r h hh]
    obtain ⟨a, ha⟩ := hS j
    obtain ⟨t, ht⟩ := hG j
    rw [ha, ht, word_scale]
    split
    · rw [← EReal.coe_mul, ← EReal.coe_add]; exact EReal.coe_ne_top _
    · exact bot_ne_top
  · rw [XX_at Q K T b g r h hh, if_pos ((MK_iff q q).2 ⟨le_rfl, by omega⟩)]
    obtain ⟨a, ha⟩ := hS q
    obtain ⟨t, ht⟩ := hG q
    rw [ha, ht, word_scale, ← EReal.coe_mul, ← EReal.coe_add]; exact EReal.coe_ne_bot _

end Cert.Reference3Ideal.Value
-- ==== Proof.BandHost.lean ====
/- What the kernel's region finds in its four operands: the queries scaled, the keys and values in the region's layout, and the strip of biases. -/
module

public import proofs.«01_k».proof.Proof.Gen.Kernel3Ideal.Value
public import proofs.«01_k».proof.Proof.BandRow
public import Idealize.ShloMosaic.Lib.StableHlo.RunRead
public import Idealize.ShloMosaic.Lib.Pipeline.ValueKit

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Band

/-- `1 / log 2`, as the program computes it. -/
def LE : FVec Ideal S_ .f32 := Host.divf (constant S_ .f32 0x3F800000#32) (Host.log (constant S_ .f32 0x40000000#32))

/-- It is the reciprocal of `log 2`. -/
theorem LE_at (i : S_.Idx) : LE i = (L2 : EReal) := by
  show Ideal.div (Ideal.ofBits .f32 0x3F800000#32) (Ideal.log (Ideal.ofBits .f32 0x40000000#32)) = _
  rw [Ideal.ofBits_one_f32, Cert.Reference3Ideal.Value.log_two]
  have h2 : ((Real.log 2 : ℝ) : EReal) ≠ 0 := by
    intro e; exact (Real.log_pos (by norm_num : (1 : ℝ) < 2)).ne' (EReal.coe_eq_zero.1 e)
  rw [Ideal.div, if_neg h2, ← EReal.coe_inv, one_mul]

/-- The scaled queries in the region's layout. -/
def QT (Q : FVec Ideal S8x4096x16x128 .f32) : FVec Ideal S8x2048x4096 .bf16 :=
  transpose S8x2048x4096 [0, 2, 1] (shapeCast S8x4096x2048 (truncf .bf16 (mulf (mulf Q (broadcastInDim S8x4096x16x128 ![] bcast_S_S8x4096x16x128 (constant S_ .f32 0x3DB504F3#32))) (broadcastInDim S8x4096x16x128 ![] bcast_S_S8x4096x16x128 LE)) bitsLt_bf16_f32) shapeCasts_S8x4096x16x128_S8x4096x2048) transposes_S8x4096x2048_S8x2048x4096_0_2_1

/-- A scaled query. -/
theorem QT_at (Q : FVec Ideal S8x4096x16x128 .f32) (b : Fin 8) (n : Fin 2048) (q : Fin 4096) (h : Fin 16) (d : Fin 128) (hn : n.val = 128 * h.val + d.val) :
    QT Q (ix3 b n q) = Q (ix4 b q h d) * Ideal.ofBits .f32 0x3DB504F3#32 * (L2 : EReal) := by
  pointwise [QT]
  have e1 : (⟨n.val / 128, by omega⟩ : Fin 16) = h := Fin.ext (by show n.val / 128 = h.val; omega)
  have e2 : (⟨n.val % 128, by omega⟩ : Fin 128) = d := Fin.ext (by show n.val % 128 = d.val; omega)
  simp only [e1, e2, LE_at]

/-- Which lanes of the strip a query reads: the distance of lane `l` from row `R`, 128 more. -/
def STk : IVec S384x128 32 :=
  addi (subi (broadcastInDim S384x128 ![0, 1] bcast_S1x128_S384x128_0_1 (broadcastInDim S1x128 ![1] bcast_S128_S1x128_1 (iotaInDim S128 32 0))) (broadcastInDim S384x128 ![0, 1] bcast_S384x1_S384x128_0_1 (broadcastInDim S384x1 ![0] bcast_S384_S384x1_0 (iotaInDim S384 32 0)))) (broadcastInDim S384x128 ![] bcast_S_S384x128 (constantI S_ 32 128#32))

/-- A word at every place. -/
def CIk (n : BitVec 32) : IVec S384x128 32 := broadcastInDim S384x128 ![] bcast_S_S384x128 (constantI S_ 32 n)

/-- A number at every place. -/
def CFk (n : BitVec 32) : FVec Ideal S384x128 .f32 := broadcastInDim S384x128 ![] bcast_S_S384x128 (constant S_ .f32 n)

/-- The bias bucket of every distance. -/
def BKk (st : IVec S384x128 32) : IVec S384x128 32 :=
  select (cmpi .slt (maxsi st (CIk 0#32)) (CIk 16#32)) (maxsi st (CIk 0#32)) (minsi (addi (CIk 16#32) (fptosi 32 (mulf (Host.divf (Host.log (Host.divf (sitofp .f32 (maxsi (maxsi st (CIk 0#32)) (CIk 1#32))) (CFk 0x41800000#32))) (CFk 0x40B17218#32)) (CFk 0x41800000#32)))) (CIk 31#32))

/-- The table row of every bucket. -/
def WRk (b : IVec S384x128 32) : IVec S384x128 32 := select (cmpi .slt b (CIk 0#32)) (addi b (CIk 32#32)) b

/-- Which places of the strip are read. -/
def MKk : IVec S384x128 1 := andi (cmpi .sge STk (CIk 0#32)) (cmpi .sle STk (CIk 128#32))

/-- The biases gathered from the table. -/
def GAk (T : FVec Ideal S32x16 .f32) : FVec Ideal S384x128x16 .f32 :=
  Host.gather gather_S32x16_S384x128x1_S384x128x16_2_0_n_n_0_2_116 T (broadcastInDim S384x128x1 ![0, 1] bcast_S384x128_S384x128x1_0_1 (WRk (BKk STk)))

/-- The strip, over the mask and the gathered biases. -/
def SGk (mk : IVec S384x128 1) (ga : FVec Ideal S384x128x16 .f32) : FVec Ideal S4x384x512 .f32 :=
  shapeCast S4x384x512 (transpose S4x384x4x128 [2, 0, 3, 1] (shapeCast S384x128x4x4 (select (broadcastInDim S384x128x16 ![0, 1, 2] bcast_S384x128x1_S384x128x16_0_1_2 (broadcastInDim S384x128x1 ![0, 1] bcast_S384x128_S384x128x1_0_1 mk))
    (mulf ga (broadcastInDim S384x128x16 ![] bcast_S_S384x128x16 LE)) (broadcastInDim S384x128x16 ![] bcast_S_S384x128x16 (id (constant S_ .f32 0xFF800000#32)))) shapeCasts_S384x128x16_S384x128x4x4) transposes_S384x128x4x4_S4x384x4x128_2_0_3_1) shapeCasts_S4x384x4x128_S4x384x512

/-- The strip at a row and a lane of one head. -/
theorem SGk_at (mk : IVec S384x128 1) (ga : FVec Ideal S384x128x16 .f32) (g r : Fin 4) (h : Fin 16) (hh : h.val = 4 * g.val + r.val) (R : Fin 384) (n : Fin 512) (l : Fin 128) (hn : n.val = 128 * r.val + l.val) :
    SGk mk ga (ix3 g R n) = if mk (ix2 R l) = 1#1 then ga (ix3 R l h) * (L2 : EReal) else ⊥ := by
  pointwise [SGk]
  have e1 : (⟨n.val % 128, by omega⟩ : Fin 128) = l := Fin.ext (by show n.val % 128 = l.val; omega)
  have e2 : (⟨g.val * 4 + n.val / 128, by omega⟩ : Fin 16) = h := Fin.ext (by show g.val * 4 + n.val / 128 = h.val; omega)
  simp only [e1, e2, LE_at]
  show (if mk (ix2 R l) = 1#1 then _ else Ideal.ofBits .f32 0xFF800000#32) = _
  rw [Cert.Reference3Ideal.Value.word_bot]

/-- The gathered bias at a row, a lane and a head. -/
theorem GAk_at (T : FVec Ideal S32x16 .f32) (R : Fin 384) (l : Fin 128) (h : Fin 16) :
    GAk T (ix3 R l h) = T (ix2 ⟨min (WRk (BKk STk) (ix2 R l)).toInt.toNat 31, by omega⟩ h) := by
  refine (Cert.Band.look_at (by decide) gather_S32x16_S384x128x1_S384x128x16_2_0_n_n_0_2_116.wf T _ R l h).trans ?_
  rfl

/-- Equal distances are read at the same row of the table. -/
theorem row_word (st : IVec S384x128 32) (st' : IVec Cert.Reference3Ideal.S4096x4096 32) (i : S384x128.Idx) (j : Cert.Reference3Ideal.S4096x4096.Idx) (h : st i = st' j) :
    WRk (BKk st) i = Cert.Reference3Ideal.Value.WR (Cert.Reference3Ideal.Value.BK st') j := by
  pointwise [WRk, BKk, CIk, CFk, Cert.Reference3Ideal.Value.WR, Cert.Reference3Ideal.Value.BK, Cert.Reference3Ideal.Value.CI, Cert.Reference3Ideal.Value.CF]
  rw [h]

/-- Equal distances are masked alike. -/
theorem mask_word (i : S384x128.Idx) (j : Cert.Reference3Ideal.S4096x4096.Idx) (h : STk i = Cert.Reference3Ideal.Value.ST j) :
    MKk i = Cert.Reference3Ideal.Value.MK j := by
  have e1 : MKk i = IntOp.andi (BitVec.ofBool ((0#32).sle (STk i))) (BitVec.ofBool ((STk i).sle 128#32)) := rfl
  have e2 : Cert.Reference3Ideal.Value.MK j = IntOp.andi (BitVec.ofBool ((0#32).sle (Cert.Reference3Ideal.Value.ST j))) (BitVec.ofBool ((Cert.Reference3Ideal.Value.ST j).sle 128#32)) := rfl
  rw [e1, e2, h]

/-- The distance at a strip place is that of the query and the key it stands for. -/
theorem dist_eq (R : Fin 384) (l : Fin 128) (q k : Fin 4096) (h : l.val + 128 + k.val = q.val + R.val) :
    STk (ix2 R l) = Cert.Reference3Ideal.Value.ST (ix2 q k) := by
  have e1 : STk (ix2 R l) = BitVec.ofNat 32 l.val - BitVec.ofNat 32 R.val + 128#32 := rfl
  have e2 : Cert.Reference3Ideal.Value.ST (ix2 q k) = BitVec.ofNat 32 q.val - BitVec.ofNat 32 k.val := rfl
  rw [e1, e2]
  have := R.isLt; have := l.isLt; have := q.isLt; have := k.isLt
  apply BitVec.eq_of_toNat_eq
  simp only [BitVec.toNat_add, BitVec.toNat_sub, BitVec.toNat_ofNat]
  omega

/-- The strip the region finds. -/
def STRIP (T : FVec Ideal S32x16 .f32) : FVec Ideal S4x384x512 .f32 := SGk MKk (GAk T)

/-- The strip at a place, by the query and the key it stands for. -/
theorem STRIP_at (T : FVec Ideal S32x16 .f32) (g r : Fin 4) (h : Fin 16) (hh : h.val = 4 * g.val + r.val) (R : Fin 384) (n : Fin 512) (l : Fin 128) (hn : n.val = 128 * r.val + l.val)
    (q k : Fin 4096) (hq : l.val + 128 + k.val = q.val + R.val) :
    STRIP T (ix3 g R n) = if Cert.Reference3Ideal.Value.MK (ix2 q k) = 1#1 then Cert.Reference3Ideal.Value.GA T (ix3 q k h) * (L2 : EReal) else ⊥ := by
  have hd := dist_eq R l q k hq
  rw [STRIP, SGk_at MKk (GAk T) g r h hh R n l hn, mask_word _ _ hd, GAk_at, Cert.Reference3Ideal.Value.GA_at]
  simp only [row_word STk Cert.Reference3Ideal.Value.ST _ _ hd]

variable (m : (ℓ : Loc nD τ sig) → Buf (Elt Ideal) ℓ)

/-- The queries the region finds. -/
theorem V0_eq (c : Dev nD) : @Eq (FVec Ideal S8x2048x4096 .bf16) (V m c main_v8) (QT (show FVec Ideal S8x4096x16x128 .f32 from m ((c : Thread nD τ).loc main_arg0))) := by
  after_reads_simp; rfl

set_option maxHeartbeats 1000000 in
/-- The strip the region finds. -/
theorem V3_eq (c : Dev nD) : @Eq (FVec Ideal S4x384x512 .f32) (V m c main_v60) (STRIP (show FVec Ideal S32x16 .f32 from m ((c : Thread nD τ).loc main_arg3))) := by
  unfold STRIP SGk MKk GAk WRk BKk STk CIk CFk LE
  after_reads_simp; rfl

/-- A key the region finds. -/
theorem V1_at (c : Dev nD) (b : Fin 8) (g : Fin 4) (k : Fin 4096) (d : Fin 128) :
    @Eq EReal ((show FVec Ideal S8x4x4096x128 .bf16 from V m c main_v10) (ix4 b g k d)) ((show FVec Ideal S8x4096x4x128 .f32 from m ((c : Thread nD τ).loc main_arg1)) (ix4 b k g d)) := by
  have h : @Eq (FVec Ideal S8x4x4096x128 .bf16) (V m c main_v10) (transpose S8x4x4096x128 [0, 2, 1, 3] (truncf .bf16 (show FVec Ideal S8x4096x4x128 .f32 from m ((c : Thread nD τ).loc main_arg1)) bitsLt_bf16_f32) transposes_S8x4096x4x128_S8x4x4096x128_0_2_1_3) := by
    entry_read; rfl
  rw [h]
  pointwise

/-- A value the region finds. -/
theorem V2_at (c : Dev nD) (b : Fin 8) (g : Fin 4) (d : Fin 128) (k : Fin 4096) :
    @Eq EReal ((show FVec Ideal S8x4x128x4096 .bf16 from V m c main_v12) (ix4 b g d k)) ((show FVec Ideal S8x4096x4x128 .f32 from m ((c : Thread nD τ).loc main_arg2)) (ix4 b k g d)) := by
  have h : @Eq (FVec Ideal S8x4x128x4096 .bf16) (V m c main_v12) (transpose S8x4x128x4096 [0, 2, 3, 1] (truncf .bf16 (show FVec Ideal S8x4096x4x128 .f32 from m ((c : Thread nD τ).loc main_arg2)) bitsLt_bf16_f32) transposes_S8x4096x4x128_S8x4x128x4096_0_2_3_1) := by
    entry_read; rfl
  rw [h]
  pointwise

end Cert.Kernel3Ideal.Value
-- ==== Proof.BandUnit.lean ====
/- What one unit of the kernel's body computes from the blocks it loads, read at a lane. -/
module

public import proofs.«01_k».proof.Proof.Gen.Kernel3Ideal.Skeleton
public import proofs.«01_k».proof.Proof.BandRow
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Band

/-- A unit's scores: its keys times the queries of its four heads, with their bias strips. -/
def SC (q0 q1 q2 q3 : FVec Ideal S1x128x128 .bf16) (b0 b1 b2 b3 : FVec Ideal S1x256x128 .f32) (kk : FVec Ideal S1x1x256x128 .bf16) : FVec Ideal S1x256x512 .f32 :=
  k0_pay7 (F := Ideal) (k0_pay6 (F := Ideal) q0 q1 q2 q3) b0 b1 b2 b3 kk

section
variable (q0 q1 q2 q3 : FVec Ideal S1x128x128 .bf16) (b0 b1 b2 b3 : FVec Ideal S1x256x128 .f32) (kk : FVec Ideal S1x1x256x128 .bf16)

/-- The scores of the first head. -/
theorem SC_at0 (c : Fin 256) (l : Fin 128) (n : Fin 512) (hn : n.val = l.val) :
    SC q0 q1 q2 q3 b0 b1 b2 b3 kk (ix3 0 c n) = (∑ d : Fin 128, kk (ix4 0 0 c d) * q0 (ix3 0 d l)) + b0 (ix3 0 c l) := by
  obtain ⟨n, hl⟩ := n; obtain rfl : n = l.val := hn
  pointwise [SC, k0_pay7, k0_pay6]

/-- The scores of the second head. -/
theorem SC_at1 (c : Fin 256) (l : Fin 128) (n : Fin 512) (hn : n.val = 128 + l.val) :
    SC q0 q1 q2 q3 b0 b1 b2 b3 kk (ix3 0 c n) = (∑ d : Fin 128, kk (ix4 0 0 c d) * q1 (ix3 0 d l)) + b1 (ix3 0 c l) := by
  obtain ⟨n, hl⟩ := n; obtain rfl : n = 128 + l.val := hn
  pointwise [SC, k0_pay7, k0_pay6]

/-- The scores of the third head. -/
theorem SC_at2 (c : Fin 256) (l : Fin 128) (n : Fin 512) (hn : n.val = 256 + l.val) :
    SC q0 q1 q2 q3 b0 b1 b2 b3 kk (ix3 0 c n) = (∑ d : Fin 128, kk (ix4 0 0 c d) * q2 (ix3 0 d l)) + b2 (ix3 0 c l) := by
  obtain ⟨n, hl⟩ := n; obtain rfl : n = 256 + l.val := hn
  pointwise [SC, k0_pay7, k0_pay6]
  have e : (⟨256 + l.val - 128 - 128, by omega⟩ : Fin 128) = l := Fin.ext (by show 256 + l.val - 128 - 128 = l.val; omega)
  simp only [dif_neg (show ¬ 256 + l.val < 128 by omega), dif_neg (show ¬ 256 + l.val - 128 < 128 by omega), dif_pos (show 256 + l.val - 128 - 128 < 128 by omega), e]

/-- The scores of the fourth head. -/
theorem SC_at3 (c : Fin 256) (l : Fin 128) (n : Fin 512) (hn : n.val = 384 + l.val) :
    SC q0 q1 q2 q3 b0 b1 b2 b3 kk (ix3 0 c n) = (∑ d : Fin 128, kk (ix4 0 0 c d) * q3 (ix3 0 d l)) + b3 (ix3 0 c l) := by
  obtain ⟨n, hl⟩ := n; obtain rfl : n = 384 + l.val := hn
  pointwise [SC, k0_pay7, k0_pay6]
  have e : (⟨384 + l.val - 128 - 128 - 128, by omega⟩ : Fin 128) = l := Fin.ext (by show 384 + l.val - 128 - 128 - 128 = l.val; omega)
  simp only [dif_neg (show ¬ 384 + l.val < 128 by omega), dif_neg (show ¬ 384 + l.val - 128 < 128 by omega), dif_neg (show ¬ 384 + l.val - 128 - 128 < 128 by omega), e]

end

/-- The largest score of a lane. -/
theorem top_at (s : FVec Ideal S1x256x512 .f32) (n : Fin 512) : k0_pay32 (F := Ideal) s (ix2 0 n) = rmax fun c => s (ix3 0 c n) := by
  pointwise [k0_pay32, k0_pay31]
  rw [Cert.Reference3Ideal.Value.word_bot, rmax]

/-- The weights of a lane before they are normalised. -/
theorem weight_at (s : FVec Ideal S1x256x512 .f32) (c : Fin 256) (n : Fin 512) :
    k0_pay33 (F := Ideal) s (ix3 0 c n) = Ideal.exp2 (s (ix3 0 c n) - k0_pay32 (F := Ideal) s (ix2 0 n)) := by
  pointwise [k0_pay33, k0_pay31]
  rfl

/-- The sum of a lane's weights, by the row of ones below the values. -/
theorem sum_at (v : FVec Ideal S1x1x128x256 .bf16) (p : FVec Ideal S1x256x512 .bf16) (n : Fin 512) :
    k0_pay37 (F := Ideal) v p (ix2 0 n) = ∑ c : Fin 256, p (ix3 0 c n) := by
  pointwise [k0_pay37, k0_pay36]

/-- The values of a lane, weighted and normalised. -/
theorem val_at (v : FVec Ideal S1x1x128x256 .bf16) (p : FVec Ideal S1x256x512 .bf16) (d : Fin 128) (n : Fin 512) :
    k0_pay38 (F := Ideal) v p (ix2 d n) = (∑ c : Fin 256, v (ix4 0 0 d c) * p (ix3 0 c n)) * Ideal.div 1 (k0_pay37 (F := Ideal) v p (ix2 0 n)) := by
  pointwise [k0_pay38, k0_pay36]

/-- The log of a lane's normaliser in base two. -/
theorem log_at (M : FVec Ideal S1x512 .f32) (v : FVec Ideal S1x1x128x256 .bf16) (p : FVec Ideal S1x256x512 .bf16) (n : Fin 512) :
    k0_pay39 (F := Ideal) M v p (ix2 0 n) = M (ix2 0 n) + Ideal.log (k0_pay37 (F := Ideal) v p (ix2 0 n)) * (L2 : EReal) := by
  pointwise [k0_pay39]
  rfl

/-- The output of a lane: the weighted values over the sum of the weights. -/
theorem out_lane (s : FVec Ideal S1x256x512 .f32) (v : FVec Ideal S1x1x128x256 .bf16) (d : Fin 128) (n : Fin 512) :
    k0_pay38 (F := Ideal) v (k0_pay33 (F := Ideal) s) (ix2 d n) = (∑ c : Fin 256, v (ix4 0 0 d c) * Ideal.exp2 (s (ix3 0 c n) - rmax fun c => s (ix3 0 c n)))
      * Ideal.div 1 (∑ c : Fin 256, Ideal.exp2 (s (ix3 0 c n) - rmax fun c => s (ix3 0 c n))) := by
  rw [val_at, sum_at]
  simp only [weight_at, top_at]

/-- The log of the normaliser of a lane, in base two. -/
theorem lse_lane (s : FVec Ideal S1x256x512 .f32) (v : FVec Ideal S1x1x128x256 .bf16) (n : Fin 512) :
    k0_pay39 (F := Ideal) (k0_pay32 (F := Ideal) s) v (k0_pay33 (F := Ideal) s) (ix2 0 n)
      = (rmax fun c => s (ix3 0 c n)) + Ideal.log (∑ c : Fin 256, Ideal.exp2 (s (ix3 0 c n) - rmax fun c => s (ix3 0 c n))) * (L2 : EReal) := by
  rw [log_at, sum_at]
  simp only [weight_at, top_at]

/-- Head 0's slice of the outputs. -/
theorem cut_at0 (v : FVec Ideal S1x1x128x256 .bf16) (p : FVec Ideal S1x256x512 .bf16) (d l : Fin 128) :
    k0_pay40 (F := Ideal) v p (ix3 0 d l) = k0_pay38 (F := Ideal) v p (ix2 d ⟨l.val, by omega⟩) := by
  pointwise [k0_pay40]

/-- Head 0's slice of the logs. -/
theorem log_cut0 (M : FVec Ideal S1x512 .f32) (v : FVec Ideal S1x1x128x256 .bf16) (p : FVec Ideal S1x256x512 .bf16) (l : Fin 128) :
    k0_pay41 (F := Ideal) M v p (ix4 0 0 0 l) = k0_pay39 (F := Ideal) M v p (ix2 0 ⟨l.val, by omega⟩) := by
  pointwise [k0_pay41]

/-- Head 1's slice of the outputs. -/
theorem cut_at1 (v : FVec Ideal S1x1x128x256 .bf16) (p : FVec Ideal S1x256x512 .bf16) (d l : Fin 128) :
    k0_pay42 (F := Ideal) v p (ix3 0 d l) = k0_pay38 (F := Ideal) v p (ix2 d ⟨128 + l.val, by omega⟩) := by
  pointwise [k0_pay42]

/-- Head 1's slice of the logs. -/
theorem log_cut1 (M : FVec Ideal S1x512 .f32) (v : FVec Ideal S1x1x128x256 .bf16) (p : FVec Ideal S1x256x512 .bf16) (l : Fin 128) :
    k0_pay43 (F := Ideal) M v p (ix4 0 0 0 l) = k0_pay39 (F := Ideal) M v p (ix2 0 ⟨128 + l.val, by omega⟩) := by
  pointwise [k0_pay43]

/-- Head 2's slice of the outputs. -/
theorem cut_at2 (v : FVec Ideal S1x1x128x256 .bf16) (p : FVec Ideal S1x256x512 .bf16) (d l : Fin 128) :
    k0_pay44 (F := Ideal) (k0_pay38 (F := Ideal) v p) (ix3 0 d l) = k0_pay38 (F := Ideal) v p (ix2 d ⟨256 + l.val, by omega⟩) := by
  pointwise [k0_pay44]

/-- Head 2's slice of the logs. -/
theorem log_cut2 (M : FVec Ideal S1x512 .f32) (v : FVec Ideal S1x1x128x256 .bf16) (p : FVec Ideal S1x256x512 .bf16) (l : Fin 128) :
    k0_pay45 (F := Ideal) (k0_pay39 (F := Ideal) M v p) (ix4 0 0 0 l) = k0_pay39 (F := Ideal) M v p (ix2 0 ⟨256 + l.val, by omega⟩) := by
  pointwise [k0_pay45]

/-- Head 3's slice of the outputs. -/
theorem cut_at3 (v : FVec Ideal S1x1x128x256 .bf16) (p : FVec Ideal S1x256x512 .bf16) (d l : Fin 128) :
    k0_pay46 (F := Ideal) (k0_pay38 (F := Ideal) v p) (ix3 0 d l) = k0_pay38 (F := Ideal) v p (ix2 d ⟨384 + l.val, by omega⟩) := by
  pointwise [k0_pay46]

/-- Head 3's slice of the logs. -/
theorem log_cut3 (M : FVec Ideal S1x512 .f32) (v : FVec Ideal S1x1x128x256 .bf16) (p : FVec Ideal S1x256x512 .bf16) (l : Fin 128) :
    k0_pay47 (F := Ideal) (k0_pay39 (F := Ideal) M v p) (ix4 0 0 0 l) = k0_pay39 (F := Ideal) M v p (ix2 0 ⟨384 + l.val, by omega⟩) := by
  pointwise [k0_pay47]

end Cert.Kernel3Ideal.Value
-- ==== Proof.BandPiece.lean ====
/- One unit of the kernel — a query tile of 128 positions against its 256 keys, the four heads of a key head side by side — is the reference at its places. -/
module

public import proofs.«01_k».proof.Proof.Gen.Kernel3Ideal.Value
public import proofs.«01_k».proof.Proof.BandHost
public import proofs.«01_k».proof.Proof.BandUnit
public import Idealize.ShloMosaic.Lib.Pipeline.ValueKit

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Band
open Cert.Reference3Ideal.Value (XX EE DD PP M1 OO LS MK GA)

/-- The reference's output, from the queries, keys, values and bias table. -/
def RES0 (Q : FVec Ideal S8x4096x16x128 .f32) (K W : FVec Ideal S8x4096x4x128 .f32) (T : FVec Ideal S32x16 .f32) : FVec Ideal S8x2048x4096 .bf16 :=
  OO W (PP (EE (XX Q K T)) (DD (EE (XX Q K T))))

/-- The reference's log of the normaliser in base two. -/
def RES1 (Q : FVec Ideal S8x4096x16x128 .f32) (K : FVec Ideal S8x4096x4x128 .f32) (T : FVec Ideal S32x16 .f32) : FVec Ideal S8x4x4x4096 .f32 :=
  LS (M1 (XX Q K T)) (DD (EE (XX Q K T)))

section
variable (Q : FVec Ideal S8x4096x16x128 .f32) (K W : FVec Ideal S8x4096x4x128 .f32) (T : FVec Ideal S32x16 .f32)
variable (hQ : ∀ i, ∃ r : ℝ, Q i = r) (hK : ∀ i, ∃ r : ℝ, K i = r) (hT : ∀ i, ∃ r : ℝ, T i = r)
variable (b : Fin 8) (g r : Fin 4) (q0 start off : ℕ) (e1 : q0 + 128 ≤ 4096) (e2 : start + 256 ≤ 4096) (e3 : start ≤ q0) (e4 : q0 + 128 ≤ start + 256) (e5 : start = 0 ∨ start + 128 ≤ q0) (e6 : 128 + start = q0 + off)
variable (qq : FVec Ideal S1x128x128 .bf16) (bb : FVec Ideal S1x256x128 .f32) (kk : FVec Ideal S1x1x256x128 .bf16) (v : FVec Ideal S1x1x128x256 .bf16) (S : FVec Ideal S1x256x512 .f32)
variable (hS : ∀ (c : Fin 256) (l : Fin 128) (n : Fin 512), n.val = 128 * r.val + l.val → S (ix3 0 c n) = (∑ d : Fin 128, kk (ix4 0 0 c d) * qq (ix3 0 d l)) + bb (ix3 0 c l))
variable (hq : ∀ (d l : Fin 128) (N : Fin 2048) (P : Fin 4096), N.val = 512 * g.val + 128 * r.val + d.val → P.val = q0 + l.val → qq (ix3 0 d l) = QT Q (ix3 b N P))
variable (hb : ∀ (c : Fin 256) (l : Fin 128) (R : Fin 384) (n : Fin 512), R.val = off + c.val → n.val = 128 * r.val + l.val → bb (ix3 0 c l) = STRIP T (ix3 g R n))
variable (hk : ∀ (c : Fin 256) (d : Fin 128) (k : Fin 4096), k.val = start + c.val → kk (ix4 0 0 c d) = K (ix4 b k g d))
variable (hv : ∀ (d : Fin 128) (c : Fin 256) (k : Fin 4096), k.val = start + c.val → v (ix4 0 0 d c) = W (ix4 b k g d))
include hS hq hb hk hQ hK hT e1 e2 e3 e4 e5 e6

/-- A lane's scores are the reference's row at the unit's keys, in base two; the other keys are masked. -/
theorem unit_row (l : Fin 128) (n : Fin 512) (hn : n.val = 128 * r.val + l.val) (q : Fin 4096) (hl : q.val = q0 + l.val) :
    Row (fun c : Fin 256 => (⟨start + c.val, by omega⟩ : Fin 4096)) (fun j => XX Q K T (ix5 b g r q j)) (fun c => S (ix3 0 c n)) := by
  refine Cert.Reference3Ideal.Value.row_at Q K T hQ hK hT b g r ⟨4 * g.val + r.val, by omega⟩ rfl q start e2 (by omega) (by omega) (by omega) _ fun c => ?_
  rw [hS c l n hn, hb c l ⟨off + c.val, by omega⟩ ⟨128 * r.val + l.val, by omega⟩ rfl rfl, STRIP_at T g r ⟨4 * g.val + r.val, by omega⟩ rfl ⟨off + c.val, by omega⟩ ⟨128 * r.val + l.val, by omega⟩ l rfl q ⟨start + c.val, by omega⟩ (by show l.val + 128 + (start + c.val) = q.val + (off + c.val); omega)]
  refine congrArg (· + _) (Finset.sum_congr rfl fun d _ => ?_)
  rw [hk c d ⟨start + c.val, by omega⟩ rfl, hq d l ⟨512 * g.val + 128 * r.val + d.val, by omega⟩ q rfl hl, QT_at Q b ⟨512 * g.val + 128 * r.val + d.val, by omega⟩ q ⟨4 * g.val + r.val, by omega⟩ d (by show 512 * g.val + 128 * r.val + d.val = 128 * (4 * g.val + r.val) + d.val; omega)]

include hv in
/-- A unit's output at a lane. -/
theorem unit_out (d l : Fin 128) (n : Fin 512) (hn : n.val = 128 * r.val + l.val) (N : Fin 2048) (hN : N.val = 512 * g.val + 128 * r.val + d.val) (q : Fin 4096) (hl : q.val = q0 + l.val) :
    k0_pay38 (F := Ideal) v (k0_pay33 (F := Ideal) S) (ix2 d n) = RES0 Q K W T (ix3 b N q) := by
  have h := unit_row Q K T hQ hK hT b g r q0 start off e1 e2 e3 e4 e5 e6 qq bb kk S hS hq hb hk l n hn q hl
  rw [RES0, Cert.Reference3Ideal.Value.out_row (XX Q K T) b g r q W d N hN h.max_real, out_lane, ← h.out_eq (fun j => W (ix4 b j g d)) _ Cert.Reference3Ideal.Value.word_eps]
  refine congrArg (· * _) (Finset.sum_congr rfl fun c _ => ?_)
  rw [hv d c ⟨start + c.val, by omega⟩ rfl]

/-- A unit's log of the normaliser at a lane. -/
theorem unit_lse (l : Fin 128) (n : Fin 512) (hn : n.val = 128 * r.val + l.val) (q : Fin 4096) (hl : q.val = q0 + l.val) :
    k0_pay39 (F := Ideal) (k0_pay32 (F := Ideal) S) v (k0_pay33 (F := Ideal) S) (ix2 0 n) = RES1 Q K T (ix4 b g r q) := by
  have h := unit_row Q K T hQ hK hT b g r q0 start off e1 e2 e3 e4 e5 e6 qq bb kk S hS hq hb hk l n hn q hl
  rw [RES1, Cert.Reference3Ideal.Value.lse_row (XX Q K T) b g r q h.max_real, lse_lane, h.lse_eq]

end

end Cert.Kernel3Ideal.Value
-- ==== Proof.BandLoad.lean ====
/- What the kernel's loads find: the places its offsets name, and the pieces of the four operands there. -/
module

public import proofs.«01_k».proof.Proof.Gen.Kernel3Ideal.Value
public import proofs.«01_k».proof.Proof.BandHost
public import Idealize.ShloMosaic.Lib.Pipeline.ValueKit

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Band

/-- The first query of unit `w` at a grid point. -/
def QS (t w : ℕ) : ℕ := 2048 * (t % 2) + 128 * w
/-- The first key of that unit. -/
def KS (t w : ℕ) : ℕ := QS t w - 128
/-- The first row of the strip of biases that it reads. -/
def OS (t w : ℕ) : ℕ := 128 + KS t w - QS t w

/-- The blocks the windows hold at a grid point. -/
theorem idx : ∀ t : Fin cfg0.N, win0_0.index t = ![t.val / 2 % 8, t.val / 16, t.val % 2] ∧ win0_1.index t = ![t.val / 2 % 8, t.val / 16, 0, 0] ∧ win0_2.index t = ![t.val / 2 % 8, t.val / 16, 0, 0]
    ∧ win0_3.index t = ![t.val / 16, 0, 0] ∧ win0_4.index t = ![t.val / 2 % 8, t.val / 16, t.val % 2] ∧ win0_5.index t = ![t.val / 2 % 8, t.val / 16, 0, t.val % 2] :=
  (by decide +kernel : ∀ t : Fin grid0.N, _)

/-- The strip's offset, first head. -/
theorem off1 : ∀ (t : Fin grid0.N) (w : Fin 16), k0_off1 (grid0.coords t) (BitVec.ofNat 32 (128 * w.val)) = ![0, OS t.val w.val, 0] := by decide +kernel
/-- The strip's offset, second head. -/
theorem off2 : ∀ (t : Fin grid0.N) (w : Fin 16), k0_off2 (grid0.coords t) (BitVec.ofNat 32 (128 * w.val)) = ![0, OS t.val w.val, 128] := by decide +kernel
/-- The strip's offset, third head. -/
theorem off3 : ∀ (t : Fin grid0.N) (w : Fin 16), k0_off3 (grid0.coords t) (BitVec.ofNat 32 (128 * w.val)) = ![0, OS t.val w.val, 256] := by decide +kernel
/-- The strip's offset, fourth head. -/
theorem off4 : ∀ (t : Fin grid0.N) (w : Fin 16), k0_off4 (grid0.coords t) (BitVec.ofNat 32 (128 * w.val)) = ![0, OS t.val w.val, 384] := by decide +kernel
/-- The keys' offset. -/
theorem off5 : ∀ (t : Fin grid0.N) (w : Fin 16), k0_off5 (grid0.coords t) (BitVec.ofNat 32 (128 * w.val)) = ![0, 0, KS t.val w.val, 0] := by decide +kernel
/-- The values' offset. -/
theorem off6 : ∀ (t : Fin grid0.N) (w : Fin 16), k0_off6 (grid0.coords t) (BitVec.ofNat 32 (128 * w.val)) = ![0, 0, 0, KS t.val w.val] := by decide +kernel

/-- A load of queries. -/
theorem ldq (X : FVec Ideal S1x512x2048 .bf16) (o : Fin 3 → ℕ) (h) (n k : ℕ) (ho : o = ![0, n, k]) (d l : Fin 128) (N : Fin 512) (hN : N.val = n + d.val) (P : Fin 2048) (hP : P.val = k + l.val) :
    View.ld (Val := Elt Ideal) (e' := .bf16) X (Rect.unit (s := S1x512x2048) o ![1, 128, 128] h) (ix3 0 d l) = X (ix3 0 N P) := by
  subst ho
  exact View.ld_unit_apply_of _ _ _ _ _ _ (by intro a; fin_cases a <;> simp [hN, hP])

/-- A load of the strip of biases. -/
theorem ldb (X : FVec Ideal S1x384x512 .f32) (o : Fin 3 → ℕ) (h) (n k : ℕ) (ho : o = ![0, n, k]) (c : Fin 256) (l : Fin 128) (N : Fin 384) (hN : N.val = n + c.val) (P : Fin 512) (hP : P.val = k + l.val) :
    View.ld (Val := Elt Ideal) (e' := .f32) X (Rect.unit (s := S1x384x512) o ![1, 256, 128] h) (ix3 0 c l) = X (ix3 0 N P) := by
  subst ho
  exact View.ld_unit_apply_of _ _ _ _ _ _ (by intro a; fin_cases a <;> simp [hN, hP])

/-- A load of keys. -/
theorem ldk (X : FVec Ideal S1x1x4096x128 .bf16) (o : Fin 4 → ℕ) (h) (n : ℕ) (ho : o = ![0, 0, n, 0]) (c : Fin 256) (d : Fin 128) (N : Fin 4096) (hN : N.val = n + c.val) :
    View.ld (Val := Elt Ideal) (e' := .bf16) X (Rect.unit (s := S1x1x4096x128) o ![1, 1, 256, 128] h) (ix4 0 0 c d) = X (ix4 0 0 N d) := by
  subst ho
  exact View.ld_unit_apply_of _ _ _ _ _ _ (by intro a; fin_cases a <;> simp [hN])

/-- A load of values. -/
theorem ldv (X : FVec Ideal S1x1x128x4096 .bf16) (o : Fin 4 → ℕ) (h) (n : ℕ) (ho : o = ![0, 0, 0, n]) (d : Fin 128) (c : Fin 256) (N : Fin 4096) (hN : N.val = n + c.val) :
    View.ld (Val := Elt Ideal) (e' := .bf16) X (Rect.unit (s := S1x1x128x4096) o ![1, 1, 128, 256] h) (ix4 0 0 d c) = X (ix4 0 0 d N) := by
  subst ho
  exact View.ld_unit_apply_of _ _ _ _ _ _ (by intro a; fin_cases a <;> simp [hN])

variable (m : (ℓ : Loc nD τ sig) → Buf (Elt Ideal) ℓ)

/-- The block of queries. -/
theorem in0 (c : Dev nD) (t : Fin cfg0.N) (n : Fin 512) (p : Fin 2048) (b : Fin 8) (N : Fin 2048) (P : Fin 4096) (hb : b.val = t.val / 2 % 8) (hN : N.val = 512 * (t.val / 16) + n.val) (hP : P.val = 2048 * (t.val % 2) + p.val) :
    @Eq EReal ((show FVec Ideal S1x512x2048 .bf16 from iblk m c 0 t) (ix3 0 n p)) ((show FVec Ideal S8x2048x4096 .bf16 from V m c main_v8) (ix3 b N P)) := by
  blk_ext [iblk, idx t]

/-- The block of keys. -/
theorem in1 (c : Dev nD) (t : Fin cfg0.N) (k : Fin 4096) (d : Fin 128) (b : Fin 8) (g : Fin 4) (hb : b.val = t.val / 2 % 8) (hg : g.val = t.val / 16) :
    @Eq EReal ((show FVec Ideal S1x1x4096x128 .bf16 from iblk m c 1 t) (ix4 0 0 k d)) ((show FVec Ideal S8x4x4096x128 .bf16 from V m c main_v10) (ix4 b g k d)) := by
  blk_ext [iblk, idx t]

/-- The block of values. -/
theorem in2 (c : Dev nD) (t : Fin cfg0.N) (k : Fin 4096) (d : Fin 128) (b : Fin 8) (g : Fin 4) (hb : b.val = t.val / 2 % 8) (hg : g.val = t.val / 16) :
    @Eq EReal ((show FVec Ideal S1x1x128x4096 .bf16 from iblk m c 2 t) (ix4 0 0 d k)) ((show FVec Ideal S8x4x128x4096 .bf16 from V m c main_v12) (ix4 b g d k)) := by
  blk_ext [iblk, idx t]

/-- The block of the strip of biases. -/
theorem in3 (c : Dev nD) (t : Fin cfg0.N) (n : Fin 384) (p : Fin 512) (g : Fin 4) (hg : g.val = t.val / 16) :
    @Eq EReal ((show FVec Ideal S1x384x512 .f32 from iblk m c 3 t) (ix3 0 n p)) ((show FVec Ideal S4x384x512 .f32 from V m c main_v60) (ix3 g n p)) := by
  blk_ext [iblk, idx t]

end Cert.Kernel3Ideal.Value
-- ==== Proof.BandPoint.lean ====
/- A unit of the kernel at a grid point, its operands the loads the body makes: the reference at the places of the unit. -/
module

public import proofs.«01_k».proof.Proof.BandPiece
public import proofs.«01_k».proof.Proof.BandLoad

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Band

variable (m : (ℓ : Loc nD τ sig) → Buf (Elt Ideal) ℓ)

/-- The queries a device is given. -/
abbrev aQ (c : Dev nD) : FVec Ideal S8x4096x16x128 .f32 := m ((c : Thread nD τ).loc main_arg0)
/-- The keys. -/
abbrev aK (c : Dev nD) : FVec Ideal S8x4096x4x128 .f32 := m ((c : Thread nD τ).loc main_arg1)
/-- The values. -/
abbrev aV (c : Dev nD) : FVec Ideal S8x4096x4x128 .f32 := m ((c : Thread nD τ).loc main_arg2)
/-- The bias table. -/
abbrev aT (c : Dev nD) : FVec Ideal S32x16 .f32 := m ((c : Thread nD τ).loc main_arg3)

/-- A load of queries at a grid point. -/
abbrev LQ (c : Dev nD) (t : Fin cfg0.N) (o : Fin 3 → ℕ) (h : ∀ a, o a + S1x128x128.size a ≤ S1x512x2048.size a) : FVec Ideal S1x128x128 .bf16 :=
  View.ld (Val := Elt Ideal) (e' := .bf16) (iblk m c 0 t) (Rect.unit (s := S1x512x2048) o ![1, 128, 128] h)
/-- A load of the strip of biases. -/
abbrev LB (c : Dev nD) (t : Fin cfg0.N) (o : Fin 3 → ℕ) (h : ∀ a, o a + S1x256x128.size a ≤ S1x384x512.size a) : FVec Ideal S1x256x128 .f32 :=
  View.ld (Val := Elt Ideal) (e' := .f32) (iblk m c 3 t) (Rect.unit (s := S1x384x512) o ![1, 256, 128] h)
/-- A load of keys. -/
abbrev LK (c : Dev nD) (t : Fin cfg0.N) (o : Fin 4 → ℕ) (h : ∀ a, o a + S1x1x256x128.size a ≤ S1x1x4096x128.size a) : FVec Ideal S1x1x256x128 .bf16 :=
  View.ld (Val := Elt Ideal) (e' := .bf16) (iblk m c 1 t) (Rect.unit (s := S1x1x4096x128) o ![1, 1, 256, 128] h)
/-- A load of values. -/
abbrev LV (c : Dev nD) (t : Fin cfg0.N) (o : Fin 4 → ℕ) (h : ∀ a, o a + S1x1x128x256.size a ≤ S1x1x128x4096.size a) : FVec Ideal S1x1x128x256 .bf16 :=
  View.ld (Val := Elt Ideal) (e' := .bf16) (iblk m c 2 t) (Rect.unit (s := S1x1x128x4096) o ![1, 1, 128, 256] h)

section
variable (c : Dev nD) (hQ : ∀ i, ∃ r : ℝ, aQ m c i = r) (hK : ∀ i, ∃ r : ℝ, aK m c i = r) (hT : ∀ i, ∃ r : ℝ, aT m c i = r)
variable (t : Fin cfg0.N) (w : ℕ) (hw : w < 16) (b : Fin 8) (g r : Fin 4) (hb : b.val = t.val / 2 % 8) (hg : g.val = t.val / 16)
variable (oq ob : Fin 3 → ℕ) (ok ov : Fin 4 → ℕ) (pq : ∀ a, oq a + S1x128x128.size a ≤ S1x512x2048.size a) (pb : ∀ a, ob a + S1x256x128.size a ≤ S1x384x512.size a)
  (pk : ∀ a, ok a + S1x1x256x128.size a ≤ S1x1x4096x128.size a) (pv : ∀ a, ov a + S1x1x128x256.size a ≤ S1x1x128x4096.size a)
variable (hoq : oq = ![0, 128 * r.val, 128 * w]) (hob : ob = ![0, OS t.val w, 128 * r.val]) (hok : ok = ![0, 0, KS t.val w, 0]) (hov : ov = ![0, 0, 0, KS t.val w])
variable (S : FVec Ideal S1x256x512 .f32)
variable (hS : ∀ (k : Fin 256) (l : Fin 128) (n : Fin 512), n.val = 128 * r.val + l.val → S (ix3 0 k n) = (∑ d : Fin 128, LK m c t ok pk (ix4 0 0 k d) * LQ m c t oq pq (ix3 0 d l)) + LB m c t ob pb (ix3 0 k l))
include hQ hK hT hw hb hg hoq hob hok hS

include hov in
/-- A unit's output at a lane. -/
theorem out_lane_at (d l : Fin 128) (n : Fin 512) (hn : n.val = 128 * r.val + l.val) (N : Fin 2048) (hN : N.val = 512 * g.val + 128 * r.val + d.val) (q : Fin 4096) (hl : q.val = QS t.val w + l.val) :
    k0_pay38 (F := Ideal) (LV m c t ov pv) (k0_pay33 (F := Ideal) S) (ix2 d n) = RES0 (aQ m c) (aK m c) (aV m c) (aT m c) (ix3 b N q) := by
  have e1 : QS t.val w + 128 ≤ 4096 := by unfold QS; omega
  have e2 : KS t.val w + 256 ≤ 4096 := by unfold KS QS; omega
  have e3 : KS t.val w ≤ QS t.val w := by unfold KS QS; omega
  have e4 : QS t.val w + 128 ≤ KS t.val w + 256 := by unfold KS QS; omega
  have e5 : KS t.val w = 0 ∨ KS t.val w + 128 ≤ QS t.val w := by unfold KS QS; omega
  have e6 : 128 + KS t.val w = QS t.val w + OS t.val w := by unfold OS KS QS; omega
  refine unit_out (aQ m c) (aK m c) (aV m c) (aT m c) hQ hK hT b g r (QS t.val w) (KS t.val w) (OS t.val w) e1 e2 e3 e4 e5 e6 (LQ m c t oq pq) (LB m c t ob pb) (LK m c t ok pk) (LV m c t ov pv) S hS ?_ ?_ ?_ ?_ d l n hn N hN q hl
  · intro d l N P hN hP
    exact (ldq _ oq _ _ _ hoq d l ⟨128 * r.val + d.val, by omega⟩ rfl ⟨128 * w + l.val, by omega⟩ rfl).trans ((in0 m c t _ _ b N P hb (by show _ = _ + (128 * r.val + d.val); omega) (by show P.val = 2048 * (t.val % 2) + (128 * w + l.val); rw [hP]; unfold QS; omega)).trans (congrFun (V0_eq m c) _))
  · intro k l R n hR hn
    exact (ldb _ ob _ _ _ hob k l R hR n hn).trans ((in3 m c t _ _ g hg).trans (congrFun (V3_eq m c) _))
  · intro k d K hK
    exact (ldk _ ok _ _ hok k d K hK).trans ((in1 m c t _ _ b g hb hg).trans (V1_at m c b g _ d))
  · intro d k K hK
    exact (ldv _ ov _ _ hov d k K hK).trans ((in2 m c t _ _ b g hb hg).trans (V2_at m c b g d _))

/-- A unit's log of the normaliser at a lane. -/
theorem lse_lane_at (v : FVec Ideal S1x1x128x256 .bf16) (l : Fin 128) (n : Fin 512) (hn : n.val = 128 * r.val + l.val) (q : Fin 4096) (hl : q.val = QS t.val w + l.val) :
    k0_pay39 (F := Ideal) (k0_pay32 (F := Ideal) S) v (k0_pay33 (F := Ideal) S) (ix2 0 n) = RES1 (aQ m c) (aK m c) (aT m c) (ix4 b g r q) := by
  have e1 : QS t.val w + 128 ≤ 4096 := by unfold QS; omega
  have e2 : KS t.val w + 256 ≤ 4096 := by unfold KS QS; omega
  have e3 : KS t.val w ≤ QS t.val w := by unfold KS QS; omega
  have e4 : QS t.val w + 128 ≤ KS t.val w + 256 := by unfold KS QS; omega
  have e5 : KS t.val w = 0 ∨ KS t.val w + 128 ≤ QS t.val w := by unfold KS QS; omega
  have e6 : 128 + KS t.val w = QS t.val w + OS t.val w := by unfold OS KS QS; omega
  refine unit_lse (aQ m c) (aK m c) (aT m c) hQ hK hT b g r (QS t.val w) (KS t.val w) (OS t.val w) e1 e2 e3 e4 e5 e6 (LQ m c t oq pq) (LB m c t ob pb) (LK m c t ok pk) v S hS ?_ ?_ ?_ l n hn q hl
  · intro d l N P hN hP
    exact (ldq _ oq _ _ _ hoq d l ⟨128 * r.val + d.val, by omega⟩ rfl ⟨128 * w + l.val, by omega⟩ rfl).trans ((in0 m c t _ _ b N P hb (by show _ = _ + (128 * r.val + d.val); omega) (by show P.val = 2048 * (t.val % 2) + (128 * w + l.val); rw [hP]; unfold QS; omega)).trans (congrFun (V0_eq m c) _))
  · intro k l R n hR hn
    exact (ldb _ ob _ _ _ hob k l R hR n hn).trans ((in3 m c t _ _ g hg).trans (congrFun (V3_eq m c) _))
  · intro k d K hK
    exact (ldk _ ok _ _ hok k d K hK).trans ((in1 m c t _ _ b g hb hg).trans (V1_at m c b g _ d))

end

end Cert.Kernel3Ideal.Value
-- ==== Proof.BandTile.lean ====
/- What a unit stores for each of its four heads: the reference at the places stored to. -/
module

public import proofs.«01_k».proof.Proof.BandPoint
public import Idealize.ShloMosaic.Lib.Pipeline.ReadBack

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Band

variable (m : (ℓ : Loc nD τ sig) → Buf (Elt Ideal) ℓ)

section
variable (c : Dev nD) (hQ : ∀ i, ∃ r : ℝ, aQ m c i = r) (hK : ∀ i, ∃ r : ℝ, aK m c i = r) (hT : ∀ i, ∃ r : ℝ, aT m c i = r)
variable (t : Fin cfg0.N) (w : ℕ) (hw : w < 16) (b : Fin 8) (g : Fin 4) (hb : b.val = t.val / 2 % 8) (hg : g.val = t.val / 16)
variable (oq0 oq1 oq2 oq3 ob0 ob1 ob2 ob3 : Fin 3 → ℕ) (ok ov : Fin 4 → ℕ)
variable (pq0 : ∀ a, oq0 a + S1x128x128.size a ≤ S1x512x2048.size a) (pb0 : ∀ a, ob0 a + S1x256x128.size a ≤ S1x384x512.size a)
variable (pq1 : ∀ a, oq1 a + S1x128x128.size a ≤ S1x512x2048.size a) (pb1 : ∀ a, ob1 a + S1x256x128.size a ≤ S1x384x512.size a)
variable (pq2 : ∀ a, oq2 a + S1x128x128.size a ≤ S1x512x2048.size a) (pb2 : ∀ a, ob2 a + S1x256x128.size a ≤ S1x384x512.size a)
variable (pq3 : ∀ a, oq3 a + S1x128x128.size a ≤ S1x512x2048.size a) (pb3 : ∀ a, ob3 a + S1x256x128.size a ≤ S1x384x512.size a)
variable (pk : ∀ a, ok a + S1x1x256x128.size a ≤ S1x1x4096x128.size a) (pv : ∀ a, ov a + S1x1x128x256.size a ≤ S1x1x128x4096.size a)
variable (hoq0 : oq0 = ![0, 0, 128 * w]) (hob0 : ob0 = ![0, OS t.val w, 0])
variable (hoq1 : oq1 = ![0, 128, 128 * w]) (hob1 : ob1 = ![0, OS t.val w, 128])
variable (hoq2 : oq2 = ![0, 256, 128 * w]) (hob2 : ob2 = ![0, OS t.val w, 256])
variable (hoq3 : oq3 = ![0, 384, 128 * w]) (hob3 : ob3 = ![0, OS t.val w, 384])
variable (hok : ok = ![0, 0, KS t.val w, 0]) (hov : ov = ![0, 0, 0, KS t.val w])

/-- A unit's scores at a grid point. -/
abbrev SA : FVec Ideal S1x256x512 .f32 :=
  SC (LQ m c t oq0 pq0) (LQ m c t oq1 pq1) (LQ m c t oq2 pq2) (LQ m c t oq3 pq3) (LB m c t ob0 pb0) (LB m c t ob1 pb1) (LB m c t ob2 pb2) (LB m c t ob3 pb3) (LK m c t ok pk)

include hQ hK hT hw hb hg hok

include hoq0 hob0 hov in
/-- What a unit stores of the outputs of its first head. -/
theorem out_tile0 (x : S1x128x128.Idx) (N : Fin 2048) (hN : N.val = 512 * g.val + (0 + (x 1).val)) (q : Fin 4096) (hl : q.val = QS t.val w + (x 2).val) :
    k0_pay40 (F := Ideal) (LV m c t ov pv) (k0_pay33 (F := Ideal) (SA m c t oq0 oq1 oq2 oq3 ob0 ob1 ob2 ob3 ok pq0 pb0 pq1 pb1 pq2 pb2 pq3 pb3 pk)) x
      = RES0 (aQ m c) (aK m c) (aV m c) (aT m c) (ix3 b N q) := by
  have x1 : (x 1).val < 128 := (x 1).isLt
  have x2 : (x 2).val < 128 := (x 2).isLt
  rw [show x = ix3 0 (x 1) (x 2) from by funext a; fin_cases a; exacts [Subsingleton.elim (α := Fin 1) _ _, rfl, rfl]]
  exact (cut_at0 _ _ (x 1) (x 2)).trans (out_lane_at m c hQ hK hT t w hw b g 0 hb hg oq0 ob0 ok ov pq0 pb0 pk pv hoq0 hob0 hok hov _ (fun k l n hn => SC_at0 (LQ m c t oq0 pq0) (LQ m c t oq1 pq1) (LQ m c t oq2 pq2) (LQ m c t oq3 pq3) (LB m c t ob0 pb0) (LB m c t ob1 pb1) (LB m c t ob2 pb2) (LB m c t ob3 pb3) (LK m c t ok pk) k l n (hn.trans (by simp))) (x 1) (x 2) ⟨(x 2).val, by omega⟩ (by simp) N (by rw [hN]; show _ = 512 * g.val + 0 + (x 1).val; omega) q hl)

include hoq0 hob0 in
/-- What a unit stores of the logs of its first head. -/
theorem lse_tile0 (x : S1x1x1x128.Idx) (R : Fin 4) (hR : R.val = 0 + (x 2).val) (q : Fin 4096) (hl : q.val = QS t.val w + (x 3).val) :
    k0_pay41 (F := Ideal) (k0_pay32 (F := Ideal) (SA m c t oq0 oq1 oq2 oq3 ob0 ob1 ob2 ob3 ok pq0 pb0 pq1 pb1 pq2 pb2 pq3 pb3 pk)) (LV m c t ov pv) (k0_pay33 (F := Ideal) (SA m c t oq0 oq1 oq2 oq3 ob0 ob1 ob2 ob3 ok pq0 pb0 pq1 pb1 pq2 pb2 pq3 pb3 pk)) x
      = RES1 (aQ m c) (aK m c) (aT m c) (ix4 b g R q) := by
  have x2 : (x 2).val < 1 := (x 2).isLt
  have x3 : (x 3).val < 128 := (x 3).isLt
  obtain rfl : R = 0 := Fin.ext (by show R.val = 0; omega)
  rw [show x = ix4 0 0 0 (x 3) from by funext a; fin_cases a; exacts [Subsingleton.elim (α := Fin 1) _ _, Subsingleton.elim (α := Fin 1) _ _, Subsingleton.elim (α := Fin 1) _ _, rfl]]
  exact (log_cut0 _ _ _ (x 3)).trans (lse_lane_at m c hQ hK hT t w hw b g 0 hb hg oq0 ob0 ok pq0 pb0 pk hoq0 hob0 hok _ (fun k l n hn => SC_at0 (LQ m c t oq0 pq0) (LQ m c t oq1 pq1) (LQ m c t oq2 pq2) (LQ m c t oq3 pq3) (LB m c t ob0 pb0) (LB m c t ob1 pb1) (LB m c t ob2 pb2) (LB m c t ob3 pb3) (LK m c t ok pk) k l n (hn.trans (by simp))) _ (x 3) ⟨(x 3).val, by omega⟩ (by simp) q hl)

include hoq1 hob1 hov in
/-- What a unit stores of the outputs of its second head. -/
theorem out_tile1 (x : S1x128x128.Idx) (N : Fin 2048) (hN : N.val = 512 * g.val + (128 + (x 1).val)) (q : Fin 4096) (hl : q.val = QS t.val w + (x 2).val) :
    k0_pay42 (F := Ideal) (LV m c t ov pv) (k0_pay33 (F := Ideal) (SA m c t oq0 oq1 oq2 oq3 ob0 ob1 ob2 ob3 ok pq0 pb0 pq1 pb1 pq2 pb2 pq3 pb3 pk)) x
      = RES0 (aQ m c) (aK m c) (aV m c) (aT m c) (ix3 b N q) := by
  have x1 : (x 1).val < 128 := (x 1).isLt
  have x2 : (x 2).val < 128 := (x 2).isLt
  rw [show x = ix3 0 (x 1) (x 2) from by funext a; fin_cases a; exacts [Subsingleton.elim (α := Fin 1) _ _, rfl, rfl]]
  exact (cut_at1 _ _ (x 1) (x 2)).trans (out_lane_at m c hQ hK hT t w hw b g 1 hb hg oq1 ob1 ok ov pq1 pb1 pk pv hoq1 hob1 hok hov _ (fun k l n hn => SC_at1 (LQ m c t oq0 pq0) (LQ m c t oq1 pq1) (LQ m c t oq2 pq2) (LQ m c t oq3 pq3) (LB m c t ob0 pb0) (LB m c t ob1 pb1) (LB m c t ob2 pb2) (LB m c t ob3 pb3) (LK m c t ok pk) k l n (hn.trans (by simp))) (x 1) (x 2) ⟨128 + (x 2).val, by omega⟩ (by simp) N (by rw [hN]; show _ = 512 * g.val + 128 + (x 1).val; omega) q hl)

include hoq1 hob1 in
/-- What a unit stores of the logs of its second head. -/
theorem lse_tile1 (x : S1x1x1x128.Idx) (R : Fin 4) (hR : R.val = 1 + (x 2).val) (q : Fin 4096) (hl : q.val = QS t.val w + (x 3).val) :
    k0_pay43 (F := Ideal) (k0_pay32 (F := Ideal) (SA m c t oq0 oq1 oq2 oq3 ob0 ob1 ob2 ob3 ok pq0 pb0 pq1 pb1 pq2 pb2 pq3 pb3 pk)) (LV m c t ov pv) (k0_pay33 (F := Ideal) (SA m c t oq0 oq1 oq2 oq3 ob0 ob1 ob2 ob3 ok pq0 pb0 pq1 pb1 pq2 pb2 pq3 pb3 pk)) x
      = RES1 (aQ m c) (aK m c) (aT m c) (ix4 b g R q) := by
  have x2 : (x 2).val < 1 := (x 2).isLt
  have x3 : (x 3).val < 128 := (x 3).isLt
  obtain rfl : R = 1 := Fin.ext (by show R.val = 1; omega)
  rw [show x = ix4 0 0 0 (x 3) from by funext a; fin_cases a; exacts [Subsingleton.elim (α := Fin 1) _ _, Subsingleton.elim (α := Fin 1) _ _, Subsingleton.elim (α := Fin 1) _ _, rfl]]
  exact (log_cut1 _ _ _ (x 3)).trans (lse_lane_at m c hQ hK hT t w hw b g 1 hb hg oq1 ob1 ok pq1 pb1 pk hoq1 hob1 hok _ (fun k l n hn => SC_at1 (LQ m c t oq0 pq0) (LQ m c t oq1 pq1) (LQ m c t oq2 pq2) (LQ m c t oq3 pq3) (LB m c t ob0 pb0) (LB m c t ob1 pb1) (LB m c t ob2 pb2) (LB m c t ob3 pb3) (LK m c t ok pk) k l n (hn.trans (by simp))) _ (x 3) ⟨128 + (x 3).val, by omega⟩ (by simp) q hl)

include hoq2 hob2 hov in
/-- What a unit stores of the outputs of its third head. -/
theorem out_tile2 (x : S1x128x128.Idx) (N : Fin 2048) (hN : N.val = 512 * g.val + (256 + (x 1).val)) (q : Fin 4096) (hl : q.val = QS t.val w + (x 2).val) :
    k0_pay44 (F := Ideal) (k0_pay38 (F := Ideal) (LV m c t ov pv) (k0_pay33 (F := Ideal) (SA m c t oq0 oq1 oq2 oq3 ob0 ob1 ob2 ob3 ok pq0 pb0 pq1 pb1 pq2 pb2 pq3 pb3 pk))) x
      = RES0 (aQ m c) (aK m c) (aV m c) (aT m c) (ix3 b N q) := by
  have x1 : (x 1).val < 128 := (x 1).isLt
  have x2 : (x 2).val < 128 := (x 2).isLt
  rw [show x = ix3 0 (x 1) (x 2) from by funext a; fin_cases a; exacts [Subsingleton.elim (α := Fin 1) _ _, rfl, rfl]]
  exact (cut_at2 _ _ (x 1) (x 2)).trans (out_lane_at m c hQ hK hT t w hw b g 2 hb hg oq2 ob2 ok ov pq2 pb2 pk pv hoq2 hob2 hok hov _ (fun k l n hn => SC_at2 (LQ m c t oq0 pq0) (LQ m c t oq1 pq1) (LQ m c t oq2 pq2) (LQ m c t oq3 pq3) (LB m c t ob0 pb0) (LB m c t ob1 pb1) (LB m c t ob2 pb2) (LB m c t ob3 pb3) (LK m c t ok pk) k l n (hn.trans (by simp))) (x 1) (x 2) ⟨256 + (x 2).val, by omega⟩ (by simp) N (by rw [hN]; show _ = 512 * g.val + 256 + (x 1).val; omega) q hl)

include hoq2 hob2 in
/-- What a unit stores of the logs of its third head. -/
theorem lse_tile2 (x : S1x1x1x128.Idx) (R : Fin 4) (hR : R.val = 2 + (x 2).val) (q : Fin 4096) (hl : q.val = QS t.val w + (x 3).val) :
    k0_pay45 (F := Ideal) (k0_pay39 (F := Ideal) (k0_pay32 (F := Ideal) (SA m c t oq0 oq1 oq2 oq3 ob0 ob1 ob2 ob3 ok pq0 pb0 pq1 pb1 pq2 pb2 pq3 pb3 pk)) (LV m c t ov pv) (k0_pay33 (F := Ideal) (SA m c t oq0 oq1 oq2 oq3 ob0 ob1 ob2 ob3 ok pq0 pb0 pq1 pb1 pq2 pb2 pq3 pb3 pk))) x
      = RES1 (aQ m c) (aK m c) (aT m c) (ix4 b g R q) := by
  have x2 : (x 2).val < 1 := (x 2).isLt
  have x3 : (x 3).val < 128 := (x 3).isLt
  obtain rfl : R = 2 := Fin.ext (by show R.val = 2; omega)
  rw [show x = ix4 0 0 0 (x 3) from by funext a; fin_cases a; exacts [Subsingleton.elim (α := Fin 1) _ _, Subsingleton.elim (α := Fin 1) _ _, Subsingleton.elim (α := Fin 1) _ _, rfl]]
  exact (log_cut2 _ _ _ (x 3)).trans (lse_lane_at m c hQ hK hT t w hw b g 2 hb hg oq2 ob2 ok pq2 pb2 pk hoq2 hob2 hok _ (fun k l n hn => SC_at2 (LQ m c t oq0 pq0) (LQ m c t oq1 pq1) (LQ m c t oq2 pq2) (LQ m c t oq3 pq3) (LB m c t ob0 pb0) (LB m c t ob1 pb1) (LB m c t ob2 pb2) (LB m c t ob3 pb3) (LK m c t ok pk) k l n (hn.trans (by simp))) _ (x 3) ⟨256 + (x 3).val, by omega⟩ (by simp) q hl)

include hoq3 hob3 hov in
/-- What a unit stores of the outputs of its fourth head. -/
theorem out_tile3 (x : S1x128x128.Idx) (N : Fin 2048) (hN : N.val = 512 * g.val + (384 + (x 1).val)) (q : Fin 4096) (hl : q.val = QS t.val w + (x 2).val) :
    k0_pay46 (F := Ideal) (k0_pay38 (F := Ideal) (LV m c t ov pv) (k0_pay33 (F := Ideal) (SA m c t oq0 oq1 oq2 oq3 ob0 ob1 ob2 ob3 ok pq0 pb0 pq1 pb1 pq2 pb2 pq3 pb3 pk))) x
      = RES0 (aQ m c) (aK m c) (aV m c) (aT m c) (ix3 b N q) := by
  have x1 : (x 1).val < 128 := (x 1).isLt
  have x2 : (x 2).val < 128 := (x 2).isLt
  rw [show x = ix3 0 (x 1) (x 2) from by funext a; fin_cases a; exacts [Subsingleton.elim (α := Fin 1) _ _, rfl, rfl]]
  exact (cut_at3 _ _ (x 1) (x 2)).trans (out_lane_at m c hQ hK hT t w hw b g 3 hb hg oq3 ob3 ok ov pq3 pb3 pk pv hoq3 hob3 hok hov _ (fun k l n hn => SC_at3 (LQ m c t oq0 pq0) (LQ m c t oq1 pq1) (LQ m c t oq2 pq2) (LQ m c t oq3 pq3) (LB m c t ob0 pb0) (LB m c t ob1 pb1) (LB m c t ob2 pb2) (LB m c t ob3 pb3) (LK m c t ok pk) k l n (hn.trans (by simp))) (x 1) (x 2) ⟨384 + (x 2).val, by omega⟩ (by simp) N (by rw [hN]; show _ = 512 * g.val + 384 + (x 1).val; omega) q hl)

include hoq3 hob3 in
/-- What a unit stores of the logs of its fourth head. -/
theorem lse_tile3 (x : S1x1x1x128.Idx) (R : Fin 4) (hR : R.val = 3 + (x 2).val) (q : Fin 4096) (hl : q.val = QS t.val w + (x 3).val) :
    k0_pay47 (F := Ideal) (k0_pay39 (F := Ideal) (k0_pay32 (F := Ideal) (SA m c t oq0 oq1 oq2 oq3 ob0 ob1 ob2 ob3 ok pq0 pb0 pq1 pb1 pq2 pb2 pq3 pb3 pk)) (LV m c t ov pv) (k0_pay33 (F := Ideal) (SA m c t oq0 oq1 oq2 oq3 ob0 ob1 ob2 ob3 ok pq0 pb0 pq1 pb1 pq2 pb2 pq3 pb3 pk))) x
      = RES1 (aQ m c) (aK m c) (aT m c) (ix4 b g R q) := by
  have x2 : (x 2).val < 1 := (x 2).isLt
  have x3 : (x 3).val < 128 := (x 3).isLt
  obtain rfl : R = 3 := Fin.ext (by show R.val = 3; omega)
  rw [show x = ix4 0 0 0 (x 3) from by funext a; fin_cases a; exacts [Subsingleton.elim (α := Fin 1) _ _, Subsingleton.elim (α := Fin 1) _ _, Subsingleton.elim (α := Fin 1) _ _, rfl]]
  exact (log_cut3 _ _ _ (x 3)).trans (lse_lane_at m c hQ hK hT t w hw b g 3 hb hg oq3 ob3 ok pq3 pb3 pk hoq3 hob3 hok _ (fun k l n hn => SC_at3 (LQ m c t oq0 pq0) (LQ m c t oq1 pq1) (LQ m c t oq2 pq2) (LQ m c t oq3 pq3) (LB m c t ob0 pb0) (LB m c t ob1 pb1) (LB m c t ob2 pb2) (LB m c t ob3 pb3) (LK m c t ok pk) k l n (hn.trans (by simp))) _ (x 3) ⟨384 + (x 3).val, by omega⟩ (by simp) q hl)

end

end Cert.Kernel3Ideal.Value
-- ==== Proof.BandOut.lean ====
/- The array of output window 4 after the run is the reference's result. -/
module

public import proofs.«01_k».proof.Proof.BandTile
public import Idealize.ShloMosaic.Lib.Pipeline.ReadBack

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Band

variable (m : (ℓ : Loc nD τ sig) → Buf (Elt Ideal) ℓ)

set_option maxHeartbeats 8000000 in
/-- The outputs after the run are the reference's. -/
theorem final4 (c : Dev nD) (hQ : ∀ i, ∃ r : ℝ, aQ m c i = r) (hK : ∀ i, ∃ r : ℝ, aK m c i = r) (hT : ∀ i, ∃ r : ℝ, aT m c i = r) :
    (dats m 0 c).arrAt 4 (cfgs 0).N = RES0 (aQ m c) (aK m c) (aV m c) (aT m c) := by
  refine (dats m 0 c).arrAt_eq_of_covers 4 _ (by decide +kernel) fun t _ y => ?_
  blk_simp
  have ht : t.val < 64 := t.isLt
  have y1 : (y 1).val < 512 := (y 1).isLt
  have y2 : (y 2).val < 2048 := (y 2).isLt
  refine Eq.trans (b := RES0 (aQ m c) (aK m c) (aV m c) (aT m c) (ix3 ⟨t.val / 2 % 8, by omega⟩ ⟨512 * (t.val / 16) + (y 1).val, by omega⟩ ⟨2048 * (t.val % 2) + (y 2).val, by omega⟩)) ?_ (congrArg _ (by blk_ext [idx t]))
  rw [after0_4]; unfold Gen.outsAt0
  frame_open
  simp (disch := decide) only [↓View.readCov_skip, ↓View.readCov_cons_toLoadRect]
  frame_out
  canon_tiles x h
  case piece0 => exact out_tile3 m c hQ hK hT t 15 (by decide) ⟨t.val / 2 % 8, by omega⟩ ⟨t.val / 16, by omega⟩ rfl rfl ![0, 0, 1920] ![0, 128, 1920] ![0, 256, 1920] ![0, 384, 1920] (k0_off1 (grid0.coords t) 1920#32) (k0_off2 (grid0.coords t) 1920#32) (k0_off3 (grid0.coords t) 1920#32) (k0_off4 (grid0.coords t) 1920#32) (k0_off5 (grid0.coords t) 1920#32) (k0_off6 (grid0.coords t) 1920#32) _ _ _ _ _ _ _ _ _ _ rfl (off4 t 15) (off5 t 15) (off6 t 15) x _ (by show 512 * (t.val / 16) + (y 1).val = 512 * (t.val / 16) + (384 + (x 1).val); omega) _ (by show 2048 * (t.val % 2) + (y 2).val = _; rw [h2]; unfold QS; omega)
  case piece1 => exact out_tile2 m c hQ hK hT t 15 (by decide) ⟨t.val / 2 % 8, by omega⟩ ⟨t.val / 16, by omega⟩ rfl rfl ![0, 0, 1920] ![0, 128, 1920] ![0, 256, 1920] ![0, 384, 1920] (k0_off1 (grid0.coords t) 1920#32) (k0_off2 (grid0.coords t) 1920#32) (k0_off3 (grid0.coords t) 1920#32) (k0_off4 (grid0.coords t) 1920#32) (k0_off5 (grid0.coords t) 1920#32) (k0_off6 (grid0.coords t) 1920#32) _ _ _ _ _ _ _ _ _ _ rfl (off3 t 15) (off5 t 15) (off6 t 15) x _ (by show 512 * (t.val / 16) + (y 1).val = 512 * (t.val / 16) + (256 + (x 1).val); omega) _ (by show 2048 * (t.val % 2) + (y 2).val = _; rw [h2]; unfold QS; omega)
  case piece2 => exact out_tile1 m c hQ hK hT t 15 (by decide) ⟨t.val / 2 % 8, by omega⟩ ⟨t.val / 16, by omega⟩ rfl rfl ![0, 0, 1920] ![0, 128, 1920] ![0, 256, 1920] ![0, 384, 1920] (k0_off1 (grid0.coords t) 1920#32) (k0_off2 (grid0.coords t) 1920#32) (k0_off3 (grid0.coords t) 1920#32) (k0_off4 (grid0.coords t) 1920#32) (k0_off5 (grid0.coords t) 1920#32) (k0_off6 (grid0.coords t) 1920#32) _ _ _ _ _ _ _ _ _ _ rfl (off2 t 15) (off5 t 15) (off6 t 15) x _ (by show 512 * (t.val / 16) + (y 1).val = 512 * (t.val / 16) + (128 + (x 1).val); omega) _ (by show 2048 * (t.val % 2) + (y 2).val = _; rw [h2]; unfold QS; omega)
  case piece3 => exact out_tile0 m c hQ hK hT t 15 (by decide) ⟨t.val / 2 % 8, by omega⟩ ⟨t.val / 16, by omega⟩ rfl rfl ![0, 0, 1920] ![0, 128, 1920] ![0, 256, 1920] ![0, 384, 1920] (k0_off1 (grid0.coords t) 1920#32) (k0_off2 (grid0.coords t) 1920#32) (k0_off3 (grid0.coords t) 1920#32) (k0_off4 (grid0.coords t) 1920#32) (k0_off5 (grid0.coords t) 1920#32) (k0_off6 (grid0.coords t) 1920#32) _ _ _ _ _ _ _ _ _ _ rfl (off1 t 15) (off5 t 15) (off6 t 15) x _ (by show 512 * (t.val / 16) + (y 1).val = 512 * (t.val / 16) + (0 + (x 1).val); omega) _ (by show 2048 * (t.val % 2) + (y 2).val = _; rw [h2]; unfold QS; omega)
  case piece4 => exact out_tile3 m c hQ hK hT t 14 (by decide) ⟨t.val / 2 % 8, by omega⟩ ⟨t.val / 16, by omega⟩ rfl rfl ![0, 0, 1792] ![0, 128, 1792] ![0, 256, 1792] ![0, 384, 1792] (k0_off1 (grid0.coords t) 1792#32) (k0_off2 (grid0.coords t) 1792#32) (k0_off3 (grid0.coords t) 1792#32) (k0_off4 (grid0.coords t) 1792#32) (k0_off5 (grid0.coords t) 1792#32) (k0_off6 (grid0.coords t) 1792#32) _ _ _ _ _ _ _ _ _ _ rfl (off4 t 14) (off5 t 14) (off6 t 14) x _ (by show 512 * (t.val / 16) + (y 1).val = 512 * (t.val / 16) + (384 + (x 1).val); omega) _ (by show 2048 * (t.val % 2) + (y 2).val = _; rw [h2]; unfold QS; omega)
  case piece5 => exact out_tile2 m c hQ hK hT t 14 (by decide) ⟨t.val / 2 % 8, by omega⟩ ⟨t.val / 16, by omega⟩ rfl rfl ![0, 0, 1792] ![0, 128, 1792] ![0, 256, 1792] ![0, 384, 1792] (k0_off1 (grid0.coords t) 1792#32) (k0_off2 (grid0.coords t) 1792#32) (k0_off3 (grid0.coords t) 1792#32) (k0_off4 (grid0.coords t) 1792#32) (k0_off5 (grid0.coords t) 1792#32) (k0_off6 (grid0.coords t) 1792#32) _ _ _ _ _ _ _ _ _ _ rfl (off3 t 14) (off5 t 14) (off6 t 14) x _ (by show 512 * (t.val / 16) + (y 1).val = 512 * (t.val / 16) + (256 + (x 1).val); omega) _ (by show 2048 * (t.val % 2) + (y 2).val = _; rw [h2]; unfold QS; omega)
  case piece6 => exact out_tile1 m c hQ hK hT t 14 (by decide) ⟨t.val / 2 % 8, by omega⟩ ⟨t.val / 16, by omega⟩ rfl rfl ![0, 0, 1792] ![0, 128, 1792] ![0, 256, 1792] ![0, 384, 1792] (k0_off1 (grid0.coords t) 1792#32) (k0_off2 (grid0.coords t) 1792#32) (k0_off3 (grid0.coords t) 1792#32) (k0_off4 (grid0.coords t) 1792#32) (k0_off5 (grid0.coords t) 1792#32) (k0_off6 (grid0.coords t) 1792#32) _ _ _ _ _ _ _ _ _ _ rfl (off2 t 14) (off5 t 14) (off6 t 14) x _ (by show 512 * (t.val / 16) + (y 1).val = 512 * (t.val / 16) + (128 + (x 1).val); omega) _ (by show 2048 * (t.val % 2) + (y 2).val = _; rw [h2]; unfold QS; omega)
  case piece7 => exact out_tile0 m c hQ hK hT t 14 (by decide) ⟨t.val / 2 % 8, by omega⟩ ⟨t.val / 16, by omega⟩ rfl rfl ![0, 0, 1792] ![0, 128, 1792] ![0, 256, 1792] ![0, 384, 1792] (k0_off1 (grid0.coords t) 1792#32) (k0_off2 (grid0.coords t) 1792#32) (k0_off3 (grid0.coords t) 1792#32) (k0_off4 (grid0.coords t) 1792#32) (k0_off5 (grid0.coords t) 1792#32) (k0_off6 (grid0.coords t) 1792#32) _ _ _ _ _ _ _ _ _ _ rfl (off1 t 14) (off5 t 14) (off6 t 14) x _ (by show 512 * (t.val / 16) + (y 1).val = 512 * (t.val / 16) + (0 + (x 1).val); omega) _ (by show 2048 * (t.val % 2) + (y 2).val = _; rw [h2]; unfold QS; omega)
  case piece8 => exact out_tile3 m c hQ hK hT t 13 (by decide) ⟨t.val / 2 % 8, by omega⟩ ⟨t.val / 16, by omega⟩ rfl rfl ![0, 0, 1664] ![0, 128, 1664] ![0, 256, 1664] ![0, 384, 1664] (k0_off1 (grid0.coords t) 1664#32) (k0_off2 (grid0.coords t) 1664#32) (k0_off3 (grid0.coords t) 1664#32) (k0_off4 (grid0.coords t) 1664#32) (k0_off5 (grid0.coords t) 1664#32) (k0_off6 (grid0.coords t) 1664#32) _ _ _ _ _ _ _ _ _ _ rfl (off4 t 13) (off5 t 13) (off6 t 13) x _ (by show 512 * (t.val / 16) + (y 1).val = 512 * (t.val / 16) + (384 + (x 1).val); omega) _ (by show 2048 * (t.val % 2) + (y 2).val = _; rw [h2]; unfold QS; omega)
  case piece9 => exact out_tile2 m c hQ hK hT t 13 (by decide) ⟨t.val / 2 % 8, by omega⟩ ⟨t.val / 16, by omega⟩ rfl rfl ![0, 0, 1664] ![0, 128, 1664] ![0, 256, 1664] ![0, 384, 1664] (k0_off1 (grid0.coords t) 1664#32) (k0_off2 (grid0.coords t) 1664#32) (k0_off3 (grid0.coords t) 1664#32) (k0_off4 (grid0.coords t) 1664#32) (k0_off5 (grid0.coords t) 1664#32) (k0_off6 (grid0.coords t) 1664#32) _ _ _ _ _ _ _ _ _ _ rfl (off3 t 13) (off5 t 13) (off6 t 13) x _ (by show 512 * (t.val / 16) + (y 1).val = 512 * (t.val / 16) + (256 + (x 1).val); omega) _ (by show 2048 * (t.val % 2) + (y 2).val = _; rw [h2]; unfold QS; omega)
  case piece10 => exact out_tile1 m c hQ hK hT t 13 (by decide) ⟨t.val / 2 % 8, by omega⟩ ⟨t.val / 16, by omega⟩ rfl rfl ![0, 0, 1664] ![0, 128, 1664] ![0, 256, 1664] ![0, 384, 1664] (k0_off1 (grid0.coords t) 1664#32) (k0_off2 (grid0.coords t) 1664#32) (k0_off3 (grid0.coords t) 1664#32) (k0_off4 (grid0.coords t) 1664#32) (k0_off5 (grid0.coords t) 1664#32) (k0_off6 (grid0.coords t) 1664#32) _ _ _ _ _ _ _ _ _ _ rfl (off2 t 13) (off5 t 13) (off6 t 13) x _ (by show 512 * (t.val / 16) + (y 1).val = 512 * (t.val / 16) + (128 + (x 1).val); omega) _ (by show 2048 * (t.val % 2) + (y 2).val = _; rw [h2]; unfold QS; omega)
  case piece11 => exact out_tile0 m c hQ hK hT t 13 (by decide) ⟨t.val / 2 % 8, by omega⟩ ⟨t.val / 16, by omega⟩ rfl rfl ![0, 0, 1664] ![0, 128, 1664] ![0, 256, 1664] ![0, 384, 1664] (k0_off1 (grid0.coords t) 1664#32) (k0_off2 (grid0.coords t) 1664#32) (k0_off3 (grid0.coords t) 1664#32) (k0_off4 (grid0.coords t) 1664#32) (k0_off5 (grid0.coords t) 1664#32) (k0_off6 (grid0.coords t) 1664#32) _ _ _ _ _ _ _ _ _ _ rfl (off1 t 13) (off5 t 13) (off6 t 13) x _ (by show 512 * (t.val / 16) + (y 1).val = 512 * (t.val / 16) + (0 + (x 1).val); omega) _ (by show 2048 * (t.val % 2) + (y 2).val = _; rw [h2]; unfold QS; omega)
  case piece12 => exact out_tile3 m c hQ hK hT t 12 (by decide) ⟨t.val / 2 % 8, by omega⟩ ⟨t.val / 16, by omega⟩ rfl rfl ![0, 0, 1536] ![0, 128, 1536] ![0, 256, 1536] ![0, 384, 1536] (k0_off1 (grid0.coords t) 1536#32) (k0_off2 (grid0.coords t) 1536#32) (k0_off3 (grid0.coords t) 1536#32) (k0_off4 (grid0.coords t) 1536#32) (k0_off5 (grid0.coords t) 1536#32) (k0_off6 (grid0.coords t) 1536#32) _ _ _ _ _ _ _ _ _ _ rfl (off4 t 12) (off5 t 12) (off6 t 12) x _ (by show 512 * (t.val / 16) + (y 1).val = 512 * (t.val / 16) + (384 + (x 1).val); omega) _ (by show 2048 * (t.val % 2) + (y 2).val = _; rw [h2]; unfold QS; omega)
  case piece13 => exact out_tile2 m c hQ hK hT t 12 (by decide) ⟨t.val / 2 % 8, by omega⟩ ⟨t.val / 16, by omega⟩ rfl rfl ![0, 0, 1536] ![0, 128, 1536] ![0, 256, 1536] ![0, 384, 1536] (k0_off1 (grid0.coords t) 1536#32) (k0_off2 (grid0.coords t) 1536#32) (k0_off3 (grid0.coords t) 1536#32) (k0_off4 (grid0.coords t) 1536#32) (k0_off5 (grid0.coords t) 1536#32) (k0_off6 (grid0.coords t) 1536#32) _ _ _ _ _ _ _ _ _ _ rfl (off3 t 12) (off5 t 12) (off6 t 12) x _ (by show 512 * (t.val / 16) + (y 1).val = 512 * (t.val / 16) + (256 + (x 1).val); omega) _ (by show 2048 * (t.val % 2) + (y 2).val = _; rw [h2]; unfold QS; omega)
  case piece14 => exact out_tile1 m c hQ hK hT t 12 (by decide) ⟨t.val / 2 % 8, by omega⟩ ⟨t.val / 16, by omega⟩ rfl rfl ![0, 0, 1536] ![0, 128, 1536] ![0, 256, 1536] ![0, 384, 1536] (k0_off1 (grid0.coords t) 1536#32) (k0_off2 (grid0.coords t) 1536#32) (k0_off3 (grid0.coords t) 1536#32) (k0_off4 (grid0.coords t) 1536#32) (k0_off5 (grid0.coords t) 1536#32) (k0_off6 (grid0.coords t) 1536#32) _ _ _ _ _ _ _ _ _ _ rfl (off2 t 12) (off5 t 12) (off6 t 12) x _ (by show 512 * (t.val / 16) + (y 1).val = 512 * (t.val / 16) + (128 + (x 1).val); omega) _ (by show 2048 * (t.val % 2) + (y 2).val = _; rw [h2]; unfold QS; omega)
  case piece15 => exact out_tile0 m c hQ hK hT t 12 (by decide) ⟨t.val / 2 % 8, by omega⟩ ⟨t.val / 16, by omega⟩ rfl rfl ![0, 0, 1536] ![0, 128, 1536] ![0, 256, 1536] ![0, 384, 1536] (k0_off1 (grid0.coords t) 1536#32) (k0_off2 (grid0.coords t) 1536#32) (k0_off3 (grid0.coords t) 1536#32) (k0_off4 (grid0.coords t) 1536#32) (k0_off5 (grid0.coords t) 1536#32) (k0_off6 (grid0.coords t) 1536#32) _ _ _ _ _ _ _ _ _ _ rfl (off1 t 12) (off5 t 12) (off6 t 12) x _ (by show 512 * (t.val / 16) + (y 1).val = 512 * (t.val / 16) + (0 + (x 1).val); omega) _ (by show 2048 * (t.val % 2) + (y 2).val = _; rw [h2]; unfold QS; omega)
  case piece16 => exact out_tile3 m c hQ hK hT t 11 (by decide) ⟨t.val / 2 % 8, by omega⟩ ⟨t.val / 16, by omega⟩ rfl rfl ![0, 0, 1408] ![0, 128, 1408] ![0, 256, 1408] ![0, 384, 1408] (k0_off1 (grid0.coords t) 1408#32) (k0_off2 (grid0.coords t) 1408#32) (k0_off3 (grid0.coords t) 1408#32) (k0_off4 (grid0.coords t) 1408#32) (k0_off5 (grid0.coords t) 1408#32) (k0_off6 (grid0.coords t) 1408#32) _ _ _ _ _ _ _ _ _ _ rfl (off4 t 11) (off5 t 11) (off6 t 11) x _ (by show 512 * (t.val / 16) + (y 1).val = 512 * (t.val / 16) + (384 + (x 1).val); omega) _ (by show 2048 * (t.val % 2) + (y 2).val = _; rw [h2]; unfold QS; omega)
  case piece17 => exact out_tile2 m c hQ hK hT t 11 (by decide) ⟨t.val / 2 % 8, by omega⟩ ⟨t.val / 16, by omega⟩ rfl rfl ![0, 0, 1408] ![0, 128, 1408] ![0, 256, 1408] ![0, 384, 1408] (k0_off1 (grid0.coords t) 1408#32) (k0_off2 (grid0.coords t) 1408#32) (k0_off3 (grid0.coords t) 1408#32) (k0_off4 (grid0.coords t) 1408#32) (k0_off5 (grid0.coords t) 1408#32) (k0_off6 (grid0.coords t) 1408#32) _ _ _ _ _ _ _ _ _ _ rfl (off3 t 11) (off5 t 11) (off6 t 11) x _ (by show 512 * (t.val / 16) + (y 1).val = 512 * (t.val / 16) + (256 + (x 1).val); omega) _ (by show 2048 * (t.val % 2) + (y 2).val = _; rw [h2]; unfold QS; omega)
  case piece18 => exact out_tile1 m c hQ hK hT t 11 (by decide) ⟨t.val / 2 % 8, by omega⟩ ⟨t.val / 16, by omega⟩ rfl rfl ![0, 0, 1408] ![0, 128, 1408] ![0, 256, 1408] ![0, 384, 1408] (k0_off1 (grid0.coords t) 1408#32) (k0_off2 (grid0.coords t) 1408#32) (k0_off3 (grid0.coords t) 1408#32) (k0_off4 (grid0.coords t) 1408#32) (k0_off5 (grid0.coords t) 1408#32) (k0_off6 (grid0.coords t) 1408#32) _ _ _ _ _ _ _ _ _ _ rfl (off2 t 11) (off5 t 11) (off6 t 11) x _ (by show 512 * (t.val / 16) + (y 1).val = 512 * (t.val / 16) + (128 + (x 1).val); omega) _ (by show 2048 * (t.val % 2) + (y 2).val = _; rw [h2]; unfold QS; omega)
  case piece19 => exact out_tile0 m c hQ hK hT t 11 (by decide) ⟨t.val / 2 % 8, by omega⟩ ⟨t.val / 16, by omega⟩ rfl rfl ![0, 0, 1408] ![0, 128, 1408] ![0, 256, 1408] ![0, 384, 1408] (k0_off1 (grid0.coords t) 1408#32) (k0_off2 (grid0.coords t) 1408#32) (k0_off3 (grid0.coords t) 1408#32) (k0_off4 (grid0.coords t) 1408#32) (k0_off5 (grid0.coords t) 1408#32) (k0_off6 (grid0.coords t) 1408#32) _ _ _ _ _ _ _ _ _ _ rfl (off1 t 11) (off5 t 11) (off6 t 11) x _ (by show 512 * (t.val / 16) + (y 1).val = 512 * (t.val / 16) + (0 + (x 1).val); omega) _ (by show 2048 * (t.val % 2) + (y 2).val = _; rw [h2]; unfold QS; omega)
  case piece20 => exact out_tile3 m c hQ hK hT t 10 (by decide) ⟨t.val / 2 % 8, by omega⟩ ⟨t.val / 16, by omega⟩ rfl rfl ![0, 0, 1280] ![0, 128, 1280] ![0, 256, 1280] ![0, 384, 1280] (k0_off1 (grid0.coords t) 1280#32) (k0_off2 (grid0.coords t) 1280#32) (k0_off3 (grid0.coords t) 1280#32) (k0_off4 (grid0.coords t) 1280#32) (k0_off5 (grid0.coords t) 1280#32) (k0_off6 (grid0.coords t) 1280#32) _ _ _ _ _ _ _ _ _ _ rfl (off4 t 10) (off5 t 10) (off6 t 10) x _ (by show 512 * (t.val / 16) + (y 1).val = 512 * (t.val / 16) + (384 + (x 1).val); omega) _ (by show 2048 * (t.val % 2) + (y 2).val = _; rw [h2]; unfold QS; omega)
  case piece21 => exact out_tile2 m c hQ hK hT t 10 (by decide) ⟨t.val / 2 % 8, by omega⟩ ⟨t.val / 16, by omega⟩ rfl rfl ![0, 0, 1280] ![0, 128, 1280] ![0, 256, 1280] ![0, 384, 1280] (k0_off1 (grid0.coords t) 1280#32) (k0_off2 (grid0.coords t) 1280#32) (k0_off3 (grid0.coords t) 1280#32) (k0_off4 (grid0.coords t) 1280#32) (k0_off5 (grid0.coords t) 1280#32) (k0_off6 (grid0.coords t) 1280#32) _ _ _ _ _ _ _ _ _ _ rfl (off3 t 10) (off5 t 10) (off6 t 10) x _ (by show 512 * (t.val / 16) + (y 1).val = 512 * (t.val / 16) + (256 + (x 1).val); omega) _ (by show 2048 * (t.val % 2) + (y 2).val = _; rw [h2]; unfold QS; omega)
  case piece22 => exact out_tile1 m c hQ hK hT t 10 (by decide) ⟨t.val / 2 % 8, by omega⟩ ⟨t.val / 16, by omega⟩ rfl rfl ![0, 0, 1280] ![0, 128, 1280] ![0, 256, 1280] ![0, 384, 1280] (k0_off1 (grid0.coords t) 1280#32) (k0_off2 (grid0.coords t) 1280#32) (k0_off3 (grid0.coords t) 1280#32) (k0_off4 (grid0.coords t) 1280#32) (k0_off5 (grid0.coords t) 1280#32) (k0_off6 (grid0.coords t) 1280#32) _ _ _ _ _ _ _ _ _ _ rfl (off2 t 10) (off5 t 10) (off6 t 10) x _ (by show 512 * (t.val / 16) + (y 1).val = 512 * (t.val / 16) + (128 + (x 1).val); omega) _ (by show 2048 * (t.val % 2) + (y 2).val = _; rw [h2]; unfold QS; omega)
  case piece23 => exact out_tile0 m c hQ hK hT t 10 (by decide) ⟨t.val / 2 % 8, by omega⟩ ⟨t.val / 16, by omega⟩ rfl rfl ![0, 0, 1280] ![0, 128, 1280] ![0, 256, 1280] ![0, 384, 1280] (k0_off1 (grid0.coords t) 1280#32) (k0_off2 (grid0.coords t) 1280#32) (k0_off3 (grid0.coords t) 1280#32) (k0_off4 (grid0.coords t) 1280#32) (k0_off5 (grid0.coords t) 1280#32) (k0_off6 (grid0.coords t) 1280#32) _ _ _ _ _ _ _ _ _ _ rfl (off1 t 10) (off5 t 10) (off6 t 10) x _ (by show 512 * (t.val / 16) + (y 1).val = 512 * (t.val / 16) + (0 + (x 1).val); omega) _ (by show 2048 * (t.val % 2) + (y 2).val = _; rw [h2]; unfold QS; omega)
  case piece24 => exact out_tile3 m c hQ hK hT t 9 (by decide) ⟨t.val / 2 % 8, by omega⟩ ⟨t.val / 16, by omega⟩ rfl rfl ![0, 0, 1152] ![0, 128, 1152] ![0, 256, 1152] ![0, 384, 1152] (k0_off1 (grid0.coords t) 1152#32) (k0_off2 (grid0.coords t) 1152#32) (k0_off3 (grid0.coords t) 1152#32) (k0_off4 (grid0.coords t) 1152#32) (k0_off5 (grid0.coords t) 1152#32) (k0_off6 (grid0.coords t) 1152#32) _ _ _ _ _ _ _ _ _ _ rfl (off4 t 9) (off5 t 9) (off6 t 9) x _ (by show 512 * (t.val / 16) + (y 1).val = 512 * (t.val / 16) + (384 + (x 1).val); omega) _ (by show 2048 * (t.val % 2) + (y 2).val = _; rw [h2]; unfold QS; omega)
  case piece25 => exact out_tile2 m c hQ hK hT t 9 (by decide) ⟨t.val / 2 % 8, by omega⟩ ⟨t.val / 16, by omega⟩ rfl rfl ![0, 0, 1152] ![0, 128, 1152] ![0, 256, 1152] ![0, 384, 1152] (k0_off1 (grid0.coords t) 1152#32) (k0_off2 (grid0.coords t) 1152#32) (k0_off3 (grid0.coords t) 1152#32) (k0_off4 (grid0.coords t) 1152#32) (k0_off5 (grid0.coords t) 1152#32) (k0_off6 (grid0.coords t) 1152#32) _ _ _ _ _ _ _ _ _ _ rfl (off3 t 9) (off5 t 9) (off6 t 9) x _ (by show 512 * (t.val / 16) + (y 1).val = 512 * (t.val / 16) + (256 + (x 1).val); omega) _ (by show 2048 * (t.val % 2) + (y 2).val = _; rw [h2]; unfold QS; omega)
  case piece26 => exact out_tile1 m c hQ hK hT t 9 (by decide) ⟨t.val / 2 % 8, by omega⟩ ⟨t.val / 16, by omega⟩ rfl rfl ![0, 0, 1152] ![0, 128, 1152] ![0, 256, 1152] ![0, 384, 1152] (k0_off1 (grid0.coords t) 1152#32) (k0_off2 (grid0.coords t) 1152#32) (k0_off3 (grid0.coords t) 1152#32) (k0_off4 (grid0.coords t) 1152#32) (k0_off5 (grid0.coords t) 1152#32) (k0_off6 (grid0.coords t) 1152#32) _ _ _ _ _ _ _ _ _ _ rfl (off2 t 9) (off5 t 9) (off6 t 9) x _ (by show 512 * (t.val / 16) + (y 1).val = 512 * (t.val / 16) + (128 + (x 1).val); omega) _ (by show 2048 * (t.val % 2) + (y 2).val = _; rw [h2]; unfold QS; omega)
  case piece27 => exact out_tile0 m c hQ hK hT t 9 (by decide) ⟨t.val / 2 % 8, by omega⟩ ⟨t.val / 16, by omega⟩ rfl rfl ![0, 0, 1152] ![0, 128, 1152] ![0, 256, 1152] ![0, 384, 1152] (k0_off1 (grid0.coords t) 1152#32) (k0_off2 (grid0.coords t) 1152#32) (k0_off3 (grid0.coords t) 1152#32) (k0_off4 (grid0.coords t) 1152#32) (k0_off5 (grid0.coords t) 1152#32) (k0_off6 (grid0.coords t) 1152#32) _ _ _ _ _ _ _ _ _ _ rfl (off1 t 9) (off5 t 9) (off6 t 9) x _ (by show 512 * (t.val / 16) + (y 1).val = 512 * (t.val / 16) + (0 + (x 1).val); omega) _ (by show 2048 * (t.val % 2) + (y 2).val = _; rw [h2]; unfold QS; omega)
  case piece28 => exact out_tile3 m c hQ hK hT t 8 (by decide) ⟨t.val / 2 % 8, by omega⟩ ⟨t.val / 16, by omega⟩ rfl rfl ![0, 0, 1024] ![0, 128, 1024] ![0, 256, 1024] ![0, 384, 1024] (k0_off1 (grid0.coords t) 1024#32) (k0_off2 (grid0.coords t) 1024#32) (k0_off3 (grid0.coords t) 1024#32) (k0_off4 (grid0.coords t) 1024#32) (k0_off5 (grid0.coords t) 1024#32) (k0_off6 (grid0.coords t) 1024#32) _ _ _ _ _ _ _ _ _ _ rfl (off4 t 8) (off5 t 8) (off6 t 8) x _ (by show 512 * (t.val / 16) + (y 1).val = 512 * (t.val / 16) + (384 + (x 1).val); omega) _ (by show 2048 * (t.val % 2) + (y 2).val = _; rw [h2]; unfold QS; omega)
  case piece29 => exact out_tile2 m c hQ hK hT t 8 (by decide) ⟨t.val / 2 % 8, by omega⟩ ⟨t.val / 16, by omega⟩ rfl rfl ![0, 0, 1024] ![0, 128, 1024] ![0, 256, 1024] ![0, 384, 1024] (k0_off1 (grid0.coords t) 1024#32) (k0_off2 (grid0.coords t) 1024#32) (k0_off3 (grid0.coords t) 1024#32) (k0_off4 (grid0.coords t) 1024#32) (k0_off5 (grid0.coords t) 1024#32) (k0_off6 (grid0.coords t) 1024#32) _ _ _ _ _ _ _ _ _ _ rfl (off3 t 8) (off5 t 8) (off6 t 8) x _ (by show 512 * (t.val / 16) + (y 1).val = 512 * (t.val / 16) + (256 + (x 1).val); omega) _ (by show 2048 * (t.val % 2) + (y 2).val = _; rw [h2]; unfold QS; omega)
  case piece30 => exact out_tile1 m c hQ hK hT t 8 (by decide) ⟨t.val / 2 % 8, by omega⟩ ⟨t.val / 16, by omega⟩ rfl rfl ![0, 0, 1024] ![0, 128, 1024] ![0, 256, 1024] ![0, 384, 1024] (k0_off1 (grid0.coords t) 1024#32) (k0_off2 (grid0.coords t) 1024#32) (k0_off3 (grid0.coords t) 1024#32) (k0_off4 (grid0.coords t) 1024#32) (k0_off5 (grid0.coords t) 1024#32) (k0_off6 (grid0.coords t) 1024#32) _ _ _ _ _ _ _ _ _ _ rfl (off2 t 8) (off5 t 8) (off6 t 8) x _ (by show 512 * (t.val / 16) + (y 1).val = 512 * (t.val / 16) + (128 + (x 1).val); omega) _ (by show 2048 * (t.val % 2) + (y 2).val = _; rw [h2]; unfold QS; omega)
  case piece31 => exact out_tile0 m c hQ hK hT t 8 (by decide) ⟨t.val / 2 % 8, by omega⟩ ⟨t.val / 16, by omega⟩ rfl rfl ![0, 0, 1024] ![0, 128, 1024] ![0, 256, 1024] ![0, 384, 1024] (k0_off1 (grid0.coords t) 1024#32) (k0_off2 (grid0.coords t) 1024#32) (k0_off3 (grid0.coords t) 1024#32) (k0_off4 (grid0.coords t) 1024#32) (k0_off5 (grid0.coords t) 1024#32) (k0_off6 (grid0.coords t) 1024#32) _ _ _ _ _ _ _ _ _ _ rfl (off1 t 8) (off5 t 8) (off6 t 8) x _ (by show 512 * (t.val / 16) + (y 1).val = 512 * (t.val / 16) + (0 + (x 1).val); omega) _ (by show 2048 * (t.val % 2) + (y 2).val = _; rw [h2]; unfold QS; omega)
  case piece32 => exact out_tile3 m c hQ hK hT t 7 (by decide) ⟨t.val / 2 % 8, by omega⟩ ⟨t.val / 16, by omega⟩ rfl rfl ![0, 0, 896] ![0, 128, 896] ![0, 256, 896] ![0, 384, 896] (k0_off1 (grid0.coords t) 896#32) (k0_off2 (grid0.coords t) 896#32) (k0_off3 (grid0.coords t) 896#32) (k0_off4 (grid0.coords t) 896#32) (k0_off5 (grid0.coords t) 896#32) (k0_off6 (grid0.coords t) 896#32) _ _ _ _ _ _ _ _ _ _ rfl (off4 t 7) (off5 t 7) (off6 t 7) x _ (by show 512 * (t.val / 16) + (y 1).val = 512 * (t.val / 16) + (384 + (x 1).val); omega) _ (by show 2048 * (t.val % 2) + (y 2).val = _; rw [h2]; unfold QS; omega)
  case piece33 => exact out_tile2 m c hQ hK hT t 7 (by decide) ⟨t.val / 2 % 8, by omega⟩ ⟨t.val / 16, by omega⟩ rfl rfl ![0, 0, 896] ![0, 128, 896] ![0, 256, 896] ![0, 384, 896] (k0_off1 (grid0.coords t) 896#32) (k0_off2 (grid0.coords t) 896#32) (k0_off3 (grid0.coords t) 896#32) (k0_off4 (grid0.coords t) 896#32) (k0_off5 (grid0.coords t) 896#32) (k0_off6 (grid0.coords t) 896#32) _ _ _ _ _ _ _ _ _ _ rfl (off3 t 7) (off5 t 7) (off6 t 7) x _ (by show 512 * (t.val / 16) + (y 1).val = 512 * (t.val / 16) + (256 + (x 1).val); omega) _ (by show 2048 * (t.val % 2) + (y 2).val = _; rw [h2]; unfold QS; omega)
  case piece34 => exact out_tile1 m c hQ hK hT t 7 (by decide) ⟨t.val / 2 % 8, by omega⟩ ⟨t.val / 16, by omega⟩ rfl rfl ![0, 0, 896] ![0, 128, 896] ![0, 256, 896] ![0, 384, 896] (k0_off1 (grid0.coords t) 896#32) (k0_off2 (grid0.coords t) 896#32) (k0_off3 (grid0.coords t) 896#32) (k0_off4 (grid0.coords t) 896#32) (k0_off5 (grid0.coords t) 896#32) (k0_off6 (grid0.coords t) 896#32) _ _ _ _ _ _ _ _ _ _ rfl (off2 t 7) (off5 t 7) (off6 t 7) x _ (by show 512 * (t.val / 16) + (y 1).val = 512 * (t.val / 16) + (128 + (x 1).val); omega) _ (by show 2048 * (t.val % 2) + (y 2).val = _; rw [h2]; unfold QS; omega)
  case piece35 => exact out_tile0 m c hQ hK hT t 7 (by decide) ⟨t.val / 2 % 8, by omega⟩ ⟨t.val / 16, by omega⟩ rfl rfl ![0, 0, 896] ![0, 128, 896] ![0, 256, 896] ![0, 384, 896] (k0_off1 (grid0.coords t) 896#32) (k0_off2 (grid0.coords t) 896#32) (k0_off3 (grid0.coords t) 896#32) (k0_off4 (grid0.coords t) 896#32) (k0_off5 (grid0.coords t) 896#32) (k0_off6 (grid0.coords t) 896#32) _ _ _ _ _ _ _ _ _ _ rfl (off1 t 7) (off5 t 7) (off6 t 7) x _ (by show 512 * (t.val / 16) + (y 1).val = 512 * (t.val / 16) + (0 + (x 1).val); omega) _ (by show 2048 * (t.val % 2) + (y 2).val = _; rw [h2]; unfold QS; omega)
  case piece36 => exact out_tile3 m c hQ hK hT t 6 (by decide) ⟨t.val / 2 % 8, by omega⟩ ⟨t.val / 16, by omega⟩ rfl rfl ![0, 0, 768] ![0, 128, 768] ![0, 256, 768] ![0, 384, 768] (k0_off1 (grid0.coords t) 768#32) (k0_off2 (grid0.coords t) 768#32) (k0_off3 (grid0.coords t) 768#32) (k0_off4 (grid0.coords t) 768#32) (k0_off5 (grid0.coords t) 768#32) (k0_off6 (grid0.coords t) 768#32) _ _ _ _ _ _ _ _ _ _ rfl (off4 t 6) (off5 t 6) (off6 t 6) x _ (by show 512 * (t.val / 16) + (y 1).val = 512 * (t.val / 16) + (384 + (x 1).val); omega) _ (by show 2048 * (t.val % 2) + (y 2).val = _; rw [h2]; unfold QS; omega)
  case piece37 => exact out_tile2 m c hQ hK hT t 6 (by decide) ⟨t.val / 2 % 8, by omega⟩ ⟨t.val / 16, by omega⟩ rfl rfl ![0, 0, 768] ![0, 128, 768] ![0, 256, 768] ![0, 384, 768] (k0_off1 (grid0.coords t) 768#32) (k0_off2 (grid0.coords t) 768#32) (k0_off3 (grid0.coords t) 768#32) (k0_off4 (grid0.coords t) 768#32) (k0_off5 (grid0.coords t) 768#32) (k0_off6 (grid0.coords t) 768#32) _ _ _ _ _ _ _ _ _ _ rfl (off3 t 6) (off5 t 6) (off6 t 6) x _ (by show 512 * (t.val / 16) + (y 1).val = 512 * (t.val / 16) + (256 + (x 1).val); omega) _ (by show 2048 * (t.val % 2) + (y 2).val = _; rw [h2]; unfold QS; omega)
  case piece38 => exact out_tile1 m c hQ hK hT t 6 (by decide) ⟨t.val / 2 % 8, by omega⟩ ⟨t.val / 16, by omega⟩ rfl rfl ![0, 0, 768] ![0, 128, 768] ![0, 256, 768] ![0, 384, 768] (k0_off1 (grid0.coords t) 768#32) (k0_off2 (grid0.coords t) 768#32) (k0_off3 (grid0.coords t) 768#32) (k0_off4 (grid0.coords t) 768#32) (k0_off5 (grid0.coords t) 768#32) (k0_off6 (grid0.coords t) 768#32) _ _ _ _ _ _ _ _ _ _ rfl (off2 t 6) (off5 t 6) (off6 t 6) x _ (by show 512 * (t.val / 16) + (y 1).val = 512 * (t.val / 16) + (128 + (x 1).val); omega) _ (by show 2048 * (t.val % 2) + (y 2).val = _; rw [h2]; unfold QS; omega)
  case piece39 => exact out_tile0 m c hQ hK hT t 6 (by decide) ⟨t.val / 2 % 8, by omega⟩ ⟨t.val / 16, by omega⟩ rfl rfl ![0, 0, 768] ![0, 128, 768] ![0, 256, 768] ![0, 384, 768] (k0_off1 (grid0.coords t) 768#32) (k0_off2 (grid0.coords t) 768#32) (k0_off3 (grid0.coords t) 768#32) (k0_off4 (grid0.coords t) 768#32) (k0_off5 (grid0.coords t) 768#32) (k0_off6 (grid0.coords t) 768#32) _ _ _ _ _ _ _ _ _ _ rfl (off1 t 6) (off5 t 6) (off6 t 6) x _ (by show 512 * (t.val / 16) + (y 1).val = 512 * (t.val / 16) + (0 + (x 1).val); omega) _ (by show 2048 * (t.val % 2) + (y 2).val = _; rw [h2]; unfold QS; omega)
  case piece40 => exact out_tile3 m c hQ hK hT t 5 (by decide) ⟨t.val / 2 % 8, by omega⟩ ⟨t.val / 16, by omega⟩ rfl rfl ![0, 0, 640] ![0, 128, 640] ![0, 256, 640] ![0, 384, 640] (k0_off1 (grid0.coords t) 640#32) (k0_off2 (grid0.coords t) 640#32) (k0_off3 (grid0.coords t) 640#32) (k0_off4 (grid0.coords t) 640#32) (k0_off5 (grid0.coords t) 640#32) (k0_off6 (grid0.coords t) 640#32) _ _ _ _ _ _ _ _ _ _ rfl (off4 t 5) (off5 t 5) (off6 t 5) x _ (by show 512 * (t.val / 16) + (y 1).val = 512 * (t.val / 16) + (384 + (x 1).val); omega) _ (by show 2048 * (t.val % 2) + (y 2).val = _; rw [h2]; unfold QS; omega)
  case piece41 => exact out_tile2 m c hQ hK hT t 5 (by decide) ⟨t.val / 2 % 8, by omega⟩ ⟨t.val / 16, by omega⟩ rfl rfl ![0, 0, 640] ![0, 128, 640] ![0, 256, 640] ![0, 384, 640] (k0_off1 (grid0.coords t) 640#32) (k0_off2 (grid0.coords t) 640#32) (k0_off3 (grid0.coords t) 640#32) (k0_off4 (grid0.coords t) 640#32) (k0_off5 (grid0.coords t) 640#32) (k0_off6 (grid0.coords t) 640#32) _ _ _ _ _ _ _ _ _ _ rfl (off3 t 5) (off5 t 5) (off6 t 5) x _ (by show 512 * (t.val / 16) + (y 1).val = 512 * (t.val / 16) + (256 + (x 1).val); omega) _ (by show 2048 * (t.val % 2) + (y 2).val = _; rw [h2]; unfold QS; omega)
  case piece42 => exact out_tile1 m c hQ hK hT t 5 (by decide) ⟨t.val / 2 % 8, by omega⟩ ⟨t.val / 16, by omega⟩ rfl rfl ![0, 0, 640] ![0, 128, 640] ![0, 256, 640] ![0, 384, 640] (k0_off1 (grid0.coords t) 640#32) (k0_off2 (grid0.coords t) 640#32) (k0_off3 (grid0.coords t) 640#32) (k0_off4 (grid0.coords t) 640#32) (k0_off5 (grid0.coords t) 640#32) (k0_off6 (grid0.coords t) 640#32) _ _ _ _ _ _ _ _ _ _ rfl (off2 t 5) (off5 t 5) (off6 t 5) x _ (by show 512 * (t.val / 16) + (y 1).val = 512 * (t.val / 16) + (128 + (x 1).val); omega) _ (by show 2048 * (t.val % 2) + (y 2).val = _; rw [h2]; unfold QS; omega)
  case piece43 => exact out_tile0 m c hQ hK hT t 5 (by decide) ⟨t.val / 2 % 8, by omega⟩ ⟨t.val / 16, by omega⟩ rfl rfl ![0, 0, 640] ![0, 128, 640] ![0, 256, 640] ![0, 384, 640] (k0_off1 (grid0.coords t) 640#32) (k0_off2 (grid0.coords t) 640#32) (k0_off3 (grid0.coords t) 640#32) (k0_off4 (grid0.coords t) 640#32) (k0_off5 (grid0.coords t) 640#32) (k0_off6 (grid0.coords t) 640#32) _ _ _ _ _ _ _ _ _ _ rfl (off1 t 5) (off5 t 5) (off6 t 5) x _ (by show 512 * (t.val / 16) + (y 1).val = 512 * (t.val / 16) + (0 + (x 1).val); omega) _ (by show 2048 * (t.val % 2) + (y 2).val = _; rw [h2]; unfold QS; omega)
  case piece44 => exact out_tile3 m c hQ hK hT t 4 (by decide) ⟨t.val / 2 % 8, by omega⟩ ⟨t.val / 16, by omega⟩ rfl rfl ![0, 0, 512] ![0, 128, 512] ![0, 256, 512] ![0, 384, 512] (k0_off1 (grid0.coords t) 512#32) (k0_off2 (grid0.coords t) 512#32) (k0_off3 (grid0.coords t) 512#32) (k0_off4 (grid0.coords t) 512#32) (k0_off5 (grid0.coords t) 512#32) (k0_off6 (grid0.coords t) 512#32) _ _ _ _ _ _ _ _ _ _ rfl (off4 t 4) (off5 t 4) (off6 t 4) x _ (by show 512 * (t.val / 16) + (y 1).val = 512 * (t.val / 16) + (384 + (x 1).val); omega) _ (by show 2048 * (t.val % 2) + (y 2).val = _; rw [h2]; unfold QS; omega)
  case piece45 => exact out_tile2 m c hQ hK hT t 4 (by decide) ⟨t.val / 2 % 8, by omega⟩ ⟨t.val / 16, by omega⟩ rfl rfl ![0, 0, 512] ![0, 128, 512] ![0, 256, 512] ![0, 384, 512] (k0_off1 (grid0.coords t) 512#32) (k0_off2 (grid0.coords t) 512#32) (k0_off3 (grid0.coords t) 512#32) (k0_off4 (grid0.coords t) 512#32) (k0_off5 (grid0.coords t) 512#32) (k0_off6 (grid0.coords t) 512#32) _ _ _ _ _ _ _ _ _ _ rfl (off3 t 4) (off5 t 4) (off6 t 4) x _ (by show 512 * (t.val / 16) + (y 1).val = 512 * (t.val / 16) + (256 + (x 1).val); omega) _ (by show 2048 * (t.val % 2) + (y 2).val = _; rw [h2]; unfold QS; omega)
  case piece46 => exact out_tile1 m c hQ hK hT t 4 (by decide) ⟨t.val / 2 % 8, by omega⟩ ⟨t.val / 16, by omega⟩ rfl rfl ![0, 0, 512] ![0, 128, 512] ![0, 256, 512] ![0, 384, 512] (k0_off1 (grid0.coords t) 512#32) (k0_off2 (grid0.coords t) 512#32) (k0_off3 (grid0.coords t) 512#32) (k0_off4 (grid0.coords t) 512#32) (k0_off5 (grid0.coords t) 512#32) (k0_off6 (grid0.coords t) 512#32) _ _ _ _ _ _ _ _ _ _ rfl (off2 t 4) (off5 t 4) (off6 t 4) x _ (by show 512 * (t.val / 16) + (y 1).val = 512 * (t.val / 16) + (128 + (x 1).val); omega) _ (by show 2048 * (t.val % 2) + (y 2).val = _; rw [h2]; unfold QS; omega)
  case piece47 => exact out_tile0 m c hQ hK hT t 4 (by decide) ⟨t.val / 2 % 8, by omega⟩ ⟨t.val / 16, by omega⟩ rfl rfl ![0, 0, 512] ![0, 128, 512] ![0, 256, 512] ![0, 384, 512] (k0_off1 (grid0.coords t) 512#32) (k0_off2 (grid0.coords t) 512#32) (k0_off3 (grid0.coords t) 512#32) (k0_off4 (grid0.coords t) 512#32) (k0_off5 (grid0.coords t) 512#32) (k0_off6 (grid0.coords t) 512#32) _ _ _ _ _ _ _ _ _ _ rfl (off1 t 4) (off5 t 4) (off6 t 4) x _ (by show 512 * (t.val / 16) + (y 1).val = 512 * (t.val / 16) + (0 + (x 1).val); omega) _ (by show 2048 * (t.val % 2) + (y 2).val = _; rw [h2]; unfold QS; omega)
  case piece48 => exact out_tile3 m c hQ hK hT t 3 (by decide) ⟨t.val / 2 % 8, by omega⟩ ⟨t.val / 16, by omega⟩ rfl rfl ![0, 0, 384] ![0, 128, 384] ![0, 256, 384] ![0, 384, 384] (k0_off1 (grid0.coords t) 384#32) (k0_off2 (grid0.coords t) 384#32) (k0_off3 (grid0.coords t) 384#32) (k0_off4 (grid0.coords t) 384#32) (k0_off5 (grid0.coords t) 384#32) (k0_off6 (grid0.coords t) 384#32) _ _ _ _ _ _ _ _ _ _ rfl (off4 t 3) (off5 t 3) (off6 t 3) x _ (by show 512 * (t.val / 16) + (y 1).val = 512 * (t.val / 16) + (384 + (x 1).val); omega) _ (by show 2048 * (t.val % 2) + (y 2).val = _; rw [h2]; unfold QS; omega)
  case piece49 => exact out_tile2 m c hQ hK hT t 3 (by decide) ⟨t.val / 2 % 8, by omega⟩ ⟨t.val / 16, by omega⟩ rfl rfl ![0, 0, 384] ![0, 128, 384] ![0, 256, 384] ![0, 384, 384] (k0_off1 (grid0.coords t) 384#32) (k0_off2 (grid0.coords t) 384#32) (k0_off3 (grid0.coords t) 384#32) (k0_off4 (grid0.coords t) 384#32) (k0_off5 (grid0.coords t) 384#32) (k0_off6 (grid0.coords t) 384#32) _ _ _ _ _ _ _ _ _ _ rfl (off3 t 3) (off5 t 3) (off6 t 3) x _ (by show 512 * (t.val / 16) + (y 1).val = 512 * (t.val / 16) + (256 + (x 1).val); omega) _ (by show 2048 * (t.val % 2) + (y 2).val = _; rw [h2]; unfold QS; omega)
  case piece50 => exact out_tile1 m c hQ hK hT t 3 (by decide) ⟨t.val / 2 % 8, by omega⟩ ⟨t.val / 16, by omega⟩ rfl rfl ![0, 0, 384] ![0, 128, 384] ![0, 256, 384] ![0, 384, 384] (k0_off1 (grid0.coords t) 384#32) (k0_off2 (grid0.coords t) 384#32) (k0_off3 (grid0.coords t) 384#32) (k0_off4 (grid0.coords t) 384#32) (k0_off5 (grid0.coords t) 384#32) (k0_off6 (grid0.coords t) 384#32) _ _ _ _ _ _ _ _ _ _ rfl (off2 t 3) (off5 t 3) (off6 t 3) x _ (by show 512 * (t.val / 16) + (y 1).val = 512 * (t.val / 16) + (128 + (x 1).val); omega) _ (by show 2048 * (t.val % 2) + (y 2).val = _; rw [h2]; unfold QS; omega)
  case piece51 => exact out_tile0 m c hQ hK hT t 3 (by decide) ⟨t.val / 2 % 8, by omega⟩ ⟨t.val / 16, by omega⟩ rfl rfl ![0, 0, 384] ![0, 128, 384] ![0, 256, 384] ![0, 384, 384] (k0_off1 (grid0.coords t) 384#32) (k0_off2 (grid0.coords t) 384#32) (k0_off3 (grid0.coords t) 384#32) (k0_off4 (grid0.coords t) 384#32) (k0_off5 (grid0.coords t) 384#32) (k0_off6 (grid0.coords t) 384#32) _ _ _ _ _ _ _ _ _ _ rfl (off1 t 3) (off5 t 3) (off6 t 3) x _ (by show 512 * (t.val / 16) + (y 1).val = 512 * (t.val / 16) + (0 + (x 1).val); omega) _ (by show 2048 * (t.val % 2) + (y 2).val = _; rw [h2]; unfold QS; omega)
  case piece52 => exact out_tile3 m c hQ hK hT t 2 (by decide) ⟨t.val / 2 % 8, by omega⟩ ⟨t.val / 16, by omega⟩ rfl rfl ![0, 0, 256] ![0, 128, 256] ![0, 256, 256] ![0, 384, 256] (k0_off1 (grid0.coords t) 256#32) (k0_off2 (grid0.coords t) 256#32) (k0_off3 (grid0.coords t) 256#32) (k0_off4 (grid0.coords t) 256#32) (k0_off5 (grid0.coords t) 256#32) (k0_off6 (grid0.coords t) 256#32) _ _ _ _ _ _ _ _ _ _ rfl (off4 t 2) (off5 t 2) (off6 t 2) x _ (by show 512 * (t.val / 16) + (y 1).val = 512 * (t.val / 16) + (384 + (x 1).val); omega) _ (by show 2048 * (t.val % 2) + (y 2).val = _; rw [h2]; unfold QS; omega)
  case piece53 => exact out_tile2 m c hQ hK hT t 2 (by decide) ⟨t.val / 2 % 8, by omega⟩ ⟨t.val / 16, by omega⟩ rfl rfl ![0, 0, 256] ![0, 128, 256] ![0, 256, 256] ![0, 384, 256] (k0_off1 (grid0.coords t) 256#32) (k0_off2 (grid0.coords t) 256#32) (k0_off3 (grid0.coords t) 256#32) (k0_off4 (grid0.coords t) 256#32) (k0_off5 (grid0.coords t) 256#32) (k0_off6 (grid0.coords t) 256#32) _ _ _ _ _ _ _ _ _ _ rfl (off3 t 2) (off5 t 2) (off6 t 2) x _ (by show 512 * (t.val / 16) + (y 1).val = 512 * (t.val / 16) + (256 + (x 1).val); omega) _ (by show 2048 * (t.val % 2) + (y 2).val = _; rw [h2]; unfold QS; omega)
  case piece54 => exact out_tile1 m c hQ hK hT t 2 (by decide) ⟨t.val / 2 % 8, by omega⟩ ⟨t.val / 16, by omega⟩ rfl rfl ![0, 0, 256] ![0, 128, 256] ![0, 256, 256] ![0, 384, 256] (k0_off1 (grid0.coords t) 256#32) (k0_off2 (grid0.coords t) 256#32) (k0_off3 (grid0.coords t) 256#32) (k0_off4 (grid0.coords t) 256#32) (k0_off5 (grid0.coords t) 256#32) (k0_off6 (grid0.coords t) 256#32) _ _ _ _ _ _ _ _ _ _ rfl (off2 t 2) (off5 t 2) (off6 t 2) x _ (by show 512 * (t.val / 16) + (y 1).val = 512 * (t.val / 16) + (128 + (x 1).val); omega) _ (by show 2048 * (t.val % 2) + (y 2).val = _; rw [h2]; unfold QS; omega)
  case piece55 => exact out_tile0 m c hQ hK hT t 2 (by decide) ⟨t.val / 2 % 8, by omega⟩ ⟨t.val / 16, by omega⟩ rfl rfl ![0, 0, 256] ![0, 128, 256] ![0, 256, 256] ![0, 384, 256] (k0_off1 (grid0.coords t) 256#32) (k0_off2 (grid0.coords t) 256#32) (k0_off3 (grid0.coords t) 256#32) (k0_off4 (grid0.coords t) 256#32) (k0_off5 (grid0.coords t) 256#32) (k0_off6 (grid0.coords t) 256#32) _ _ _ _ _ _ _ _ _ _ rfl (off1 t 2) (off5 t 2) (off6 t 2) x _ (by show 512 * (t.val / 16) + (y 1).val = 512 * (t.val / 16) + (0 + (x 1).val); omega) _ (by show 2048 * (t.val % 2) + (y 2).val = _; rw [h2]; unfold QS; omega)
  case piece56 => exact out_tile3 m c hQ hK hT t 1 (by decide) ⟨t.val / 2 % 8, by omega⟩ ⟨t.val / 16, by omega⟩ rfl rfl ![0, 0, 128] ![0, 128, 128] ![0, 256, 128] ![0, 384, 128] (k0_off1 (grid0.coords t) 128#32) (k0_off2 (grid0.coords t) 128#32) (k0_off3 (grid0.coords t) 128#32) (k0_off4 (grid0.coords t) 128#32) (k0_off5 (grid0.coords t) 128#32) (k0_off6 (grid0.coords t) 128#32) _ _ _ _ _ _ _ _ _ _ rfl (off4 t 1) (off5 t 1) (off6 t 1) x _ (by show 512 * (t.val / 16) + (y 1).val = 512 * (t.val / 16) + (384 + (x 1).val); omega) _ (by show 2048 * (t.val % 2) + (y 2).val = _; rw [h2]; unfold QS; omega)
  case piece57 => exact out_tile2 m c hQ hK hT t 1 (by decide) ⟨t.val / 2 % 8, by omega⟩ ⟨t.val / 16, by omega⟩ rfl rfl ![0, 0, 128] ![0, 128, 128] ![0, 256, 128] ![0, 384, 128] (k0_off1 (grid0.coords t) 128#32) (k0_off2 (grid0.coords t) 128#32) (k0_off3 (grid0.coords t) 128#32) (k0_off4 (grid0.coords t) 128#32) (k0_off5 (grid0.coords t) 128#32) (k0_off6 (grid0.coords t) 128#32) _ _ _ _ _ _ _ _ _ _ rfl (off3 t 1) (off5 t 1) (off6 t 1) x _ (by show 512 * (t.val / 16) + (y 1).val = 512 * (t.val / 16) + (256 + (x 1).val); omega) _ (by show 2048 * (t.val % 2) + (y 2).val = _; rw [h2]; unfold QS; omega)
  case piece58 => exact out_tile1 m c hQ hK hT t 1 (by decide) ⟨t.val / 2 % 8, by omega⟩ ⟨t.val / 16, by omega⟩ rfl rfl ![0, 0, 128] ![0, 128, 128] ![0, 256, 128] ![0, 384, 128] (k0_off1 (grid0.coords t) 128#32) (k0_off2 (grid0.coords t) 128#32) (k0_off3 (grid0.coords t) 128#32) (k0_off4 (grid0.coords t) 128#32) (k0_off5 (grid0.coords t) 128#32) (k0_off6 (grid0.coords t) 128#32) _ _ _ _ _ _ _ _ _ _ rfl (off2 t 1) (off5 t 1) (off6 t 1) x _ (by show 512 * (t.val / 16) + (y 1).val = 512 * (t.val / 16) + (128 + (x 1).val); omega) _ (by show 2048 * (t.val % 2) + (y 2).val = _; rw [h2]; unfold QS; omega)
  case piece59 => exact out_tile0 m c hQ hK hT t 1 (by decide) ⟨t.val / 2 % 8, by omega⟩ ⟨t.val / 16, by omega⟩ rfl rfl ![0, 0, 128] ![0, 128, 128] ![0, 256, 128] ![0, 384, 128] (k0_off1 (grid0.coords t) 128#32) (k0_off2 (grid0.coords t) 128#32) (k0_off3 (grid0.coords t) 128#32) (k0_off4 (grid0.coords t) 128#32) (k0_off5 (grid0.coords t) 128#32) (k0_off6 (grid0.coords t) 128#32) _ _ _ _ _ _ _ _ _ _ rfl (off1 t 1) (off5 t 1) (off6 t 1) x _ (by show 512 * (t.val / 16) + (y 1).val = 512 * (t.val / 16) + (0 + (x 1).val); omega) _ (by show 2048 * (t.val % 2) + (y 2).val = _; rw [h2]; unfold QS; omega)
  case piece60 => exact out_tile3 m c hQ hK hT t 0 (by decide) ⟨t.val / 2 % 8, by omega⟩ ⟨t.val / 16, by omega⟩ rfl rfl ![0, 0, 0] ![0, 128, 0] ![0, 256, 0] ![0, 384, 0] (k0_off1 (grid0.coords t) 0#32) (k0_off2 (grid0.coords t) 0#32) (k0_off3 (grid0.coords t) 0#32) (k0_off4 (grid0.coords t) 0#32) (k0_off5 (grid0.coords t) 0#32) (k0_off6 (grid0.coords t) 0#32) _ _ _ _ _ _ _ _ _ _ rfl (off4 t 0) (off5 t 0) (off6 t 0) x _ (by show 512 * (t.val / 16) + (y 1).val = 512 * (t.val / 16) + (384 + (x 1).val); omega) _ (by show 2048 * (t.val % 2) + (y 2).val = _; rw [h2]; unfold QS; omega)
  case piece61 => exact out_tile2 m c hQ hK hT t 0 (by decide) ⟨t.val / 2 % 8, by omega⟩ ⟨t.val / 16, by omega⟩ rfl rfl ![0, 0, 0] ![0, 128, 0] ![0, 256, 0] ![0, 384, 0] (k0_off1 (grid0.coords t) 0#32) (k0_off2 (grid0.coords t) 0#32) (k0_off3 (grid0.coords t) 0#32) (k0_off4 (grid0.coords t) 0#32) (k0_off5 (grid0.coords t) 0#32) (k0_off6 (grid0.coords t) 0#32) _ _ _ _ _ _ _ _ _ _ rfl (off3 t 0) (off5 t 0) (off6 t 0) x _ (by show 512 * (t.val / 16) + (y 1).val = 512 * (t.val / 16) + (256 + (x 1).val); omega) _ (by show 2048 * (t.val % 2) + (y 2).val = _; rw [h2]; unfold QS; omega)
  case piece62 => exact out_tile1 m c hQ hK hT t 0 (by decide) ⟨t.val / 2 % 8, by omega⟩ ⟨t.val / 16, by omega⟩ rfl rfl ![0, 0, 0] ![0, 128, 0] ![0, 256, 0] ![0, 384, 0] (k0_off1 (grid0.coords t) 0#32) (k0_off2 (grid0.coords t) 0#32) (k0_off3 (grid0.coords t) 0#32) (k0_off4 (grid0.coords t) 0#32) (k0_off5 (grid0.coords t) 0#32) (k0_off6 (grid0.coords t) 0#32) _ _ _ _ _ _ _ _ _ _ rfl (off2 t 0) (off5 t 0) (off6 t 0) x _ (by show 512 * (t.val / 16) + (y 1).val = 512 * (t.val / 16) + (128 + (x 1).val); omega) _ (by show 2048 * (t.val % 2) + (y 2).val = _; rw [h2]; unfold QS; omega)
  case piece63 => exact out_tile0 m c hQ hK hT t 0 (by decide) ⟨t.val / 2 % 8, by omega⟩ ⟨t.val / 16, by omega⟩ rfl rfl ![0, 0, 0] ![0, 128, 0] ![0, 256, 0] ![0, 384, 0] (k0_off1 (grid0.coords t) 0#32) (k0_off2 (grid0.coords t) 0#32) (k0_off3 (grid0.coords t) 0#32) (k0_off4 (grid0.coords t) 0#32) (k0_off5 (grid0.coords t) 0#32) (k0_off6 (grid0.coords t) 0#32) _ _ _ _ _ _ _ _ _ _ rfl (off1 t 0) (off5 t 0) (off6 t 0) x _ (by show 512 * (t.val / 16) + (y 1).val = 512 * (t.val / 16) + (0 + (x 1).val); omega) _ (by show 2048 * (t.val % 2) + (y 2).val = _; rw [h2]; unfold QS; omega)

end Cert.Kernel3Ideal.Value
-- ==== Proof.BandLse.lean ====
/- The array of output window 5 after the run is the reference's result. -/
module

public import proofs.«01_k».proof.Proof.BandTile
public import Idealize.ShloMosaic.Lib.Pipeline.ReadBack

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Band

variable (m : (ℓ : Loc nD τ sig) → Buf (Elt Ideal) ℓ)

set_option maxHeartbeats 8000000 in
/-- The logs of the normaliser after the run are the reference's. -/
theorem final5 (c : Dev nD) (hQ : ∀ i, ∃ r : ℝ, aQ m c i = r) (hK : ∀ i, ∃ r : ℝ, aK m c i = r) (hT : ∀ i, ∃ r : ℝ, aT m c i = r) :
    (dats m 0 c).arrAt 5 (cfgs 0).N = RES1 (aQ m c) (aK m c) (aT m c) := by
  refine (dats m 0 c).arrAt_eq_of_covers 5 _ (by decide +kernel) fun t _ y => ?_
  blk_simp
  have ht : t.val < 64 := t.isLt
  have y2 : (y 2).val < 4 := (y 2).isLt
  have y3 : (y 3).val < 2048 := (y 3).isLt
  refine Eq.trans (b := RES1 (aQ m c) (aK m c) (aT m c) (ix4 ⟨t.val / 2 % 8, by omega⟩ ⟨t.val / 16, by omega⟩ ⟨(y 2).val, by omega⟩ ⟨2048 * (t.val % 2) + (y 3).val, by omega⟩)) ?_ (congrArg _ (by blk_ext [idx t]))
  rw [after0_5]; unfold Gen.outsAt0
  frame_open
  simp (disch := decide) only [↓View.readCov_skip, ↓View.readCov_cons_toLoadRect]
  frame_out
  canon_tiles x h
  case piece0 => exact lse_tile3 m c hQ hK hT t 15 (by decide) ⟨t.val / 2 % 8, by omega⟩ ⟨t.val / 16, by omega⟩ rfl rfl ![0, 0, 1920] ![0, 128, 1920] ![0, 256, 1920] ![0, 384, 1920] (k0_off1 (grid0.coords t) 1920#32) (k0_off2 (grid0.coords t) 1920#32) (k0_off3 (grid0.coords t) 1920#32) (k0_off4 (grid0.coords t) 1920#32) (k0_off5 (grid0.coords t) 1920#32) (k0_off6 (grid0.coords t) 1920#32) _ _ _ _ _ _ _ _ _ _ rfl (off4 t 15) (off5 t 15) x _ (by show (y 2).val = _; omega) _ (by show 2048 * (t.val % 2) + (y 3).val = _; rw [h3]; unfold QS; omega)
  case piece1 => exact lse_tile2 m c hQ hK hT t 15 (by decide) ⟨t.val / 2 % 8, by omega⟩ ⟨t.val / 16, by omega⟩ rfl rfl ![0, 0, 1920] ![0, 128, 1920] ![0, 256, 1920] ![0, 384, 1920] (k0_off1 (grid0.coords t) 1920#32) (k0_off2 (grid0.coords t) 1920#32) (k0_off3 (grid0.coords t) 1920#32) (k0_off4 (grid0.coords t) 1920#32) (k0_off5 (grid0.coords t) 1920#32) (k0_off6 (grid0.coords t) 1920#32) _ _ _ _ _ _ _ _ _ _ rfl (off3 t 15) (off5 t 15) x _ (by show (y 2).val = _; omega) _ (by show 2048 * (t.val % 2) + (y 3).val = _; rw [h3]; unfold QS; omega)
  case piece2 => exact lse_tile1 m c hQ hK hT t 15 (by decide) ⟨t.val / 2 % 8, by omega⟩ ⟨t.val / 16, by omega⟩ rfl rfl ![0, 0, 1920] ![0, 128, 1920] ![0, 256, 1920] ![0, 384, 1920] (k0_off1 (grid0.coords t) 1920#32) (k0_off2 (grid0.coords t) 1920#32) (k0_off3 (grid0.coords t) 1920#32) (k0_off4 (grid0.coords t) 1920#32) (k0_off5 (grid0.coords t) 1920#32) (k0_off6 (grid0.coords t) 1920#32) _ _ _ _ _ _ _ _ _ _ rfl (off2 t 15) (off5 t 15) x _ (by show (y 2).val = _; omega) _ (by show 2048 * (t.val % 2) + (y 3).val = _; rw [h3]; unfold QS; omega)
  case piece3 => exact lse_tile0 m c hQ hK hT t 15 (by decide) ⟨t.val / 2 % 8, by omega⟩ ⟨t.val / 16, by omega⟩ rfl rfl ![0, 0, 1920] ![0, 128, 1920] ![0, 256, 1920] ![0, 384, 1920] (k0_off1 (grid0.coords t) 1920#32) (k0_off2 (grid0.coords t) 1920#32) (k0_off3 (grid0.coords t) 1920#32) (k0_off4 (grid0.coords t) 1920#32) (k0_off5 (grid0.coords t) 1920#32) (k0_off6 (grid0.coords t) 1920#32) _ _ _ _ _ _ _ _ _ _ rfl (off1 t 15) (off5 t 15) x _ (by show (y 2).val = _; omega) _ (by show 2048 * (t.val % 2) + (y 3).val = _; rw [h3]; unfold QS; omega)
  case piece4 => exact lse_tile3 m c hQ hK hT t 14 (by decide) ⟨t.val / 2 % 8, by omega⟩ ⟨t.val / 16, by omega⟩ rfl rfl ![0, 0, 1792] ![0, 128, 1792] ![0, 256, 1792] ![0, 384, 1792] (k0_off1 (grid0.coords t) 1792#32) (k0_off2 (grid0.coords t) 1792#32) (k0_off3 (grid0.coords t) 1792#32) (k0_off4 (grid0.coords t) 1792#32) (k0_off5 (grid0.coords t) 1792#32) (k0_off6 (grid0.coords t) 1792#32) _ _ _ _ _ _ _ _ _ _ rfl (off4 t 14) (off5 t 14) x _ (by show (y 2).val = _; omega) _ (by show 2048 * (t.val % 2) + (y 3).val = _; rw [h3]; unfold QS; omega)
  case piece5 => exact lse_tile2 m c hQ hK hT t 14 (by decide) ⟨t.val / 2 % 8, by omega⟩ ⟨t.val / 16, by omega⟩ rfl rfl ![0, 0, 1792] ![0, 128, 1792] ![0, 256, 1792] ![0, 384, 1792] (k0_off1 (grid0.coords t) 1792#32) (k0_off2 (grid0.coords t) 1792#32) (k0_off3 (grid0.coords t) 1792#32) (k0_off4 (grid0.coords t) 1792#32) (k0_off5 (grid0.coords t) 1792#32) (k0_off6 (grid0.coords t) 1792#32) _ _ _ _ _ _ _ _ _ _ rfl (off3 t 14) (off5 t 14) x _ (by show (y 2).val = _; omega) _ (by show 2048 * (t.val % 2) + (y 3).val = _; rw [h3]; unfold QS; omega)
  case piece6 => exact lse_tile1 m c hQ hK hT t 14 (by decide) ⟨t.val / 2 % 8, by omega⟩ ⟨t.val / 16, by omega⟩ rfl rfl ![0, 0, 1792] ![0, 128, 1792] ![0, 256, 1792] ![0, 384, 1792] (k0_off1 (grid0.coords t) 1792#32) (k0_off2 (grid0.coords t) 1792#32) (k0_off3 (grid0.coords t) 1792#32) (k0_off4 (grid0.coords t) 1792#32) (k0_off5 (grid0.coords t) 1792#32) (k0_off6 (grid0.coords t) 1792#32) _ _ _ _ _ _ _ _ _ _ rfl (off2 t 14) (off5 t 14) x _ (by show (y 2).val = _; omega) _ (by show 2048 * (t.val % 2) + (y 3).val = _; rw [h3]; unfold QS; omega)
  case piece7 => exact lse_tile0 m c hQ hK hT t 14 (by decide) ⟨t.val / 2 % 8, by omega⟩ ⟨t.val / 16, by omega⟩ rfl rfl ![0, 0, 1792] ![0, 128, 1792] ![0, 256, 1792] ![0, 384, 1792] (k0_off1 (grid0.coords t) 1792#32) (k0_off2 (grid0.coords t) 1792#32) (k0_off3 (grid0.coords t) 1792#32) (k0_off4 (grid0.coords t) 1792#32) (k0_off5 (grid0.coords t) 1792#32) (k0_off6 (grid0.coords t) 1792#32) _ _ _ _ _ _ _ _ _ _ rfl (off1 t 14) (off5 t 14) x _ (by show (y 2).val = _; omega) _ (by show 2048 * (t.val % 2) + (y 3).val = _; rw [h3]; unfold QS; omega)
  case piece8 => exact lse_tile3 m c hQ hK hT t 13 (by decide) ⟨t.val / 2 % 8, by omega⟩ ⟨t.val / 16, by omega⟩ rfl rfl ![0, 0, 1664] ![0, 128, 1664] ![0, 256, 1664] ![0, 384, 1664] (k0_off1 (grid0.coords t) 1664#32) (k0_off2 (grid0.coords t) 1664#32) (k0_off3 (grid0.coords t) 1664#32) (k0_off4 (grid0.coords t) 1664#32) (k0_off5 (grid0.coords t) 1664#32) (k0_off6 (grid0.coords t) 1664#32) _ _ _ _ _ _ _ _ _ _ rfl (off4 t 13) (off5 t 13) x _ (by show (y 2).val = _; omega) _ (by show 2048 * (t.val % 2) + (y 3).val = _; rw [h3]; unfold QS; omega)
  case piece9 => exact lse_tile2 m c hQ hK hT t 13 (by decide) ⟨t.val / 2 % 8, by omega⟩ ⟨t.val / 16, by omega⟩ rfl rfl ![0, 0, 1664] ![0, 128, 1664] ![0, 256, 1664] ![0, 384, 1664] (k0_off1 (grid0.coords t) 1664#32) (k0_off2 (grid0.coords t) 1664#32) (k0_off3 (grid0.coords t) 1664#32) (k0_off4 (grid0.coords t) 1664#32) (k0_off5 (grid0.coords t) 1664#32) (k0_off6 (grid0.coords t) 1664#32) _ _ _ _ _ _ _ _ _ _ rfl (off3 t 13) (off5 t 13) x _ (by show (y 2).val = _; omega) _ (by show 2048 * (t.val % 2) + (y 3).val = _; rw [h3]; unfold QS; omega)
  case piece10 => exact lse_tile1 m c hQ hK hT t 13 (by decide) ⟨t.val / 2 % 8, by omega⟩ ⟨t.val / 16, by omega⟩ rfl rfl ![0, 0, 1664] ![0, 128, 1664] ![0, 256, 1664] ![0, 384, 1664] (k0_off1 (grid0.coords t) 1664#32) (k0_off2 (grid0.coords t) 1664#32) (k0_off3 (grid0.coords t) 1664#32) (k0_off4 (grid0.coords t) 1664#32) (k0_off5 (grid0.coords t) 1664#32) (k0_off6 (grid0.coords t) 1664#32) _ _ _ _ _ _ _ _ _ _ rfl (off2 t 13) (off5 t 13) x _ (by show (y 2).val = _; omega) _ (by show 2048 * (t.val % 2) + (y 3).val = _; rw [h3]; unfold QS; omega)
  case piece11 => exact lse_tile0 m c hQ hK hT t 13 (by decide) ⟨t.val / 2 % 8, by omega⟩ ⟨t.val / 16, by omega⟩ rfl rfl ![0, 0, 1664] ![0, 128, 1664] ![0, 256, 1664] ![0, 384, 1664] (k0_off1 (grid0.coords t) 1664#32) (k0_off2 (grid0.coords t) 1664#32) (k0_off3 (grid0.coords t) 1664#32) (k0_off4 (grid0.coords t) 1664#32) (k0_off5 (grid0.coords t) 1664#32) (k0_off6 (grid0.coords t) 1664#32) _ _ _ _ _ _ _ _ _ _ rfl (off1 t 13) (off5 t 13) x _ (by show (y 2).val = _; omega) _ (by show 2048 * (t.val % 2) + (y 3).val = _; rw [h3]; unfold QS; omega)
  case piece12 => exact lse_tile3 m c hQ hK hT t 12 (by decide) ⟨t.val / 2 % 8, by omega⟩ ⟨t.val / 16, by omega⟩ rfl rfl ![0, 0, 1536] ![0, 128, 1536] ![0, 256, 1536] ![0, 384, 1536] (k0_off1 (grid0.coords t) 1536#32) (k0_off2 (grid0.coords t) 1536#32) (k0_off3 (grid0.coords t) 1536#32) (k0_off4 (grid0.coords t) 1536#32) (k0_off5 (grid0.coords t) 1536#32) (k0_off6 (grid0.coords t) 1536#32) _ _ _ _ _ _ _ _ _ _ rfl (off4 t 12) (off5 t 12) x _ (by show (y 2).val = _; omega) _ (by show 2048 * (t.val % 2) + (y 3).val = _; rw [h3]; unfold QS; omega)
  case piece13 => exact lse_tile2 m c hQ hK hT t 12 (by decide) ⟨t.val / 2 % 8, by omega⟩ ⟨t.val / 16, by omega⟩ rfl rfl ![0, 0, 1536] ![0, 128, 1536] ![0, 256, 1536] ![0, 384, 1536] (k0_off1 (grid0.coords t) 1536#32) (k0_off2 (grid0.coords t) 1536#32) (k0_off3 (grid0.coords t) 1536#32) (k0_off4 (grid0.coords t) 1536#32) (k0_off5 (grid0.coords t) 1536#32) (k0_off6 (grid0.coords t) 1536#32) _ _ _ _ _ _ _ _ _ _ rfl (off3 t 12) (off5 t 12) x _ (by show (y 2).val = _; omega) _ (by show 2048 * (t.val % 2) + (y 3).val = _; rw [h3]; unfold QS; omega)
  case piece14 => exact lse_tile1 m c hQ hK hT t 12 (by decide) ⟨t.val / 2 % 8, by omega⟩ ⟨t.val / 16, by omega⟩ rfl rfl ![0, 0, 1536] ![0, 128, 1536] ![0, 256, 1536] ![0, 384, 1536] (k0_off1 (grid0.coords t) 1536#32) (k0_off2 (grid0.coords t) 1536#32) (k0_off3 (grid0.coords t) 1536#32) (k0_off4 (grid0.coords t) 1536#32) (k0_off5 (grid0.coords t) 1536#32) (k0_off6 (grid0.coords t) 1536#32) _ _ _ _ _ _ _ _ _ _ rfl (off2 t 12) (off5 t 12) x _ (by show (y 2).val = _; omega) _ (by show 2048 * (t.val % 2) + (y 3).val = _; rw [h3]; unfold QS; omega)
  case piece15 => exact lse_tile0 m c hQ hK hT t 12 (by decide) ⟨t.val / 2 % 8, by omega⟩ ⟨t.val / 16, by omega⟩ rfl rfl ![0, 0, 1536] ![0, 128, 1536] ![0, 256, 1536] ![0, 384, 1536] (k0_off1 (grid0.coords t) 1536#32) (k0_off2 (grid0.coords t) 1536#32) (k0_off3 (grid0.coords t) 1536#32) (k0_off4 (grid0.coords t) 1536#32) (k0_off5 (grid0.coords t) 1536#32) (k0_off6 (grid0.coords t) 1536#32) _ _ _ _ _ _ _ _ _ _ rfl (off1 t 12) (off5 t 12) x _ (by show (y 2).val = _; omega) _ (by show 2048 * (t.val % 2) + (y 3).val = _; rw [h3]; unfold QS; omega)
  case piece16 => exact lse_tile3 m c hQ hK hT t 11 (by decide) ⟨t.val / 2 % 8, by omega⟩ ⟨t.val / 16, by omega⟩ rfl rfl ![0, 0, 1408] ![0, 128, 1408] ![0, 256, 1408] ![0, 384, 1408] (k0_off1 (grid0.coords t) 1408#32) (k0_off2 (grid0.coords t) 1408#32) (k0_off3 (grid0.coords t) 1408#32) (k0_off4 (grid0.coords t) 1408#32) (k0_off5 (grid0.coords t) 1408#32) (k0_off6 (grid0.coords t) 1408#32) _ _ _ _ _ _ _ _ _ _ rfl (off4 t 11) (off5 t 11) x _ (by show (y 2).val = _; omega) _ (by show 2048 * (t.val % 2) + (y 3).val = _; rw [h3]; unfold QS; omega)
  case piece17 => exact lse_tile2 m c hQ hK hT t 11 (by decide) ⟨t.val / 2 % 8, by omega⟩ ⟨t.val / 16, by omega⟩ rfl rfl ![0, 0, 1408] ![0, 128, 1408] ![0, 256, 1408] ![0, 384, 1408] (k0_off1 (grid0.coords t) 1408#32) (k0_off2 (grid0.coords t) 1408#32) (k0_off3 (grid0.coords t) 1408#32) (k0_off4 (grid0.coords t) 1408#32) (k0_off5 (grid0.coords t) 1408#32) (k0_off6 (grid0.coords t) 1408#32) _ _ _ _ _ _ _ _ _ _ rfl (off3 t 11) (off5 t 11) x _ (by show (y 2).val = _; omega) _ (by show 2048 * (t.val % 2) + (y 3).val = _; rw [h3]; unfold QS; omega)
  case piece18 => exact lse_tile1 m c hQ hK hT t 11 (by decide) ⟨t.val / 2 % 8, by omega⟩ ⟨t.val / 16, by omega⟩ rfl rfl ![0, 0, 1408] ![0, 128, 1408] ![0, 256, 1408] ![0, 384, 1408] (k0_off1 (grid0.coords t) 1408#32) (k0_off2 (grid0.coords t) 1408#32) (k0_off3 (grid0.coords t) 1408#32) (k0_off4 (grid0.coords t) 1408#32) (k0_off5 (grid0.coords t) 1408#32) (k0_off6 (grid0.coords t) 1408#32) _ _ _ _ _ _ _ _ _ _ rfl (off2 t 11) (off5 t 11) x _ (by show (y 2).val = _; omega) _ (by show 2048 * (t.val % 2) + (y 3).val = _; rw [h3]; unfold QS; omega)
  case piece19 => exact lse_tile0 m c hQ hK hT t 11 (by decide) ⟨t.val / 2 % 8, by omega⟩ ⟨t.val / 16, by omega⟩ rfl rfl ![0, 0, 1408] ![0, 128, 1408] ![0, 256, 1408] ![0, 384, 1408] (k0_off1 (grid0.coords t) 1408#32) (k0_off2 (grid0.coords t) 1408#32) (k0_off3 (grid0.coords t) 1408#32) (k0_off4 (grid0.coords t) 1408#32) (k0_off5 (grid0.coords t) 1408#32) (k0_off6 (grid0.coords t) 1408#32) _ _ _ _ _ _ _ _ _ _ rfl (off1 t 11) (off5 t 11) x _ (by show (y 2).val = _; omega) _ (by show 2048 * (t.val % 2) + (y 3).val = _; rw [h3]; unfold QS; omega)
  case piece20 => exact lse_tile3 m c hQ hK hT t 10 (by decide) ⟨t.val / 2 % 8, by omega⟩ ⟨t.val / 16, by omega⟩ rfl rfl ![0, 0, 1280] ![0, 128, 1280] ![0, 256, 1280] ![0, 384, 1280] (k0_off1 (grid0.coords t) 1280#32) (k0_off2 (grid0.coords t) 1280#32) (k0_off3 (grid0.coords t) 1280#32) (k0_off4 (grid0.coords t) 1280#32) (k0_off5 (grid0.coords t) 1280#32) (k0_off6 (grid0.coords t) 1280#32) _ _ _ _ _ _ _ _ _ _ rfl (off4 t 10) (off5 t 10) x _ (by show (y 2).val = _; omega) _ (by show 2048 * (t.val % 2) + (y 3).val = _; rw [h3]; unfold QS; omega)
  case piece21 => exact lse_tile2 m c hQ hK hT t 10 (by decide) ⟨t.val / 2 % 8, by omega⟩ ⟨t.val / 16, by omega⟩ rfl rfl ![0, 0, 1280] ![0, 128, 1280] ![0, 256, 1280] ![0, 384, 1280] (k0_off1 (grid0.coords t) 1280#32) (k0_off2 (grid0.coords t) 1280#32) (k0_off3 (grid0.coords t) 1280#32) (k0_off4 (grid0.coords t) 1280#32) (k0_off5 (grid0.coords t) 1280#32) (k0_off6 (grid0.coords t) 1280#32) _ _ _ _ _ _ _ _ _ _ rfl (off3 t 10) (off5 t 10) x _ (by show (y 2).val = _; omega) _ (by show 2048 * (t.val % 2) + (y 3).val = _; rw [h3]; unfold QS; omega)
  case piece22 => exact lse_tile1 m c hQ hK hT t 10 (by decide) ⟨t.val / 2 % 8, by omega⟩ ⟨t.val / 16, by omega⟩ rfl rfl ![0, 0, 1280] ![0, 128, 1280] ![0, 256, 1280] ![0, 384, 1280] (k0_off1 (grid0.coords t) 1280#32) (k0_off2 (grid0.coords t) 1280#32) (k0_off3 (grid0.coords t) 1280#32) (k0_off4 (grid0.coords t) 1280#32) (k0_off5 (grid0.coords t) 1280#32) (k0_off6 (grid0.coords t) 1280#32) _ _ _ _ _ _ _ _ _ _ rfl (off2 t 10) (off5 t 10) x _ (by show (y 2).val = _; omega) _ (by show 2048 * (t.val % 2) + (y 3).val = _; rw [h3]; unfold QS; omega)
  case piece23 => exact lse_tile0 m c hQ hK hT t 10 (by decide) ⟨t.val / 2 % 8, by omega⟩ ⟨t.val / 16, by omega⟩ rfl rfl ![0, 0, 1280] ![0, 128, 1280] ![0, 256, 1280] ![0, 384, 1280] (k0_off1 (grid0.coords t) 1280#32) (k0_off2 (grid0.coords t) 1280#32) (k0_off3 (grid0.coords t) 1280#32) (k0_off4 (grid0.coords t) 1280#32) (k0_off5 (grid0.coords t) 1280#32) (k0_off6 (grid0.coords t) 1280#32) _ _ _ _ _ _ _ _ _ _ rfl (off1 t 10) (off5 t 10) x _ (by show (y 2).val = _; omega) _ (by show 2048 * (t.val % 2) + (y 3).val = _; rw [h3]; unfold QS; omega)
  case piece24 => exact lse_tile3 m c hQ hK hT t 9 (by decide) ⟨t.val / 2 % 8, by omega⟩ ⟨t.val / 16, by omega⟩ rfl rfl ![0, 0, 1152] ![0, 128, 1152] ![0, 256, 1152] ![0, 384, 1152] (k0_off1 (grid0.coords t) 1152#32) (k0_off2 (grid0.coords t) 1152#32) (k0_off3 (grid0.coords t) 1152#32) (k0_off4 (grid0.coords t) 1152#32) (k0_off5 (grid0.coords t) 1152#32) (k0_off6 (grid0.coords t) 1152#32) _ _ _ _ _ _ _ _ _ _ rfl (off4 t 9) (off5 t 9) x _ (by show (y 2).val = _; omega) _ (by show 2048 * (t.val % 2) + (y 3).val = _; rw [h3]; unfold QS; omega)
  case piece25 => exact lse_tile2 m c hQ hK hT t 9 (by decide) ⟨t.val / 2 % 8, by omega⟩ ⟨t.val / 16, by omega⟩ rfl rfl ![0, 0, 1152] ![0, 128, 1152] ![0, 256, 1152] ![0, 384, 1152] (k0_off1 (grid0.coords t) 1152#32) (k0_off2 (grid0.coords t) 1152#32) (k0_off3 (grid0.coords t) 1152#32) (k0_off4 (grid0.coords t) 1152#32) (k0_off5 (grid0.coords t) 1152#32) (k0_off6 (grid0.coords t) 1152#32) _ _ _ _ _ _ _ _ _ _ rfl (off3 t 9) (off5 t 9) x _ (by show (y 2).val = _; omega) _ (by show 2048 * (t.val % 2) + (y 3).val = _; rw [h3]; unfold QS; omega)
  case piece26 => exact lse_tile1 m c hQ hK hT t 9 (by decide) ⟨t.val / 2 % 8, by omega⟩ ⟨t.val / 16, by omega⟩ rfl rfl ![0, 0, 1152] ![0, 128, 1152] ![0, 256, 1152] ![0, 384, 1152] (k0_off1 (grid0.coords t) 1152#32) (k0_off2 (grid0.coords t) 1152#32) (k0_off3 (grid0.coords t) 1152#32) (k0_off4 (grid0.coords t) 1152#32) (k0_off5 (grid0.coords t) 1152#32) (k0_off6 (grid0.coords t) 1152#32) _ _ _ _ _ _ _ _ _ _ rfl (off2 t 9) (off5 t 9) x _ (by show (y 2).val = _; omega) _ (by show 2048 * (t.val % 2) + (y 3).val = _; rw [h3]; unfold QS; omega)
  case piece27 => exact lse_tile0 m c hQ hK hT t 9 (by decide) ⟨t.val / 2 % 8, by omega⟩ ⟨t.val / 16, by omega⟩ rfl rfl ![0, 0, 1152] ![0, 128, 1152] ![0, 256, 1152] ![0, 384, 1152] (k0_off1 (grid0.coords t) 1152#32) (k0_off2 (grid0.coords t) 1152#32) (k0_off3 (grid0.coords t) 1152#32) (k0_off4 (grid0.coords t) 1152#32) (k0_off5 (grid0.coords t) 1152#32) (k0_off6 (grid0.coords t) 1152#32) _ _ _ _ _ _ _ _ _ _ rfl (off1 t 9) (off5 t 9) x _ (by show (y 2).val = _; omega) _ (by show 2048 * (t.val % 2) + (y 3).val = _; rw [h3]; unfold QS; omega)
  case piece28 => exact lse_tile3 m c hQ hK hT t 8 (by decide) ⟨t.val / 2 % 8, by omega⟩ ⟨t.val / 16, by omega⟩ rfl rfl ![0, 0, 1024] ![0, 128, 1024] ![0, 256, 1024] ![0, 384, 1024] (k0_off1 (grid0.coords t) 1024#32) (k0_off2 (grid0.coords t) 1024#32) (k0_off3 (grid0.coords t) 1024#32) (k0_off4 (grid0.coords t) 1024#32) (k0_off5 (grid0.coords t) 1024#32) (k0_off6 (grid0.coords t) 1024#32) _ _ _ _ _ _ _ _ _ _ rfl (off4 t 8) (off5 t 8) x _ (by show (y 2).val = _; omega) _ (by show 2048 * (t.val % 2) + (y 3).val = _; rw [h3]; unfold QS; omega)
  case piece29 => exact lse_tile2 m c hQ hK hT t 8 (by decide) ⟨t.val / 2 % 8, by omega⟩ ⟨t.val / 16, by omega⟩ rfl rfl ![0, 0, 1024] ![0, 128, 1024] ![0, 256, 1024] ![0, 384, 1024] (k0_off1 (grid0.coords t) 1024#32) (k0_off2 (grid0.coords t) 1024#32) (k0_off3 (grid0.coords t) 1024#32) (k0_off4 (grid0.coords t) 1024#32) (k0_off5 (grid0.coords t) 1024#32) (k0_off6 (grid0.coords t) 1024#32) _ _ _ _ _ _ _ _ _ _ rfl (off3 t 8) (off5 t 8) x _ (by show (y 2).val = _; omega) _ (by show 2048 * (t.val % 2) + (y 3).val = _; rw [h3]; unfold QS; omega)
  case piece30 => exact lse_tile1 m c hQ hK hT t 8 (by decide) ⟨t.val / 2 % 8, by omega⟩ ⟨t.val / 16, by omega⟩ rfl rfl ![0, 0, 1024] ![0, 128, 1024] ![0, 256, 1024] ![0, 384, 1024] (k0_off1 (grid0.coords t) 1024#32) (k0_off2 (grid0.coords t) 1024#32) (k0_off3 (grid0.coords t) 1024#32) (k0_off4 (grid0.coords t) 1024#32) (k0_off5 (grid0.coords t) 1024#32) (k0_off6 (grid0.coords t) 1024#32) _ _ _ _ _ _ _ _ _ _ rfl (off2 t 8) (off5 t 8) x _ (by show (y 2).val = _; omega) _ (by show 2048 * (t.val % 2) + (y 3).val = _; rw [h3]; unfold QS; omega)
  case piece31 => exact lse_tile0 m c hQ hK hT t 8 (by decide) ⟨t.val / 2 % 8, by omega⟩ ⟨t.val / 16, by omega⟩ rfl rfl ![0, 0, 1024] ![0, 128, 1024] ![0, 256, 1024] ![0, 384, 1024] (k0_off1 (grid0.coords t) 1024#32) (k0_off2 (grid0.coords t) 1024#32) (k0_off3 (grid0.coords t) 1024#32) (k0_off4 (grid0.coords t) 1024#32) (k0_off5 (grid0.coords t) 1024#32) (k0_off6 (grid0.coords t) 1024#32) _ _ _ _ _ _ _ _ _ _ rfl (off1 t 8) (off5 t 8) x _ (by show (y 2).val = _; omega) _ (by show 2048 * (t.val % 2) + (y 3).val = _; rw [h3]; unfold QS; omega)
  case piece32 => exact lse_tile3 m c hQ hK hT t 7 (by decide) ⟨t.val / 2 % 8, by omega⟩ ⟨t.val / 16, by omega⟩ rfl rfl ![0, 0, 896] ![0, 128, 896] ![0, 256, 896] ![0, 384, 896] (k0_off1 (grid0.coords t) 896#32) (k0_off2 (grid0.coords t) 896#32) (k0_off3 (grid0.coords t) 896#32) (k0_off4 (grid0.coords t) 896#32) (k0_off5 (grid0.coords t) 896#32) (k0_off6 (grid0.coords t) 896#32) _ _ _ _ _ _ _ _ _ _ rfl (off4 t 7) (off5 t 7) x _ (by show (y 2).val = _; omega) _ (by show 2048 * (t.val % 2) + (y 3).val = _; rw [h3]; unfold QS; omega)
  case piece33 => exact lse_tile2 m c hQ hK hT t 7 (by decide) ⟨t.val / 2 % 8, by omega⟩ ⟨t.val / 16, by omega⟩ rfl rfl ![0, 0, 896] ![0, 128, 896] ![0, 256, 896] ![0, 384, 896] (k0_off1 (grid0.coords t) 896#32) (k0_off2 (grid0.coords t) 896#32) (k0_off3 (grid0.coords t) 896#32) (k0_off4 (grid0.coords t) 896#32) (k0_off5 (grid0.coords t) 896#32) (k0_off6 (grid0.coords t) 896#32) _ _ _ _ _ _ _ _ _ _ rfl (off3 t 7) (off5 t 7) x _ (by show (y 2).val = _; omega) _ (by show 2048 * (t.val % 2) + (y 3).val = _; rw [h3]; unfold QS; omega)
  case piece34 => exact lse_tile1 m c hQ hK hT t 7 (by decide) ⟨t.val / 2 % 8, by omega⟩ ⟨t.val / 16, by omega⟩ rfl rfl ![0, 0, 896] ![0, 128, 896] ![0, 256, 896] ![0, 384, 896] (k0_off1 (grid0.coords t) 896#32) (k0_off2 (grid0.coords t) 896#32) (k0_off3 (grid0.coords t) 896#32) (k0_off4 (grid0.coords t) 896#32) (k0_off5 (grid0.coords t) 896#32) (k0_off6 (grid0.coords t) 896#32) _ _ _ _ _ _ _ _ _ _ rfl (off2 t 7) (off5 t 7) x _ (by show (y 2).val = _; omega) _ (by show 2048 * (t.val % 2) + (y 3).val = _; rw [h3]; unfold QS; omega)
  case piece35 => exact lse_tile0 m c hQ hK hT t 7 (by decide) ⟨t.val / 2 % 8, by omega⟩ ⟨t.val / 16, by omega⟩ rfl rfl ![0, 0, 896] ![0, 128, 896] ![0, 256, 896] ![0, 384, 896] (k0_off1 (grid0.coords t) 896#32) (k0_off2 (grid0.coords t) 896#32) (k0_off3 (grid0.coords t) 896#32) (k0_off4 (grid0.coords t) 896#32) (k0_off5 (grid0.coords t) 896#32) (k0_off6 (grid0.coords t) 896#32) _ _ _ _ _ _ _ _ _ _ rfl (off1 t 7) (off5 t 7) x _ (by show (y 2).val = _; omega) _ (by show 2048 * (t.val % 2) + (y 3).val = _; rw [h3]; unfold QS; omega)
  case piece36 => exact lse_tile3 m c hQ hK hT t 6 (by decide) ⟨t.val / 2 % 8, by omega⟩ ⟨t.val / 16, by omega⟩ rfl rfl ![0, 0, 768] ![0, 128, 768] ![0, 256, 768] ![0, 384, 768] (k0_off1 (grid0.coords t) 768#32) (k0_off2 (grid0.coords t) 768#32) (k0_off3 (grid0.coords t) 768#32) (k0_off4 (grid0.coords t) 768#32) (k0_off5 (grid0.coords t) 768#32) (k0_off6 (grid0.coords t) 768#32) _ _ _ _ _ _ _ _ _ _ rfl (off4 t 6) (off5 t 6) x _ (by show (y 2).val = _; omega) _ (by show 2048 * (t.val % 2) + (y 3).val = _; rw [h3]; unfold QS; omega)
  case piece37 => exact lse_tile2 m c hQ hK hT t 6 (by decide) ⟨t.val / 2 % 8, by omega⟩ ⟨t.val / 16, by omega⟩ rfl rfl ![0, 0, 768] ![0, 128, 768] ![0, 256, 768] ![0, 384, 768] (k0_off1 (grid0.coords t) 768#32) (k0_off2 (grid0.coords t) 768#32) (k0_off3 (grid0.coords t) 768#32) (k0_off4 (grid0.coords t) 768#32) (k0_off5 (grid0.coords t) 768#32) (k0_off6 (grid0.coords t) 768#32) _ _ _ _ _ _ _ _ _ _ rfl (off3 t 6) (off5 t 6) x _ (by show (y 2).val = _; omega) _ (by show 2048 * (t.val % 2) + (y 3).val = _; rw [h3]; unfold QS; omega)
  case piece38 => exact lse_tile1 m c hQ hK hT t 6 (by decide) ⟨t.val / 2 % 8, by omega⟩ ⟨t.val / 16, by omega⟩ rfl rfl ![0, 0, 768] ![0, 128, 768] ![0, 256, 768] ![0, 384, 768] (k0_off1 (grid0.coords t) 768#32) (k0_off2 (grid0.coords t) 768#32) (k0_off3 (grid0.coords t) 768#32) (k0_off4 (grid0.coords t) 768#32) (k0_off5 (grid0.coords t) 768#32) (k0_off6 (grid0.coords t) 768#32) _ _ _ _ _ _ _ _ _ _ rfl (off2 t 6) (off5 t 6) x _ (by show (y 2).val = _; omega) _ (by show 2048 * (t.val % 2) + (y 3).val = _; rw [h3]; unfold QS; omega)
  case piece39 => exact lse_tile0 m c hQ hK hT t 6 (by decide) ⟨t.val / 2 % 8, by omega⟩ ⟨t.val / 16, by omega⟩ rfl rfl ![0, 0, 768] ![0, 128, 768] ![0, 256, 768] ![0, 384, 768] (k0_off1 (grid0.coords t) 768#32) (k0_off2 (grid0.coords t) 768#32) (k0_off3 (grid0.coords t) 768#32) (k0_off4 (grid0.coords t) 768#32) (k0_off5 (grid0.coords t) 768#32) (k0_off6 (grid0.coords t) 768#32) _ _ _ _ _ _ _ _ _ _ rfl (off1 t 6) (off5 t 6) x _ (by show (y 2).val = _; omega) _ (by show 2048 * (t.val % 2) + (y 3).val = _; rw [h3]; unfold QS; omega)
  case piece40 => exact lse_tile3 m c hQ hK hT t 5 (by decide) ⟨t.val / 2 % 8, by omega⟩ ⟨t.val / 16, by omega⟩ rfl rfl ![0, 0, 640] ![0, 128, 640] ![0, 256, 640] ![0, 384, 640] (k0_off1 (grid0.coords t) 640#32) (k0_off2 (grid0.coords t) 640#32) (k0_off3 (grid0.coords t) 640#32) (k0_off4 (grid0.coords t) 640#32) (k0_off5 (grid0.coords t) 640#32) (k0_off6 (grid0.coords t) 640#32) _ _ _ _ _ _ _ _ _ _ rfl (off4 t 5) (off5 t 5) x _ (by show (y 2).val = _; omega) _ (by show 2048 * (t.val % 2) + (y 3).val = _; rw [h3]; unfold QS; omega)
  case piece41 => exact lse_tile2 m c hQ hK hT t 5 (by decide) ⟨t.val / 2 % 8, by omega⟩ ⟨t.val / 16, by omega⟩ rfl rfl ![0, 0, 640] ![0, 128, 640] ![0, 256, 640] ![0, 384, 640] (k0_off1 (grid0.coords t) 640#32) (k0_off2 (grid0.coords t) 640#32) (k0_off3 (grid0.coords t) 640#32) (k0_off4 (grid0.coords t) 640#32) (k0_off5 (grid0.coords t) 640#32) (k0_off6 (grid0.coords t) 640#32) _ _ _ _ _ _ _ _ _ _ rfl (off3 t 5) (off5 t 5) x _ (by show (y 2).val = _; omega) _ (by show 2048 * (t.val % 2) + (y 3).val = _; rw [h3]; unfold QS; omega)
  case piece42 => exact lse_tile1 m c hQ hK hT t 5 (by decide) ⟨t.val / 2 % 8, by omega⟩ ⟨t.val / 16, by omega⟩ rfl rfl ![0, 0, 640] ![0, 128, 640] ![0, 256, 640] ![0, 384, 640] (k0_off1 (grid0.coords t) 640#32) (k0_off2 (grid0.coords t) 640#32) (k0_off3 (grid0.coords t) 640#32) (k0_off4 (grid0.coords t) 640#32) (k0_off5 (grid0.coords t) 640#32) (k0_off6 (grid0.coords t) 640#32) _ _ _ _ _ _ _ _ _ _ rfl (off2 t 5) (off5 t 5) x _ (by show (y 2).val = _; omega) _ (by show 2048 * (t.val % 2) + (y 3).val = _; rw [h3]; unfold QS; omega)
  case piece43 => exact lse_tile0 m c hQ hK hT t 5 (by decide) ⟨t.val / 2 % 8, by omega⟩ ⟨t.val / 16, by omega⟩ rfl rfl ![0, 0, 640] ![0, 128, 640] ![0, 256, 640] ![0, 384, 640] (k0_off1 (grid0.coords t) 640#32) (k0_off2 (grid0.coords t) 640#32) (k0_off3 (grid0.coords t) 640#32) (k0_off4 (grid0.coords t) 640#32) (k0_off5 (grid0.coords t) 640#32) (k0_off6 (grid0.coords t) 640#32) _ _ _ _ _ _ _ _ _ _ rfl (off1 t 5) (off5 t 5) x _ (by show (y 2).val = _; omega) _ (by show 2048 * (t.val % 2) + (y 3).val = _; rw [h3]; unfold QS; omega)
  case piece44 => exact lse_tile3 m c hQ hK hT t 4 (by decide) ⟨t.val / 2 % 8, by omega⟩ ⟨t.val / 16, by omega⟩ rfl rfl ![0, 0, 512] ![0, 128, 512] ![0, 256, 512] ![0, 384, 512] (k0_off1 (grid0.coords t) 512#32) (k0_off2 (grid0.coords t) 512#32) (k0_off3 (grid0.coords t) 512#32) (k0_off4 (grid0.coords t) 512#32) (k0_off5 (grid0.coords t) 512#32) (k0_off6 (grid0.coords t) 512#32) _ _ _ _ _ _ _ _ _ _ rfl (off4 t 4) (off5 t 4) x _ (by show (y 2).val = _; omega) _ (by show 2048 * (t.val % 2) + (y 3).val = _; rw [h3]; unfold QS; omega)
  case piece45 => exact lse_tile2 m c hQ hK hT t 4 (by decide) ⟨t.val / 2 % 8, by omega⟩ ⟨t.val / 16, by omega⟩ rfl rfl ![0, 0, 512] ![0, 128, 512] ![0, 256, 512] ![0, 384, 512] (k0_off1 (grid0.coords t) 512#32) (k0_off2 (grid0.coords t) 512#32) (k0_off3 (grid0.coords t) 512#32) (k0_off4 (grid0.coords t) 512#32) (k0_off5 (grid0.coords t) 512#32) (k0_off6 (grid0.coords t) 512#32) _ _ _ _ _ _ _ _ _ _ rfl (off3 t 4) (off5 t 4) x _ (by show (y 2).val = _; omega) _ (by show 2048 * (t.val % 2) + (y 3).val = _; rw [h3]; unfold QS; omega)
  case piece46 => exact lse_tile1 m c hQ hK hT t 4 (by decide) ⟨t.val / 2 % 8, by omega⟩ ⟨t.val / 16, by omega⟩ rfl rfl ![0, 0, 512] ![0, 128, 512] ![0, 256, 512] ![0, 384, 512] (k0_off1 (grid0.coords t) 512#32) (k0_off2 (grid0.coords t) 512#32) (k0_off3 (grid0.coords t) 512#32) (k0_off4 (grid0.coords t) 512#32) (k0_off5 (grid0.coords t) 512#32) (k0_off6 (grid0.coords t) 512#32) _ _ _ _ _ _ _ _ _ _ rfl (off2 t 4) (off5 t 4) x _ (by show (y 2).val = _; omega) _ (by show 2048 * (t.val % 2) + (y 3).val = _; rw [h3]; unfold QS; omega)
  case piece47 => exact lse_tile0 m c hQ hK hT t 4 (by decide) ⟨t.val / 2 % 8, by omega⟩ ⟨t.val / 16, by omega⟩ rfl rfl ![0, 0, 512] ![0, 128, 512] ![0, 256, 512] ![0, 384, 512] (k0_off1 (grid0.coords t) 512#32) (k0_off2 (grid0.coords t) 512#32) (k0_off3 (grid0.coords t) 512#32) (k0_off4 (grid0.coords t) 512#32) (k0_off5 (grid0.coords t) 512#32) (k0_off6 (grid0.coords t) 512#32) _ _ _ _ _ _ _ _ _ _ rfl (off1 t 4) (off5 t 4) x _ (by show (y 2).val = _; omega) _ (by show 2048 * (t.val % 2) + (y 3).val = _; rw [h3]; unfold QS; omega)
  case piece48 => exact lse_tile3 m c hQ hK hT t 3 (by decide) ⟨t.val / 2 % 8, by omega⟩ ⟨t.val / 16, by omega⟩ rfl rfl ![0, 0, 384] ![0, 128, 384] ![0, 256, 384] ![0, 384, 384] (k0_off1 (grid0.coords t) 384#32) (k0_off2 (grid0.coords t) 384#32) (k0_off3 (grid0.coords t) 384#32) (k0_off4 (grid0.coords t) 384#32) (k0_off5 (grid0.coords t) 384#32) (k0_off6 (grid0.coords t) 384#32) _ _ _ _ _ _ _ _ _ _ rfl (off4 t 3) (off5 t 3) x _ (by show (y 2).val = _; omega) _ (by show 2048 * (t.val % 2) + (y 3).val = _; rw [h3]; unfold QS; omega)
  case piece49 => exact lse_tile2 m c hQ hK hT t 3 (by decide) ⟨t.val / 2 % 8, by omega⟩ ⟨t.val / 16, by omega⟩ rfl rfl ![0, 0, 384] ![0, 128, 384] ![0, 256, 384] ![0, 384, 384] (k0_off1 (grid0.coords t) 384#32) (k0_off2 (grid0.coords t) 384#32) (k0_off3 (grid0.coords t) 384#32) (k0_off4 (grid0.coords t) 384#32) (k0_off5 (grid0.coords t) 384#32) (k0_off6 (grid0.coords t) 384#32) _ _ _ _ _ _ _ _ _ _ rfl (off3 t 3) (off5 t 3) x _ (by show (y 2).val = _; omega) _ (by show 2048 * (t.val % 2) + (y 3).val = _; rw [h3]; unfold QS; omega)
  case piece50 => exact lse_tile1 m c hQ hK hT t 3 (by decide) ⟨t.val / 2 % 8, by omega⟩ ⟨t.val / 16, by omega⟩ rfl rfl ![0, 0, 384] ![0, 128, 384] ![0, 256, 384] ![0, 384, 384] (k0_off1 (grid0.coords t) 384#32) (k0_off2 (grid0.coords t) 384#32) (k0_off3 (grid0.coords t) 384#32) (k0_off4 (grid0.coords t) 384#32) (k0_off5 (grid0.coords t) 384#32) (k0_off6 (grid0.coords t) 384#32) _ _ _ _ _ _ _ _ _ _ rfl (off2 t 3) (off5 t 3) x _ (by show (y 2).val = _; omega) _ (by show 2048 * (t.val % 2) + (y 3).val = _; rw [h3]; unfold QS; omega)
  case piece51 => exact lse_tile0 m c hQ hK hT t 3 (by decide) ⟨t.val / 2 % 8, by omega⟩ ⟨t.val / 16, by omega⟩ rfl rfl ![0, 0, 384] ![0, 128, 384] ![0, 256, 384] ![0, 384, 384] (k0_off1 (grid0.coords t) 384#32) (k0_off2 (grid0.coords t) 384#32) (k0_off3 (grid0.coords t) 384#32) (k0_off4 (grid0.coords t) 384#32) (k0_off5 (grid0.coords t) 384#32) (k0_off6 (grid0.coords t) 384#32) _ _ _ _ _ _ _ _ _ _ rfl (off1 t 3) (off5 t 3) x _ (by show (y 2).val = _; omega) _ (by show 2048 * (t.val % 2) + (y 3).val = _; rw [h3]; unfold QS; omega)
  case piece52 => exact lse_tile3 m c hQ hK hT t 2 (by decide) ⟨t.val / 2 % 8, by omega⟩ ⟨t.val / 16, by omega⟩ rfl rfl ![0, 0, 256] ![0, 128, 256] ![0, 256, 256] ![0, 384, 256] (k0_off1 (grid0.coords t) 256#32) (k0_off2 (grid0.coords t) 256#32) (k0_off3 (grid0.coords t) 256#32) (k0_off4 (grid0.coords t) 256#32) (k0_off5 (grid0.coords t) 256#32) (k0_off6 (grid0.coords t) 256#32) _ _ _ _ _ _ _ _ _ _ rfl (off4 t 2) (off5 t 2) x _ (by show (y 2).val = _; omega) _ (by show 2048 * (t.val % 2) + (y 3).val = _; rw [h3]; unfold QS; omega)
  case piece53 => exact lse_tile2 m c hQ hK hT t 2 (by decide) ⟨t.val / 2 % 8, by omega⟩ ⟨t.val / 16, by omega⟩ rfl rfl ![0, 0, 256] ![0, 128, 256] ![0, 256, 256] ![0, 384, 256] (k0_off1 (grid0.coords t) 256#32) (k0_off2 (grid0.coords t) 256#32) (k0_off3 (grid0.coords t) 256#32) (k0_off4 (grid0.coords t) 256#32) (k0_off5 (grid0.coords t) 256#32) (k0_off6 (grid0.coords t) 256#32) _ _ _ _ _ _ _ _ _ _ rfl (off3 t 2) (off5 t 2) x _ (by show (y 2).val = _; omega) _ (by show 2048 * (t.val % 2) + (y 3).val = _; rw [h3]; unfold QS; omega)
  case piece54 => exact lse_tile1 m c hQ hK hT t 2 (by decide) ⟨t.val / 2 % 8, by omega⟩ ⟨t.val / 16, by omega⟩ rfl rfl ![0, 0, 256] ![0, 128, 256] ![0, 256, 256] ![0, 384, 256] (k0_off1 (grid0.coords t) 256#32) (k0_off2 (grid0.coords t) 256#32) (k0_off3 (grid0.coords t) 256#32) (k0_off4 (grid0.coords t) 256#32) (k0_off5 (grid0.coords t) 256#32) (k0_off6 (grid0.coords t) 256#32) _ _ _ _ _ _ _ _ _ _ rfl (off2 t 2) (off5 t 2) x _ (by show (y 2).val = _; omega) _ (by show 2048 * (t.val % 2) + (y 3).val = _; rw [h3]; unfold QS; omega)
  case piece55 => exact lse_tile0 m c hQ hK hT t 2 (by decide) ⟨t.val / 2 % 8, by omega⟩ ⟨t.val / 16, by omega⟩ rfl rfl ![0, 0, 256] ![0, 128, 256] ![0, 256, 256] ![0, 384, 256] (k0_off1 (grid0.coords t) 256#32) (k0_off2 (grid0.coords t) 256#32) (k0_off3 (grid0.coords t) 256#32) (k0_off4 (grid0.coords t) 256#32) (k0_off5 (grid0.coords t) 256#32) (k0_off6 (grid0.coords t) 256#32) _ _ _ _ _ _ _ _ _ _ rfl (off1 t 2) (off5 t 2) x _ (by show (y 2).val = _; omega) _ (by show 2048 * (t.val % 2) + (y 3).val = _; rw [h3]; unfold QS; omega)
  case piece56 => exact lse_tile3 m c hQ hK hT t 1 (by decide) ⟨t.val / 2 % 8, by omega⟩ ⟨t.val / 16, by omega⟩ rfl rfl ![0, 0, 128] ![0, 128, 128] ![0, 256, 128] ![0, 384, 128] (k0_off1 (grid0.coords t) 128#32) (k0_off2 (grid0.coords t) 128#32) (k0_off3 (grid0.coords t) 128#32) (k0_off4 (grid0.coords t) 128#32) (k0_off5 (grid0.coords t) 128#32) (k0_off6 (grid0.coords t) 128#32) _ _ _ _ _ _ _ _ _ _ rfl (off4 t 1) (off5 t 1) x _ (by show (y 2).val = _; omega) _ (by show 2048 * (t.val % 2) + (y 3).val = _; rw [h3]; unfold QS; omega)
  case piece57 => exact lse_tile2 m c hQ hK hT t 1 (by decide) ⟨t.val / 2 % 8, by omega⟩ ⟨t.val / 16, by omega⟩ rfl rfl ![0, 0, 128] ![0, 128, 128] ![0, 256, 128] ![0, 384, 128] (k0_off1 (grid0.coords t) 128#32) (k0_off2 (grid0.coords t) 128#32) (k0_off3 (grid0.coords t) 128#32) (k0_off4 (grid0.coords t) 128#32) (k0_off5 (grid0.coords t) 128#32) (k0_off6 (grid0.coords t) 128#32) _ _ _ _ _ _ _ _ _ _ rfl (off3 t 1) (off5 t 1) x _ (by show (y 2).val = _; omega) _ (by show 2048 * (t.val % 2) + (y 3).val = _; rw [h3]; unfold QS; omega)
  case piece58 => exact lse_tile1 m c hQ hK hT t 1 (by decide) ⟨t.val / 2 % 8, by omega⟩ ⟨t.val / 16, by omega⟩ rfl rfl ![0, 0, 128] ![0, 128, 128] ![0, 256, 128] ![0, 384, 128] (k0_off1 (grid0.coords t) 128#32) (k0_off2 (grid0.coords t) 128#32) (k0_off3 (grid0.coords t) 128#32) (k0_off4 (grid0.coords t) 128#32) (k0_off5 (grid0.coords t) 128#32) (k0_off6 (grid0.coords t) 128#32) _ _ _ _ _ _ _ _ _ _ rfl (off2 t 1) (off5 t 1) x _ (by show (y 2).val = _; omega) _ (by show 2048 * (t.val % 2) + (y 3).val = _; rw [h3]; unfold QS; omega)
  case piece59 => exact lse_tile0 m c hQ hK hT t 1 (by decide) ⟨t.val / 2 % 8, by omega⟩ ⟨t.val / 16, by omega⟩ rfl rfl ![0, 0, 128] ![0, 128, 128] ![0, 256, 128] ![0, 384, 128] (k0_off1 (grid0.coords t) 128#32) (k0_off2 (grid0.coords t) 128#32) (k0_off3 (grid0.coords t) 128#32) (k0_off4 (grid0.coords t) 128#32) (k0_off5 (grid0.coords t) 128#32) (k0_off6 (grid0.coords t) 128#32) _ _ _ _ _ _ _ _ _ _ rfl (off1 t 1) (off5 t 1) x _ (by show (y 2).val = _; omega) _ (by show 2048 * (t.val % 2) + (y 3).val = _; rw [h3]; unfold QS; omega)
  case piece60 => exact lse_tile3 m c hQ hK hT t 0 (by decide) ⟨t.val / 2 % 8, by omega⟩ ⟨t.val / 16, by omega⟩ rfl rfl ![0, 0, 0] ![0, 128, 0] ![0, 256, 0] ![0, 384, 0] (k0_off1 (grid0.coords t) 0#32) (k0_off2 (grid0.coords t) 0#32) (k0_off3 (grid0.coords t) 0#32) (k0_off4 (grid0.coords t) 0#32) (k0_off5 (grid0.coords t) 0#32) (k0_off6 (grid0.coords t) 0#32) _ _ _ _ _ _ _ _ _ _ rfl (off4 t 0) (off5 t 0) x _ (by show (y 2).val = _; omega) _ (by show 2048 * (t.val % 2) + (y 3).val = _; rw [h3]; unfold QS; omega)
  case piece61 => exact lse_tile2 m c hQ hK hT t 0 (by decide) ⟨t.val / 2 % 8, by omega⟩ ⟨t.val / 16, by omega⟩ rfl rfl ![0, 0, 0] ![0, 128, 0] ![0, 256, 0] ![0, 384, 0] (k0_off1 (grid0.coords t) 0#32) (k0_off2 (grid0.coords t) 0#32) (k0_off3 (grid0.coords t) 0#32) (k0_off4 (grid0.coords t) 0#32) (k0_off5 (grid0.coords t) 0#32) (k0_off6 (grid0.coords t) 0#32) _ _ _ _ _ _ _ _ _ _ rfl (off3 t 0) (off5 t 0) x _ (by show (y 2).val = _; omega) _ (by show 2048 * (t.val % 2) + (y 3).val = _; rw [h3]; unfold QS; omega)
  case piece62 => exact lse_tile1 m c hQ hK hT t 0 (by decide) ⟨t.val / 2 % 8, by omega⟩ ⟨t.val / 16, by omega⟩ rfl rfl ![0, 0, 0] ![0, 128, 0] ![0, 256, 0] ![0, 384, 0] (k0_off1 (grid0.coords t) 0#32) (k0_off2 (grid0.coords t) 0#32) (k0_off3 (grid0.coords t) 0#32) (k0_off4 (grid0.coords t) 0#32) (k0_off5 (grid0.coords t) 0#32) (k0_off6 (grid0.coords t) 0#32) _ _ _ _ _ _ _ _ _ _ rfl (off2 t 0) (off5 t 0) x _ (by show (y 2).val = _; omega) _ (by show 2048 * (t.val % 2) + (y 3).val = _; rw [h3]; unfold QS; omega)
  case piece63 => exact lse_tile0 m c hQ hK hT t 0 (by decide) ⟨t.val / 2 % 8, by omega⟩ ⟨t.val / 16, by omega⟩ rfl rfl ![0, 0, 0] ![0, 128, 0] ![0, 256, 0] ![0, 384, 0] (k0_off1 (grid0.coords t) 0#32) (k0_off2 (grid0.coords t) 0#32) (k0_off3 (grid0.coords t) 0#32) (k0_off4 (grid0.coords t) 0#32) (k0_off5 (grid0.coords t) 0#32) (k0_off6 (grid0.coords t) 0#32) _ _ _ _ _ _ _ _ _ _ rfl (off1 t 0) (off5 t 0) x _ (by show (y 2).val = _; omega) _ (by show 2048 * (t.val % 2) + (y 3).val = _; rw [h3]; unfold QS; omega)

end Cert.Kernel3Ideal.Value
-- ==== Proof.BandPre.lean ====
/- The precondition read back: the queries, the keys and the bias table are real numbers. -/
module

public import proofs.«01_k».proof.Defs
public import proofs.«01_k».proof.Proof.Gen.Pre_finite
public import Idealize.ShloMosaic.Lib.ReduceAll

@[expose] public section

set_option maxRecDepth 16384

noncomputable section

namespace Cert.Pre_finite

open Idealize.ShloMosaic

/-- The word the comparison is made with is infinity. -/
theorem word_inf : Ideal.ofBits .f32 0x7F800000#32 = ⊤ := by
  simp [Ideal.ofBits, Ideal.ieee]

/-- A number whose absolute value is below infinity is a real number. -/
theorem real_of_lt (x : EReal) (h : Ideal.cmp .olt (max x (-x)) (Ideal.ofBits .f32 0x7F800000#32) = 1#1) : ∃ r : ℝ, x = r := by
  rw [word_inf] at h
  induction x using EReal.rec with
  | bot => simp [Ideal.cmp] at h
  | top => simp [Ideal.cmp] at h
  | coe r => exact ⟨r, rfl⟩

/-- The precondition says that the queries, the keys and the bias table are real numbers. -/
theorem real [Facts] (a0 : FVec Ideal S8x4096x16x128 .f32) (a1 a2 : FVec Ideal S8x4096x4x128 .f32) (a3 : FVec Ideal S32x16 .f32) (h : fn (F := Ideal) a0 a1 a2 a3 = fun _ => 1#1) :
    (∀ i, ∃ r : ℝ, a0 i = r) ∧ (∀ i, ∃ r : ℝ, a1 i = r) ∧ (∀ i, ∃ r : ℝ, a3 i = r) := by
  have h1 := congrFun h (Shape.Idx.first Facts.h_S_)
  haveI : Subsingleton S_.Idx := ⟨fun a b => funext fun i => i.elim0⟩
  obtain ⟨h2, h5⟩ := IntOp.andi_eq_one.1 h1
  obtain ⟨h3, h4⟩ := IntOp.andi_eq_one.1 h2
  exact ⟨fun i => real_of_lt _ (Host.reduce_andi_all _ _ _ _ _ h3 i), fun i => real_of_lt _ (Host.reduce_andi_all _ _ _ _ _ h4 i), fun i => real_of_lt _ (Host.reduce_andi_all _ _ _ _ _ h5 i)⟩

end Cert.Pre_finite

end
-- ==== Proof.UpRuns.lean ====
/- The body of `_ffn_up` at each of its five kinds of grid point. -/
module

public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the branch that fills the kept rows. -/
abbrev cond0_0 (i : grid0.Coords) : Prop := (Scalar.cmpi .ne (Scalar.extui (Scalar.andi (Scalar.cmpi .eq (Scalar.subi (Scalar.minsi (BitVec.ofNat 32 (i 0).val) 351#32) (Scalar.muli (Scalar.divsi (Scalar.minsi (BitVec.ofNat 32 (i 0).val) 351#32) 11#32) 11#32)) 0#32) (Scalar.cmpi .slt (BitVec.ofNat 32 (i 0).val) 352#32))) 0#32) = 1#1
/-- The kept rows are filled at the multiples of 11 below 352. -/
theorem hcond0_0 : ∀ t : Fin cfg0.N, cond0_0 (grid0.coords t) ↔ (t.val < 352 ∧ t.val % 11 = 0) :=
  (by decide +kernel : ∀ t : Fin grid0.N, cond0_0 (grid0.coords t) ↔ (t.val < 352 ∧ t.val % 11 = 0))

/-- The condition of the branch that clears the second buffer. -/
abbrev cond0_1 (i : grid0.Coords) : Prop := (Scalar.cmpi .ne (Scalar.extui (Scalar.cmpi .eq (BitVec.ofNat 32 (i 0).val) 0#32)) 0#32) = 1#1
/-- The second buffer is cleared at the first point only. -/
theorem hcond0_1 : ∀ t : Fin cfg0.N, cond0_1 (grid0.coords t) ↔ t.val % 353 = 0 :=
  (fun t => by
    have ht : t.val < 353 := Nat.lt_of_lt_of_eq t.isLt N_0
    have e0 : (grid0.coords t 0).val = t.val / 1 % 353 := Pipeline.Grid.coords_val t 0 (by decide) rfl
    simp only [cond0_1, e0]
    word_cmp
   : ∀ t : Fin grid0.N, cond0_1 (grid0.coords t) ↔ t.val % 353 = 0)

/-- The condition of the branch of even points. -/
abbrev cond0_2 (i : grid0.Coords) : Prop := k0_cond3 i = 1#1
/-- The even points. -/
theorem hcond0_2 : ∀ t : Fin cfg0.N, cond0_2 (grid0.coords t) ↔ t.val % 2 = 0 :=
  (by decide +kernel : ∀ t : Fin grid0.N, cond0_2 (grid0.coords t) ↔ t.val % 2 = 0)

/-- The condition of the branch of odd points. -/
abbrev cond0_3 (i : grid0.Coords) : Prop := k0_cond4 i = 1#1
/-- The odd points. -/
theorem hcond0_3 : ∀ t : Fin cfg0.N, cond0_3 (grid0.coords t) ↔ t.val % 2 = 1 :=
  (by decide +kernel : ∀ t : Fin grid0.N, cond0_3 (grid0.coords t) ↔ t.val % 2 = 1)

/-! ## Where the windows are idle (the printed configuration's table `Cfg.idle`) -/

/-- An input block is in use at every point. -/
theorem liveAt0_0 : ∀ t : Fin cfg0.N, cfg0.idle 0 (grid0.coords t) = false := fun _ => rfl
/-- An input block is in use at every point. -/
theorem liveAt0_1 : ∀ t : Fin cfg0.N, cfg0.idle 1 (grid0.coords t) = false := fun _ => rfl
/-- An input block is in use at every point. -/
theorem liveAt0_2 : ∀ t : Fin cfg0.N, cfg0.idle 2 (grid0.coords t) = false := fun _ => rfl
/-- An input block is in use at every point. -/
theorem liveAt0_3 : ∀ t : Fin cfg0.N, cfg0.idle 3 (grid0.coords t) = false := fun _ => rfl
/-- An input block is in use at every point. -/
theorem liveAt0_4 : ∀ t : Fin cfg0.N, cfg0.idle 4 (grid0.coords t) = false := fun _ => rfl
/-- An input block is in use at every point. -/
theorem liveAt0_5 : ∀ t : Fin cfg0.N, cfg0.idle 5 (grid0.coords t) = false := fun _ => rfl
/-- An input block is in use at every point. -/
theorem liveAt0_6 : ∀ t : Fin cfg0.N, cfg0.idle 6 (grid0.coords t) = false := fun _ => rfl

/-- The conditions of the first point, together. -/
abbrev conds0_A (i : grid0.Coords) : Prop := cond0_0 i ∧ cond0_1 i ∧ cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- The conditions of an odd point that fills no rows, together. -/
abbrev conds0_B (i : grid0.Coords) : Prop := ¬cond0_0 i ∧ ¬cond0_1 i ∧ ¬cond0_2 i ∧ cond0_3 i
instance conds0_B.dec (i : grid0.Coords) : Decidable (conds0_B i) :=
  @instDecidableAnd _ _ inferInstance (@instDecidableAnd _ _ inferInstance (@instDecidableAnd _ _ inferInstance inferInstance))
/-- The conditions of an even point that fills no rows, together. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- The conditions of an odd point that fills the kept rows, together. -/
abbrev conds0_D (i : grid0.Coords) : Prop := cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- The conditions of an even point after the first that fills the kept rows, together. -/
abbrev conds0_E (i : grid0.Coords) : Prop := cond0_0 i ∧ ¬cond0_1 i ∧ cond0_2 i ∧ ¬cond0_3 i
instance conds0_E.dec (i : grid0.Coords) : Decidable (conds0_E i) :=
  @instDecidableAnd _ _ inferInstance (@instDecidableAnd _ _ inferInstance (@instDecidableAnd _ _ inferInstance inferInstance))
/-- The output block is in use at the first point. -/
theorem liveAt0_7_A : ∀ t : Fin cfg0.N, cond0_0 (grid0.coords t) → cond0_1 (grid0.coords t) → cond0_2 (grid0.coords t) → ¬cond0_3 (grid0.coords t) → cfg0.idle 7 (grid0.coords t) = false :=
  fun t h0 h1 h2 h3 => (by decide +kernel : ∀ t : Fin cfg0.N, conds0_A (grid0.coords t) → cfg0.idle 7 (grid0.coords t) = false) t ⟨h0, h1, h2, h3⟩
/-- The output block is in use at an odd point that fills no rows. -/
theorem liveAt0_7_B : ∀ t : Fin cfg0.N, ¬cond0_0 (grid0.coords t) → ¬cond0_1 (grid0.coords t) → ¬cond0_2 (grid0.coords t) → cond0_3 (grid0.coords t) → cfg0.idle 7 (grid0.coords t) = false :=
  fun t h0 h1 h2 h3 => (by decide +kernel : ∀ t : Fin cfg0.N, conds0_B (grid0.coords t) → cfg0.idle 7 (grid0.coords t) = false) t ⟨h0, h1, h2, h3⟩
/-- The output block is in use at an even point that fills no rows. -/
theorem liveAt0_7_C : ∀ t : Fin cfg0.N, ¬cond0_0 (grid0.coords t) → ¬cond0_1 (grid0.coords t) → cond0_2 (grid0.coords t) → ¬cond0_3 (grid0.coords t) → cfg0.idle 7 (grid0.coords t) = false :=
  fun t h0 h1 h2 h3 => (by decide +kernel : ∀ t : Fin cfg0.N, conds0_C (grid0.coords t) → cfg0.idle 7 (grid0.coords t) = false) t ⟨h0, h1, h2, h3⟩
/-- The output block is in use at an odd point that fills the kept rows. -/
theorem liveAt0_7_D : ∀ t : Fin cfg0.N, cond0_0 (grid0.coords t) → ¬cond0_1 (grid0.coords t) → ¬cond0_2 (grid0.coords t) → cond0_3 (grid0.coords t) → cfg0.idle 7 (grid0.coords t) = false :=
  fun t h0 h1 h2 h3 => (by decide +kernel : ∀ t : Fin cfg0.N, conds0_D (grid0.coords t) → cfg0.idle 7 (grid0.coords t) = false) t ⟨h0, h1, h2, h3⟩
/-- The output block is in use at an even point after the first that fills the kept rows. -/
theorem liveAt0_7_E : ∀ t : Fin cfg0.N, cond0_0 (grid0.coords t) → ¬cond0_1 (grid0.coords t) → cond0_2 (grid0.coords t) → ¬cond0_3 (grid0.coords t) → cfg0.idle 7 (grid0.coords t) = false :=
  fun t h0 h1 h2 h3 => (by decide +kernel : ∀ t : Fin cfg0.N, conds0_E (grid0.coords t) → cfg0.idle 7 (grid0.coords t) = false) t ⟨h0, h1, h2, h3⟩

/-! ## The kernel body on any staging memrefs: a subtype the run finds -/

/-- A staging buffer of the output, to state contents by. -/
abbrev VO0_7 : View sig .tc .vmem S1024x512 .bf16 := (Memref.whole cc0_stg7_0 : Memref sig .tc .vmem S1024x512 .bf16).view
/-- The staging memrefs at a point, and that each is whole. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .bf16 := win0_7.stage (cfg0.slots t 7)
abbrev hs0_7 (t : Fin cfg0.N) : (ms0_7 t).IsWhole := hstage0_7 ((cfg0.slots t 7).cast nbuf0_7)
/-- The scratch operands: the kept rows and the two buffers. -/
abbrev scM0_0 : Memref sig .tc .vmem S1040x2048 .bf16 := Memref.whole cc0_scratch0
abbrev scM0_1 : Memref sig .tc .vmem S1040x1024 .f32 := Memref.whole cc0_scratch1
abbrev scM0_2 : Memref sig .tc .vmem S1040x1024 .f32 := Memref.whole cc0_scratch2
/-- A scratch array as a view, to state contents by. -/
abbrev VS0_0 : View sig .tc .vmem S1040x2048 .bf16 := scM0_0.view
/-- A scratch array as a view, to state contents by. -/
abbrev VS0_1 : View sig .tc .vmem S1040x1024 .f32 := scM0_1.view
/-- A scratch array as a view, to state contents by. -/
abbrev VS0_2 : View sig .tc .vmem S1040x1024 .f32 := scM0_2.view

/-- The scoped buffers at anything, one scratch array at a time. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 2420000 in
/-- The body at the first point: from the input blocks, and the scratch as the point before left it, it runs to its end, leaves the
    inputs as they were, and writes into the output block and the scratch the pieces found here (the last store first). -/
noncomputable def kernelRun0_A (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) :
    Σ' (L7 : List (View.Piece (Elt F) S1024x512 .bf16)), Σ' (LS0 : List (View.Piece (Elt F) S1040x2048 .bf16)), Σ' (LS1 : List (View.Piece (Elt F) S1040x1024 .f32)), { LS2 : List (View.Piece (Elt F) S1040x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn_up_eq_skeleton]; unfold cc0_ffn_up_skel
    simp only [k0_part1_eq_skeleton, k0_part74_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    iexists _; iexact HS2

set_option maxHeartbeats 2352000 in
/-- The body at an odd point that fills no rows: from the input blocks, and the scratch as the point before left it, it runs to its end, leaves the
    inputs as they were, and writes into the output block and the scratch the pieces found here (the last store first). -/
noncomputable def kernelRun0_B (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs1 : Vec F S1040x1024 .f32) :
    Σ' (L7 : List (View.Piece (Elt F) S1024x512 .bf16)), Σ' (LS0 : List (View.Piece (Elt F) S1040x2048 .bf16)), Σ' (LS1 : List (View.Piece (Elt F) S1040x1024 .f32)), { LS2 : List (View.Piece (Elt F) S1040x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11) K } := by
  refine ⟨?_, [], [], ?_, fun E K => ?run⟩
  case run =>
    simp only [cc0_ffn_up_eq_skeleton]; unfold cc0_ffn_up_skel
    simp only [k0_part147_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    iexists _; iexact HS2

set_option maxHeartbeats 2352000 in
/-- The body at an even point that fills no rows: from the input blocks, and the scratch as the point before left it, it runs to its end, leaves the
    inputs as they were, and writes into the output block and the scratch the pieces found here (the last store first). -/
noncomputable def kernelRun0_C (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs2 : Vec F S1040x1024 .f32) :
    Σ' (L7 : List (View.Piece (Elt F) S1024x512 .bf16)), Σ' (LS0 : List (View.Piece (Elt F) S1040x2048 .bf16)), Σ' (LS1 : List (View.Piece (Elt F) S1040x1024 .f32)), { LS2 : List (View.Piece (Elt F) S1040x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ (∃ f, arg10.view.loc (c : Thread nD τ) ↦[arg10.view.set]{fullShare} arg10.view.writes (Elt F) f LS1) ∗ owns (c : Thread nD τ) arg11 fullShare xs2) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11) K } := by
  refine ⟨?_, [], ?_, [], fun E K => ?run⟩
  case run =>
    simp only [cc0_ffn_up_eq_skeleton]; unfold cc0_ffn_up_skel
    simp only [k0_part74_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg11.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]; · iexists _; iexact HS1
    iexists _; isplitr; · ipureintro; exact harg11.read_unread _
    iexact HS2

set_option maxHeartbeats 2408000 in
/-- The body at an odd point that fills the kept rows: from the input blocks, and the scratch as the point before left it, it runs to its end, leaves the
    inputs as they were, and writes into the output block and the scratch the pieces found here (the last store first). -/
noncomputable def kernelRun0_D (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs1 : Vec F S1040x1024 .f32) :
    Σ' (L7 : List (View.Piece (Elt F) S1024x512 .bf16)), Σ' (LS0 : List (View.Piece (Elt F) S1040x2048 .bf16)), Σ' (LS1 : List (View.Piece (Elt F) S1040x1024 .f32)), { LS2 : List (View.Piece (Elt F) S1040x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11) K } := by
  refine ⟨?_, ?_, [], ?_, fun E K => ?run⟩
  case run =>
    simp only [cc0_ffn_up_eq_skeleton]; unfold cc0_ffn_up_skel
    simp only [k0_part1_eq_skeleton, k0_part147_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]
    · iexists _; isplitr; · ipureintro; exact harg10.read_unread _
      iexact HS1
    iexists _; iexact HS2

set_option maxHeartbeats 2408000 in
/-- The body at an even point after the first that fills the kept rows: from the input blocks, and the scratch as the point before left it, it runs to its end, leaves the
    inputs as they were, and writes into the output block and the scratch the pieces found here (the last store first). -/
noncomputable def kernelRun0_E (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs2 : Vec F S1040x1024 .f32) :
    Σ' (L7 : List (View.Piece (Elt F) S1024x512 .bf16)), Σ' (LS0 : List (View.Piece (Elt F) S1040x2048 .bf16)), Σ' (LS1 : List (View.Piece (Elt F) S1040x1024 .f32)), { LS2 : List (View.Piece (Elt F) S1040x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ owns (c : Thread nD τ) arg11 fullShare xs2) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11) K } := by
  refine ⟨?_, ?_, ?_, [], fun E K => ?run⟩
  case run =>
    simp only [cc0_ffn_up_eq_skeleton]; unfold cc0_ffn_up_skel
    simp only [k0_part1_eq_skeleton, k0_part74_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    iexists _; isplitr; · ipureintro; exact harg11.read_unread _
    iexact HS2

end Cert.Kernel4Ideal.Run

end
-- ==== Proof.UpFrame.lean ====
/- The frame of `_ffn_up`: what every grid point leaves, the invariant between points, the run of the program. -/
module

public import proofs.«01_k».proof.Proof.UpRuns
public import Idealize.ShloMosaic.Lib.Pipeline.Value
public import Idealize.ShloMosaic.Lib.Claim

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the stores into the output block cover it. -/
theorem cover0_A_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).1 S64x128.size (by sl_kernel_rfl) y

/-- What the first point leaves in the output block. -/
def out0_A_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) : Vec F S1024x512 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).1)

/-- At the first point the stores into the kept rows cover them. -/
theorem scover0_A_0 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (y : S1040x2048.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).2.1 ![16, 2048] (by sl_kernel_rfl) y

/-- What the first point leaves in the kept rows. -/
def sout0_A_0 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) : Vec F S1040x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).2.1)

/-- At the first point the stores into the first buffer cover it. -/
theorem scover0_A_1 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (y : S1040x1024.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).2.2.1 S1040x256.size (by sl_kernel_rfl) y

/-- What the first point leaves in the first buffer. -/
def sout0_A_1 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) : Vec F S1040x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).2.2.1)

/-- At the first point the stores into the second buffer cover it. -/
theorem scover0_A_2 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (y : S1040x1024.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).2.2.2.1 S1040x1024.size (by sl_kernel_rfl) y

/-- What the first point leaves in the second buffer. -/
def sout0_A_2 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) : Vec F S1040x1024 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6).2.2.2.1)

/-- At an odd point that fills no rows the stores into the output block cover it. -/
theorem cover0_B_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs1 : Vec F S1040x1024 .f32) (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs1).1 S64x128.size (by sl_kernel_rfl) y

/-- What an odd point that fills no rows leaves in the output block. -/
def out0_B_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs1 : Vec F S1040x1024 .f32) : Vec F S1024x512 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs1).1)

/-- What an odd point that fills no rows leaves in the kept rows. -/
def sout0_B_0 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs1 : Vec F S1040x1024 .f32) : Vec F S1040x2048 .bf16 := xs0

/-- What an odd point that fills no rows leaves in the first buffer. -/
def sout0_B_1 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs1 : Vec F S1040x1024 .f32) : Vec F S1040x1024 .f32 := xs1

/-- At an odd point that fills no rows the stores into the second buffer cover it. -/
theorem scover0_B_2 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs1 : Vec F S1040x1024 .f32) (y : S1040x1024.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs1).2.2.2.1 S1040x256.size (by sl_kernel_rfl) y

/-- What an odd point that fills no rows leaves in the second buffer. -/
def sout0_B_2 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs1 : Vec F S1040x1024 .f32) : Vec F S1040x1024 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs1).2.2.2.1)

/-- At an even point that fills no rows the stores into the output block cover it. -/
theorem cover0_C_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs2 : Vec F S1040x1024 .f32) (y : S1024x512.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs2).1 S64x128.size (by sl_kernel_rfl) y

/-- What an even point that fills no rows leaves in the output block. -/
def out0_C_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs2 : Vec F S1040x1024 .f32) : Vec F S1024x512 .bf16 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs2).1)

/-- What an even point that fills no rows leaves in the kept rows. -/
def sout0_C_0 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs2 : Vec F S1040x1024 .f32) : Vec F S1040x2048 .bf16 := xs0

/-- At an even point that fills no rows the stores into the first buffer cover it. -/
theorem scover0_C_1 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs2 : Vec F S1040x1024 .f32) (y : S1040x1024.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs2).2.2.1 S1040x256.size (by sl_kernel_rfl) y

/-- What an even point that fills no rows leaves in the first buffer. -/
def sout0_C_1 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs2 : Vec F S1040x1024 .f32) : Vec F S1040x1024 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs0 xs2).2.2.1)

/-- What an even point that fills no rows leaves in the second buffer. -/
def sout0_C_2 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : ¬cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs0 : Vec F S1040x2048 .bf16) (xs2 : Vec F S1040x1024 .f32) : Vec F S1040x1024 .f32 := xs2

/-- At an odd point that fills the kept rows the stores into the output block cover it. -/
theorem cover0_D_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs1 : Vec F S1040x1024 .f32) (y : S1024x512.Idx) :
    ∃ pc ∈ (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs1).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs1).1 S64x128.size (by sl_kernel_rfl) y

/-- What an odd point that fills the kept rows leaves in the output block. -/
def out0_D_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs1 : Vec F S1040x1024 .f32) : Vec F S1024x512 .bf16 :=
  VO0_7.read (Elt F) (VO0_7.writes (Elt F) VO0_7.junk (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs1).1)

/-- At an odd point that fills the kept rows the stores into the kept rows cover them. -/
theorem scover0_D_0 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs1 : Vec F S1040x1024 .f32) (y : S1040x2048.Idx) :
    ∃ pc ∈ (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs1).2.1, y ∈ pc.1.set :=
  View.cover_of_tiledBy (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs1).2.1 ![16, 2048] (by sl_kernel_rfl) y

/-- What an odd point that fills the kept rows leaves in the kept rows. -/
def sout0_D_0 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs1 : Vec F S1040x1024 .f32) : Vec F S1040x2048 .bf16 :=
  VS0_0.read (Elt F) (VS0_0.writes (Elt F) VS0_0.junk (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs1).2.1)

/-- What an odd point that fills the kept rows leaves in the first buffer. -/
def sout0_D_1 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs1 : Vec F S1040x1024 .f32) : Vec F S1040x1024 .f32 := xs1

/-- At an odd point that fills the kept rows the stores into the second buffer cover it. -/
theorem scover0_D_2 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs1 : Vec F S1040x1024 .f32) (y : S1040x1024.Idx) :
    ∃ pc ∈ (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs1).2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs1).2.2.2.1 S1040x256.size (by sl_kernel_rfl) y

/-- What an odd point that fills the kept rows leaves in the second buffer. -/
def sout0_D_2 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : ¬cond0_2 i) (hc3 : cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs1 : Vec F S1040x1024 .f32) : Vec F S1040x1024 .f32 :=
  VS0_2.read (Elt F) (VS0_2.writes (Elt F) VS0_2.junk (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs1).2.2.2.1)

/-- At an even point after the first that fills the kept rows the stores into the output block cover it. -/
theorem cover0_E_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs2 : Vec F S1040x1024 .f32) (y : S1024x512.Idx) :
    ∃ pc ∈ (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs2).1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs2).1 S64x128.size (by sl_kernel_rfl) y

/-- What an even point after the first that fills the kept rows leaves in the output block. -/
def out0_E_7 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs2 : Vec F S1040x1024 .f32) : Vec F S1024x512 .bf16 :=
  VO0_7.read (Elt F) (VO0_7.writes (Elt F) VO0_7.junk (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs2).1)

/-- At an even point after the first that fills the kept rows the stores into the kept rows cover them. -/
theorem scover0_E_0 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs2 : Vec F S1040x1024 .f32) (y : S1040x2048.Idx) :
    ∃ pc ∈ (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs2).2.1, y ∈ pc.1.set :=
  View.cover_of_tiledBy (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs2).2.1 ![16, 2048] (by sl_kernel_rfl) y

/-- What an even point after the first that fills the kept rows leaves in the kept rows. -/
def sout0_E_0 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs2 : Vec F S1040x1024 .f32) : Vec F S1040x2048 .bf16 :=
  VS0_0.read (Elt F) (VS0_0.writes (Elt F) VS0_0.junk (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs2).2.1)

/-- At an even point after the first that fills the kept rows the stores into the first buffer cover it. -/
theorem scover0_E_1 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs2 : Vec F S1040x1024 .f32) (y : S1040x1024.Idx) :
    ∃ pc ∈ (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs2).2.2.1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs2).2.2.1 S1040x256.size (by sl_kernel_rfl) y

/-- What an even point after the first that fills the kept rows leaves in the first buffer. -/
def sout0_E_1 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs2 : Vec F S1040x1024 .f32) : Vec F S1040x1024 .f32 :=
  VS0_1.read (Elt F) (VS0_1.writes (Elt F) VS0_1.junk (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xs2).2.2.1)

/-- What an even point after the first that fills the kept rows leaves in the second buffer. -/
def sout0_E_2 (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x512 .bf16) (harg8 : arg8.IsWhole) (arg9 : Memref sig .tc .vmem S1040x2048 .bf16) (harg9 : arg9.IsWhole) (arg10 : Memref sig .tc .vmem S1040x1024 .f32) (harg10 : arg10.IsWhole) (arg11 : Memref sig .tc .vmem S1040x1024 .f32) (harg11 : arg11.IsWhole) (hc0 : cond0_0 i) (hc1 : ¬cond0_1 i) (hc2 : cond0_2 i) (hc3 : ¬cond0_3 i)
    (x0 : Vec F S1024x2048 .f32) (x1 : Vec F S16x2048 .f32) (x2 : Vec F S1x2048 .f32) (x3 : Vec F S2048x512 .bf16) (x4 : Vec F S2048x512 .bf16) (x5 : Vec F S8x512 .f32) (x6 : Vec F S8x512 .f32) (xs2 : Vec F S1040x1024 .f32) : Vec F S1040x1024 .f32 := xs2

/-! ## What the outputs hold after each point -/

/-- What the output block and the three scratch arrays (kept rows, first and second buffer) hold after position `n`, by recursion on the
    position: the body of its kind of point over what the position before left. -/
def outsAt0 (c : Dev nD) : (n : ℕ) → n < cfg0.N → Vec F S1024x512 .bf16 × Vec F S1040x2048 .bf16 × Vec F S1040x1024 .f32 × Vec F S1040x1024 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (by (try dsimp only); omega)) ((hcond0_1 ⟨0, hn⟩).mpr (Nat.zero_mod _)) ((hcond0_2 ⟨0, hn⟩).mpr (Nat.zero_mod _)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (by (try dsimp only); omega)) ((hcond0_1 ⟨0, hn⟩).mpr (Nat.zero_mod _)) ((hcond0_2 ⟨0, hn⟩).mpr (Nat.zero_mod _)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (by (try dsimp only); omega)) ((hcond0_1 ⟨0, hn⟩).mpr (Nat.zero_mod _)) ((hcond0_2 ⟨0, hn⟩).mpr (Nat.zero_mod _)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (by (try dsimp only); omega)) ((hcond0_1 ⟨0, hn⟩).mpr (Nat.zero_mod _)) ((hcond0_2 ⟨0, hn⟩).mpr (Nat.zero_mod _)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : ((n + 1) < 352 ∧ (n + 1) % 11 = 0) then
      if h1 : (n + 1) % 353 = 0 then
        if h2 : (n + 1) % 2 = 0 then
          if h3 : (n + 1) % 2 = 1 then
            False.elim (by have hN : n + 1 < 353 := lt_of_lt_of_eq hn (show cfg0.N = 353 from N_0); omega)
          else
            (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
        else
          False.elim (by have hN : n + 1 < 353 := lt_of_lt_of_eq hn (show cfg0.N = 353 from N_0); omega)
      else
        if h2 : (n + 1) % 2 = 0 then
          if h3 : (n + 1) % 2 = 1 then
            False.elim (by have hN : n + 1 < 353 := lt_of_lt_of_eq hn (show cfg0.N = 353 from N_0); omega)
          else
            (out0_E_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2)
        else
          if h3 : (n + 1) % 2 = 1 then
            (out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1)
          else
            False.elim (by have hN : n + 1 < 353 := lt_of_lt_of_eq hn (show cfg0.N = 353 from N_0); omega)
    else
      if h1 : (n + 1) % 353 = 0 then
        False.elim (by have hN : n + 1 < 353 := lt_of_lt_of_eq hn (show cfg0.N = 353 from N_0); omega)
      else
        if h2 : (n + 1) % 2 = 0 then
          if h3 : (n + 1) % 2 = 1 then
            False.elim (by have hN : n + 1 < 353 := lt_of_lt_of_eq hn (show cfg0.N = 353 from N_0); omega)
          else
            (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.2)
        else
          if h3 : (n + 1) % 2 = 1 then
            (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1)
          else
            False.elim (by have hN : n + 1 < 353 := lt_of_lt_of_eq hn (show cfg0.N = 353 from N_0); omega)

/-- What the first point leaves, output block and scratch. -/
theorem outsAt0_A (c : Dev nD) (t : Fin cfg0.N) (h0 : (t.val < 352 ∧ t.val % 11 = 0)) (h1 : t.val % 353 = 0) (h2 : t.val % 2 = 0) (h3 : ¬t.val % 2 = 1) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_pos h2).trans ((dif_neg h3).trans rfl)))

/-- What an odd point that fills no rows leaves, output block and scratch. -/
theorem outsAt0_B (c : Dev nD) (t : Fin cfg0.N) (h0 : ¬(t.val < 352 ∧ t.val % 11 = 0)) (h1 : ¬t.val % 353 = 0) (h2 : ¬t.val % 2 = 0) (h3 : t.val % 2 = 1) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1) := by
  obtain ⟨n, hn⟩ := t
  cases n with
  | zero => exact (by exfalso; (try dsimp only at h0); exact by omega)
  | succ n => exact (dif_neg h0).trans ((dif_neg h1).trans ((dif_neg h2).trans ((dif_pos h3).trans rfl)))

/-- What an even point that fills no rows leaves, output block and scratch. -/
theorem outsAt0_C (c : Dev nD) (t : Fin cfg0.N) (h0 : ¬(t.val < 352 ∧ t.val % 11 = 0)) (h1 : ¬t.val % 353 = 0) (h2 : t.val % 2 = 0) (h3 : ¬t.val % 2 = 1) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.2) := by
  obtain ⟨n, hn⟩ := t
  cases n with
  | zero => exact (by exfalso; (try dsimp only at h0); exact by omega)
  | succ n => exact (dif_neg h0).trans ((dif_neg h1).trans ((dif_pos h2).trans ((dif_neg h3).trans rfl)))

/-- What an odd point that fills the kept rows leaves, output block and scratch. -/
theorem outsAt0_D (c : Dev nD) (t : Fin cfg0.N) (h0 : (t.val < 352 ∧ t.val % 11 = 0)) (h1 : ¬t.val % 353 = 0) (h2 : ¬t.val % 2 = 0) (h3 : t.val % 2 = 1) :
    outsAt0 m c t.val t.isLt = (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1) := by
  obtain ⟨n, hn⟩ := t
  cases n with
  | zero => exact (by exfalso; (try dsimp only at h1); exact absurd (Nat.zero_mod _) h1)
  | succ n => exact (dif_pos h0).trans ((dif_neg h1).trans ((dif_neg h2).trans ((dif_pos h3).trans rfl)))

/-- What an even point after the first that fills the kept rows leaves, output block and scratch. -/
theorem outsAt0_E (c : Dev nD) (t : Fin cfg0.N) (h0 : (t.val < 352 ∧ t.val % 11 = 0)) (h1 : ¬t.val % 353 = 0) (h2 : t.val % 2 = 0) (h3 : ¬t.val % 2 = 1) :
    outsAt0 m c t.val t.isLt = (out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2) := by
  obtain ⟨n, hn⟩ := t
  cases n with
  | zero => exact (by exfalso; (try dsimp only at h1); exact absurd (Nat.zero_mod _) h1)
  | succ n => exact (dif_pos h0).trans ((dif_neg h1).trans ((dif_pos h2).trans ((dif_neg h3).trans rfl)))

/-- The invariant between points: at first every scratch array at anything, afterwards each at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data: the arrays as the region finds them, each input block in place after the body, the output block at `outsAt0`, the
    invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := Pipeline.shareOf spec0 w
  owed _ := 0

/-- The proof data's arrays are those at the region's entry. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in a staging buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

/-- An input staging buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 20000000 in
/-- The body at any point, by the five kinds of point: from the invariant and the input blocks to the invariant of the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 353 := lt_of_lt_of_eq t.isLt (show cfg0.N = 353 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  by_cases h0 : (t.val < 352 ∧ t.val % 11 = 0)
  · by_cases h1 : t.val % 353 = 0
    · by_cases h2 : t.val % 2 = 0
      · by_cases h3 : t.val % 2 = 1
        · exfalso; omega
        · rw [show (dats m 0 c).leavesExact 7 t = owns (c : Thread nD τ) (ms0_7 t) fullShare ((dats m 0 c).after 7 t) from by
      unfold Dat.leavesExact; rw [liveAt0_7_A t ((hcond0_0 t).mpr h0) ((hcond0_1 t).mpr h1) ((hcond0_2 t).mpr h2) (fun h => h3 ((hcond0_3 t).mp h))], after0_7]
          by_cases hz : t.val = 0
          · rw [PhiS_castSucc m c t, PhiS_zero m c _ _ hz, PhiA0_eq]
            rw [outsAt0_A m c t h0 h1 h2 h3]
            unfold out0_A_7 sout0_A_0 sout0_A_1 sout0_A_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_A c (grid0.coords t) _ _ _ _ _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t)).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [HS0]; · iexact HS0
            isplitl [HS1]; · iexact HS1
            isplitl [HS2]; · iexact HS2
            iintro ⟨H0, H1, H2, H3, H4, H5, H6, ⟨%e7, H7⟩, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _)
          · exfalso; have hN : t.val < 353 := lt_of_lt_of_eq t.isLt (show cfg0.N = 353 from N_0); omega
      · exfalso; omega
    · by_cases h2 : t.val % 2 = 0
      · by_cases h3 : t.val % 2 = 1
        · exfalso; omega
        · rw [show (dats m 0 c).leavesExact 7 t = owns (c : Thread nD τ) (ms0_7 t) fullShare ((dats m 0 c).after 7 t) from by
      unfold Dat.leavesExact; rw [liveAt0_7_E t ((hcond0_0 t).mpr h0) (fun h => h1 ((hcond0_1 t).mp h)) ((hcond0_2 t).mpr h2) (fun h => h3 ((hcond0_3 t).mp h))], after0_7]
          by_cases hz : t.val = 0
          · exfalso; have hN : t.val < 353 := lt_of_lt_of_eq t.isLt (show cfg0.N = 353 from N_0); omega
          · rw [PhiS_castSucc m c t, PhiS_pos m c _ _ hz]
            rw [outsAt0_E m c t h0 h1 h2 h3]
            unfold out0_E_7 sout0_E_0 sout0_E_1 sout0_E_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_E c (grid0.coords t) _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [HS0]; · iexists _; iexact HS0
            isplitl [HS1]; · iexists _; iexact HS1
            isplitl [HS2]; · iexact HS2
            iintro ⟨H0, H1, H2, H3, H4, H5, H6, ⟨%e7, H7⟩, ⟨%es0, HS0⟩, ⟨%es1, HS1⟩, HS2⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_E_0 c _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_E_1 c _ _ _ _ _ _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            unfold owns; iexists _; isplitr
            swap; · iexact H7
            ipureintro; exact View.read_writes_of_cover _ _ _ _ _ (cover0_E_7 c _ _ _ _ _ _ _ _ _ _ _ _ _ _ _ _ _ _ _ _ _ _ _ _ _ _ _ _ _ _ _ _ _ _ _)
      · by_cases h3 : t.val % 2 = 1
        · rw [show (dats m 0 c).leavesExact 7 t = owns (c : Thread nD τ) (ms0_7 t) fullShare ((dats m 0 c).after 7 t) from by
      unfold Dat.leavesExact; rw [liveAt0_7_D t ((hcond0_0 t).mpr h0) (fun h => h1 ((hcond0_1 t).mp h)) (fun h => h2 ((hcond0_2 t).mp h)) ((hcond0_3 t).mpr h3)], after0_7]
          by_cases hz : t.val = 0
          · exfalso; have hN : t.val < 353 := lt_of_lt_of_eq t.isLt (show cfg0.N = 353 from N_0); omega
          · rw [PhiS_castSucc m c t, PhiS_pos m c _ _ hz]
            rw [outsAt0_D m c t h0 h1 h2 h3]
            unfold out0_D_7 sout0_D_0 sout0_D_1 sout0_D_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_D c (grid0.coords t) _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [HS0]; · iexists _; iexact HS0
            isplitl [HS1]; · iexact HS1
            isplitl [HS2]; · iexists _; iexact HS2
            iintro ⟨H0, H1, H2, H3, H4, H5, H6, ⟨%e7, H7⟩, ⟨%es0, HS0⟩, HS1, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _ _ _ _ _ _ _ _ _ _)
                isplitl [HS1]
                · iexact HS1
                unfold owns; iexists _; isplitr
                swap; · iexact HS2
                ipureintro; exact View.read_writes_of_cover _ _ _ _ _ (scover0_D_2 c _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            unfold owns; iexists _; isplitr
            swap; · iexact H7
            ipureintro; exact View.read_writes_of_cover _ _ _ _ _ (cover0_D_7 c _ _ _ _ _ _ _ _ _ _ _ _ _ _ _ _ _ _ _ _ _ _ _ _ _ _ _ _ _ _ _ _ _ _ _)
        · exfalso; omega
  · by_cases h1 : t.val % 353 = 0
    · exfalso; omega
    · by_cases h2 : t.val % 2 = 0
      · by_cases h3 : t.val % 2 = 1
        · exfalso; omega
        · rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) (fun h => h3 ((hcond0_3 t).mp h))], after0_7]
          by_cases hz : t.val = 0
          · exfalso; have hN : t.val < 353 := lt_of_lt_of_eq t.isLt (show cfg0.N = 353 from N_0); omega
          · rw [PhiS_castSucc m c t, PhiS_pos m c _ _ hz]
            rw [outsAt0_C m c t h0 h1 h2 h3]
            unfold out0_C_7 sout0_C_0 sout0_C_1 sout0_C_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) _ _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [HS0]; · iexact HS0
            isplitl [HS1]; · iexists _; iexact HS1
            isplitl [HS2]; · iexact HS2
            iintro ⟨H0, H1, H2, H3, H4, H5, H6, ⟨%e7, H7⟩, HS0, ⟨%es1, HS1⟩, HS2⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            unfold owns; iexists _; isplitr
            swap; · iexact H7
            ipureintro; exact View.read_writes_of_cover _ _ _ _ _ (cover0_C_7 c _ _ _ _ _ _ _ _ _ _ _ _ _ _ _ _ _ _ _ _ _ _ _ _ _ _ _ _ _ _ _ _ _ _ _ _)
      · by_cases h3 : t.val % 2 = 1
        · rw [show (dats m 0 c).leavesExact 7 t = owns (c : Thread nD τ) (ms0_7 t) fullShare ((dats m 0 c).after 7 t) from by
      unfold Dat.leavesExact; rw [liveAt0_7_B t (fun h => h0 ((hcond0_0 t).mp h)) (fun h => h1 ((hcond0_1 t).mp h)) (fun h => h2 ((hcond0_2 t).mp h)) ((hcond0_3 t).mpr h3)], after0_7]
          by_cases hz : t.val = 0
          · exfalso; have hN : t.val < 353 := lt_of_lt_of_eq t.isLt (show cfg0.N = 353 from N_0); omega
          · rw [PhiS_castSucc m c t, PhiS_pos m c _ _ hz]
            rw [outsAt0_B m c t h0 h1 h2 h3]
            unfold out0_B_7 sout0_B_0 sout0_B_1 sout0_B_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_B c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) _ _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [HS0]; · iexact HS0
            isplitl [HS1]; · iexact HS1
            isplitl [HS2]; · iexists _; iexact HS2
            iintro ⟨H0, H1, H2, H3, H4, H5, H6, ⟨%e7, H7⟩, HS0, HS1, ⟨%es2, HS2⟩⟩
            isplitl [HS0 HS1 HS2 Hg]
            · isplitl [HS0 HS1 HS2]
              · isplitl [HS0]
                · iexact HS0
                isplitl [HS1]
                · iexact HS1
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _ _ _)
        · exfalso; omega

/-- The table's body at a point. -/
theorem defs₀_row (t : Fin cfg0.N) :
    defs₀ (F := F) .tc cfg0.body (cfg0.bodyArgs t (cfg0.slots t)) = bodyAt0 t := by
  unfold defs₀; rw [Defs.onTc_tc]

/-- The obligation of the pipeline at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 353 := N_0; omega)

/-! ## The run and the frame -/

set_option backward.isDefEq.respectTransparency.types false in
/-- The run of the program: it ends as `run_main` states, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution ends with the pipeline's arrays at what the proof data say and every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame over any float values: the program ends, its arguments are unchanged, its semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The result array -/

/-- What a point writes back to the result array is what it left in the output block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- The result array after the run. -/
theorem post7 (r : PUnit × MemSt nD τ sig (Elt F)) (h : Pipeline.FramePost cfgs (dats m) 0 (V m) r) (c : Dev nD) :
    r.2.mem ((c : Thread nD τ).loc main_v4) = (dats m 0 c).arrAt 7 cfg0.N :=
  (h c).1 7

/-- An argument after the run is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- An argument after the run is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- An argument after the run is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- An argument after the run is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run with the result array named by the proof data and the arguments unchanged. -/
theorem run_blocks : θ_run defs (onTc (τ := τ) (main (F := F))) ⟨m, fun _ => 0, ρ⟩ fun r => ∀ c : Dev nD,
      r.2.mem ((c : Thread nD τ).loc main_v4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post7 m r h c,
      kept_main_arg0 m r h c,
      kept_main_arg1 m r h c,
      kept_main_arg2 m r h c,
      kept_main_arg3 m r h c⟩)
    (run_main m ρ)

end Cert.Kernel4Ideal.Run

end
-- ==== Proof.UpMath.lean ====
/- The mathematics of the feed-forward input: a normalised row, a three-tap filter and a gated product. -/
module

public import Idealize.ShloMosaic.PureOps
public import Idealize.ShloMosaic.Lib.Pointwise

@[expose] public section

noncomputable section

namespace Cert.Up

open Idealize.ShloMosaic

/-- A row over its root mean square, scaled by a gain. -/
def nrm (x g : Fin 2048 → EReal) (k : Fin 2048) : EReal :=
  x k * Ideal.rsqrt (Ideal.div (∑ j, x j * x j) (Ideal.ofBits .f32 0x45000000#32) + Ideal.ofBits .f32 0x358637BD#32) * g k

/-- A three-tap filter. -/
def mix (c0 c1 c2 u0 u1 u2 : EReal) : EReal := c0 * u0 + c1 * u1 + c2 * u2

/-- A gate times its logistic, times a value. -/
def glu (g v : EReal) : EReal := g * Ideal.div 1 (1 + Ideal.exp (-g)) * v

end Cert.Up
-- ==== Proof.UpTile.lean ====
/- One tile of the kernel's feed-forward input: 64 rows by 128 columns of the filtered, gated product, read at one place. -/
module

public import proofs.«01_k».proof.Proof.Gen.Kernel4Ideal.Skeleton
public import proofs.«01_k».proof.Proof.UpMath
public import Idealize.ShloMosaic.Lib.Pipeline.ValueKit

@[expose] public section

set_option maxRecDepth 16384

noncomputable section

namespace Cert.Kernel4Ideal.Value

open Cert.Kernel4Ideal Cert.Kernel4Ideal.Gen Idealize.ShloMosaic Idealize.ShloMosaic.TcCoe Idealize.SL.Sem

/-- The three-tap filter of a tile, its sixteen rows of halo dropped. -/
def conv (u : FVec Ideal S80x128 .f32) (c : FVec Ideal S8x128 .f32) : FVec Ideal S64x128 .f32 := k0_pay11 (F := Ideal) u c

/-- The gated product of two filtered tiles. -/
def tile (ug : FVec Ideal S80x128 .f32) (cg : FVec Ideal S8x128 .f32) (uv : FVec Ideal S80x128 .f32) (cv : FVec Ideal S8x128 .f32) : FVec Ideal S64x128 .bf16 :=
  truncf .bf16 (mulf (mulf (conv ug cg) (divf (broadcast S64x128 (Scalar.ofBits .f32 0x3F800000#32)) (addf (broadcast S64x128 (Scalar.ofBits .f32 0x3F800000#32)) (exp (subf (broadcast S64x128 (Scalar.ofBits .f32 0x00000000#32)) (conv ug cg)))))) (conv uv cv)) bitsLt_bf16_f32

/-- A filtered entry. -/
theorem conv_at (u : FVec Ideal S80x128 .f32) (c : FVec Ideal S8x128 .f32) (r : Fin 64) (l : Fin 128) (r0 r1 r2 : Fin 80)
    (h0 : r0.val = r.val + 14) (h1 : r1.val = r.val + 15) (h2 : r2.val = r.val + 16) :
    conv u c (ix2 r l) = Cert.Up.mix (c (ix2 0 l)) (c (ix2 1 l)) (c (ix2 2 l)) (u (ix2 r0 l)) (u (ix2 r1 l)) (u (ix2 r2 l)) := by
  pointwise [conv, k0_pay11, Cert.Up.mix]
  have e0 : (⟨(16 + r.val + 80 - 2) % 80, by omega⟩ : Fin 80) = r0 := Fin.ext (by show (16 + r.val + 80 - 2) % 80 = r0.val; omega)
  have e1 : (⟨(16 + r.val + 80 - 1) % 80, by omega⟩ : Fin 80) = r1 := Fin.ext (by show (16 + r.val + 80 - 1) % 80 = r1.val; omega)
  have e2 : (⟨16 + r.val, by omega⟩ : Fin 80) = r2 := Fin.ext (by show 16 + r.val = r2.val; omega)
  simp only [e0, e1, e2]

/-- An entry of the gated product. -/
theorem tile_at (ug : FVec Ideal S80x128 .f32) (cg : FVec Ideal S8x128 .f32) (uv : FVec Ideal S80x128 .f32) (cv : FVec Ideal S8x128 .f32) (r : Fin 64) (l : Fin 128) :
    tile ug cg uv cv (ix2 r l) = Cert.Up.glu (conv ug cg (ix2 r l)) (conv uv cv (ix2 r l)) := by
  pointwise [tile, Cert.Up.glu]
  rw [zero_sub]

/-- A projected entry of the gate half. -/
theorem mma9_at (h : FVec Ideal S1040x2048 .bf16) (w : FVec Ideal S2048x256 .bf16) (r : Fin 1040) (l : Fin 256) :
    k0_pay9 (F := Ideal) h w (ix2 r l) = ∑ k : Fin 2048, h (ix2 r k) * w (ix2 k l) := by
  pointwise [k0_pay9]

/-- A normalised row of the tile. -/
theorem rms_at (x : FVec Ideal S1024x2048 .f32) (g : FVec Ideal S1x2048 .f32) (r : Fin 1024) (k : Fin 2048) :
    k0_pay5 (F := Ideal) x g (ix2 r k) = Cert.Up.nrm (fun j => x (ix2 r j)) (fun j => g (ix2 0 j)) k := by
  pointwise [k0_pay5, Cert.Up.nrm]

/-- A normalised row of the halo, kept or cleared. -/
theorem halo_at (v : BitVec 32) (x : FVec Ideal S16x2048 .f32) (g : FVec Ideal S1x2048 .f32) (r : Fin 16) (k : Fin 2048) :
    k0_pay1 (F := Ideal) (k0_pay6 (F := Ideal) v) (k0_pay7 (F := Ideal) g) (k0_pay8 (F := Ideal) x) (ix2 r k) = Cert.Up.nrm (fun j => x (ix2 r j)) (fun j => g (ix2 0 j)) k * k0_pay6 (F := Ideal) v := by
  pointwise [k0_pay1, k0_pay7, k0_pay8, Cert.Up.nrm]

/-- A filtered entry of a block of projected rows: row `r` of the tile, column `n` of the coefficients, column `N` of the rows. -/
def fl (P : FVec Ideal S1040x1024 .f32) (C : FVec Ideal S8x512 .f32) (r : Fin 1024) (n : Fin 512) (N : Fin 1024) : EReal :=
  Cert.Up.mix (C (ix2 0 n)) (C (ix2 1 n)) (C (ix2 2 n)) (P (ix2 ⟨r.val + 14, by omega⟩ N)) (P (ix2 ⟨r.val + 15, by omega⟩ N)) (P (ix2 ⟨r.val + 16, by omega⟩ N))

/-- The output block from the projected rows and the two blocks of coefficients. -/
def outb (P : FVec Ideal S1040x1024 .f32) (C D : FVec Ideal S8x512 .f32) (r : Fin 1024) (n : Fin 512) : EReal :=
  Cert.Up.glu (fl P C r n ⟨n.val, by omega⟩) (fl P D r n ⟨512 + n.val, by omega⟩)

/-- The output block at an index. -/
def outB (P : FVec Ideal S1040x1024 .f32) (C D : FVec Ideal S8x512 .f32) (y : S1024x512.Idx) : EReal := outb P C D (y 0) (y 1)

/-- A load of projected rows. -/
theorem ldp (P : FVec Ideal S1040x1024 .f32) (ro co : ℕ) (h) (r : Fin 80) (l : Fin 128) (R : Fin 1040) (hR : R.val = ro + r.val) (N : Fin 1024) (hN : N.val = co + l.val) :
    View.ld (Val := Elt Ideal) (e' := .f32) P (Rect.unit (s := S1040x1024) ![ro, co] ![80, 128] h) (ix2 r l) = P (ix2 R N) := by
  exact View.ld_unit_apply_of _ _ _ _ _ _ (by intro a; fin_cases a <;> simp [hR, hN])

/-- A load of coefficients. -/
theorem ldc (C : FVec Ideal S8x512 .f32) (co : ℕ) (h) (r : Fin 8) (l : Fin 128) (N : Fin 512) (hN : N.val = co + l.val) :
    View.ld (Val := Elt Ideal) (e' := .f32) C (Rect.unit (s := S8x512) ![0, co] ![8, 128] h) (ix2 r l) = C (ix2 r N) := by
  exact View.ld_unit_apply_of _ _ _ _ _ _ (by intro a; fin_cases a <;> simp [hN])

/-- A stored tile is the output block, by row and column. -/
theorem tile_ld' (P : FVec Ideal S1040x1024 .f32) (C D : FVec Ideal S8x512 .f32) (ro co cv : ℕ) (hcv : cv = 512 + co) (h1 h2 h3 h4) (x0 : Fin 64) (x1 : Fin 128) (R : Fin 1024) (hR : R.val = ro + x0.val) (n : Fin 512) (hn : n.val = co + x1.val) :
    tile (View.ld (Val := Elt Ideal) (e' := .f32) P (Rect.unit (s := S1040x1024) ![ro, co] ![80, 128] h1)) (View.ld (Val := Elt Ideal) (e' := .f32) C (Rect.unit (s := S8x512) ![0, co] ![8, 128] h2))
      (View.ld (Val := Elt Ideal) (e' := .f32) P (Rect.unit (s := S1040x1024) ![ro, cv] ![80, 128] h3)) (View.ld (Val := Elt Ideal) (e' := .f32) D (Rect.unit (s := S8x512) ![0, co] ![8, 128] h4)) (ix2 x0 x1) = outb P C D R n := by
  rw [tile_at, conv_at _ _ x0 x1 ⟨x0.val + 14, by omega⟩ ⟨x0.val + 15, by omega⟩ ⟨x0.val + 16, by omega⟩ rfl rfl rfl, conv_at _ _ x0 x1 ⟨x0.val + 14, by omega⟩ ⟨x0.val + 15, by omega⟩ ⟨x0.val + 16, by omega⟩ rfl rfl rfl]
  rw [ldc C co h2 0 x1 n hn, ldc C co h2 1 x1 n hn, ldc C co h2 2 x1 n hn, ldc D co h4 0 x1 n hn, ldc D co h4 1 x1 n hn, ldc D co h4 2 x1 n hn,
    ldp P ro co h1 _ x1 ⟨R.val + 14, by omega⟩ (by show R.val + 14 = ro + (x0.val + 14); omega) ⟨n.val, by omega⟩ hn,
    ldp P ro co h1 _ x1 ⟨R.val + 15, by omega⟩ (by show R.val + 15 = ro + (x0.val + 15); omega) ⟨n.val, by omega⟩ hn,
    ldp P ro co h1 _ x1 ⟨R.val + 16, by omega⟩ (by show R.val + 16 = ro + (x0.val + 16); omega) ⟨n.val, by omega⟩ hn,
    ldp P ro cv h3 _ x1 ⟨R.val + 14, by omega⟩ (by show R.val + 14 = ro + (x0.val + 14); omega) ⟨512 + n.val, by omega⟩ (by show 512 + n.val = cv + x1.val; omega),
    ldp P ro cv h3 _ x1 ⟨R.val + 15, by omega⟩ (by show R.val + 15 = ro + (x0.val + 15); omega) ⟨512 + n.val, by omega⟩ (by show 512 + n.val = cv + x1.val; omega),
    ldp P ro cv h3 _ x1 ⟨R.val + 16, by omega⟩ (by show R.val + 16 = ro + (x0.val + 16); omega) ⟨512 + n.val, by omega⟩ (by show 512 + n.val = cv + x1.val; omega)]
  rfl

/-- A stored tile is the output block at its place. -/
theorem tile_ld (P : FVec Ideal S1040x1024 .f32) (C D : FVec Ideal S8x512 .f32) (ro co cv : ℕ) (hcv : cv = 512 + co) (h1 h2 h3 h4) (x : S64x128.Idx) (R : Fin 1024) (hR : R.val = ro + (x 0).val) (n : Fin 512) (hn : n.val = co + (x 1).val) :
    tile (View.ld (Val := Elt Ideal) (e' := .f32) P (Rect.unit (s := S1040x1024) ![ro, co] ![80, 128] h1)) (View.ld (Val := Elt Ideal) (e' := .f32) C (Rect.unit (s := S8x512) ![0, co] ![8, 128] h2))
      (View.ld (Val := Elt Ideal) (e' := .f32) P (Rect.unit (s := S1040x1024) ![ro, cv] ![80, 128] h3)) (View.ld (Val := Elt Ideal) (e' := .f32) D (Rect.unit (s := S8x512) ![0, co] ![8, 128] h4)) x = outb P C D R n := by
  rw [eq_ix2 x]
  exact tile_ld' P C D ro co cv hcv h1 h2 h3 h4 (x 0) (x 1) R hR n hn

end Cert.Kernel4Ideal.Value
-- ==== Proof.UpS.lean ====
/- What the kernel keeps between grid points: the normalised rows of a row tile, and those rows projected. -/
module

public import proofs.«01_k».proof.Proof.UpFrame
public import proofs.«01_k».proof.Proof.UpTile
public import Idealize.ShloMosaic.Lib.Pipeline.ReadBack

@[expose] public section

set_option maxRecDepth 16384

noncomputable section

namespace Cert.Kernel4Ideal.Value

open Cert.Kernel4Ideal Cert.Kernel4Ideal.Gen Cert.Kernel4Ideal.Run Idealize.ShloMosaic Idealize.ShloMosaic.TcCoe Idealize.SL.Sem

/-- Rows projected by a gate block and a value block, side by side. -/
def raw (h : FVec Ideal S1040x2048 .bf16) (w v : FVec Ideal S2048x512 .bf16) (r : Fin 1040) (n : Fin 1024) : EReal :=
  if hn : n.val < 512 then ∑ k : Fin 2048, h (ix2 r k) * w (ix2 k ⟨n.val, hn⟩) else ∑ k : Fin 2048, h (ix2 r k) * v (ix2 k ⟨n.val - 512, by omega⟩)

/-- The projected rows at an index. -/
def rawB (h : FVec Ideal S1040x2048 .bf16) (w v : FVec Ideal S2048x512 .bf16) (y : S1040x1024.Idx) : EReal := raw h w v (y 0) (y 1)

/-- The normalised rows of a row tile, after sixteen rows of halo. -/
def hid (x : FVec Ideal S1024x2048 .f32) (z : FVec Ideal S16x2048 .f32) (g : FVec Ideal S1x2048 .f32) (kp : EReal) (r : Fin 1040) (k : Fin 2048) : EReal :=
  if hr : r.val < 16 then Cert.Up.nrm (fun j => z (ix2 ⟨r.val, hr⟩ j)) (fun j => g (ix2 0 j)) k * kp else Cert.Up.nrm (fun j => x (ix2 ⟨r.val - 16, by omega⟩ j)) (fun j => g (ix2 0 j)) k

/-- The normalised rows at an index. -/
def hidB (x : FVec Ideal S1024x2048 .f32) (z : FVec Ideal S16x2048 .f32) (g : FVec Ideal S1x2048 .f32) (kp : EReal) (y : S1040x2048.Idx) : EReal := hid x z g kp (y 0) (y 1)

/-- The factor of the halo rows at a grid point. -/
def keep (i : grid0.Coords) : EReal := k0_pay6 (F := Ideal) (Scalar.divsi (Scalar.minsi (BitVec.ofNat 32 (i 0).val) 351#32) 11#32)

/-- A load of the whole of the kept rows reads them. -/
theorem readCov_whole (L : List (View.Piece (Elt Ideal) S1040x2048 .bf16)) (h) :
    (View.whole cc0_scratch0).readCov L (Rect.unit (s := S1040x2048) ![0, 0] ![1040, 2048] h).toLoadRect = View.canon L := by
  rw [View.readCov_eq_canon']
  funext j
  exact congrArg (View.canon L) (by funext a; apply Fin.ext; fin_cases a <;> simp [LoadRect.idx, Rect.toLoadRect, Rect.unit])

/-- A load of a block of weights. -/
theorem ldw (w : FVec Ideal S2048x512 .bf16) (co : ℕ) (h) (k : Fin 2048) (l : Fin 256) (N : Fin 512) (hN : N.val = co + l.val) :
    View.ld (Val := Elt Ideal) (e' := .bf16) w (Rect.unit (s := S2048x512) ![0, co] ![2048, 256] h) (ix2 k l) = w (ix2 k N) := by
  exact View.ld_unit_apply_of _ _ _ _ _ _ (by intro a; fin_cases a <;> simp [hN])

/-- A stored chunk of the gate half. -/
theorem raw_w (H : FVec Ideal S1040x2048 .bf16) (w v : FVec Ideal S2048x512 .bf16) (co : ℕ) (hco : co + 256 ≤ 512) (h) (x : S1040x256.Idx) (r : Fin 1040) (hr : r.val = (x 0).val) (n : Fin 1024) (hn : n.val = co + (x 1).val) :
    k0_pay9 (F := Ideal) H (View.ld (Val := Elt Ideal) (e' := .bf16) w (Rect.unit (s := S2048x512) ![0, co] ![2048, 256] h)) x = raw H w v r n := by
  have hx : (x 1).val < 256 := (x 1).isLt
  have er : r = x 0 := Fin.ext hr
  rw [eq_ix2 x, raw, dif_pos (by omega), er]
  refine (mma9_at _ _ (x 0) (x 1)).trans (Finset.sum_congr rfl fun k _ => ?_)
  exact congrArg _ (ldw w co h k (x 1) ⟨n.val, by omega⟩ hn)

/-- A stored chunk of the value half. -/
theorem raw_v (H : FVec Ideal S1040x2048 .bf16) (w v : FVec Ideal S2048x512 .bf16) (co cv : ℕ) (hcv : cv = 512 + co) (hco : co + 256 ≤ 512) (h) (x : S1040x256.Idx) (r : Fin 1040) (hr : r.val = (x 0).val) (n : Fin 1024) (hn : n.val = cv + (x 1).val) :
    k0_pay9 (F := Ideal) H (View.ld (Val := Elt Ideal) (e' := .bf16) v (Rect.unit (s := S2048x512) ![0, co] ![2048, 256] h)) x = raw H w v r n := by
  have hx : (x 1).val < 256 := (x 1).isLt
  have er : r = x 0 := Fin.ext hr
  rw [eq_ix2 x, raw, dif_neg (by omega), er]
  refine (mma9_at _ _ (x 0) (x 1)).trans (Finset.sum_congr rfl fun k _ => ?_)
  exact congrArg _ (ldw v co h k (x 1) ⟨n.val - 512, by omega⟩ (by show n.val - 512 = co + (x 1).val; omega))

/-- The stored halo rows. -/
theorem hid_lo (x : FVec Ideal S1024x2048 .f32) (z : FVec Ideal S16x2048 .f32) (g : FVec Ideal S1x2048 .f32) (i : grid0.Coords) (a : S16x2048.Idx) (y : S1040x2048.Idx) (h0 : (y 0).val = (a 0).val) (h1 : (y 1).val = (a 1).val) :
    k0_pay1 (F := Ideal) (k0_pay6 (F := Ideal) (Scalar.divsi (Scalar.minsi (BitVec.ofNat 32 (i 0).val) 351#32) 11#32)) (k0_pay7 (F := Ideal) g) (k0_pay8 (F := Ideal) z) a = hidB x z g (keep i) y := by
  have ha : (a 0).val < 16 := (a 0).isLt
  have e1 : y 1 = a 1 := Fin.ext h1
  have e0 : (⟨(y 0).val, by omega⟩ : Fin 16) = a 0 := Fin.ext h0
  have e : hidB x z g (keep i) y = Cert.Up.nrm (fun j => z (ix2 (⟨(y 0).val, by omega⟩ : Fin 16) j)) (fun j => g (ix2 0 j)) (y 1) * keep i := dif_pos (show (y 0).val < 16 by omega)
  rw [e, e1, e0]
  exact (congrArg _ (eq_ix2 a)).trans (halo_at _ z g (a 0) (a 1))

/-- The stored rows of the tile. -/
theorem hid_hi (x : FVec Ideal S1024x2048 .f32) (z : FVec Ideal S16x2048 .f32) (g : FVec Ideal S1x2048 .f32) (i : grid0.Coords) (a : S1024x2048.Idx) (y : S1040x2048.Idx) (h0 : (y 0).val = 16 + (a 0).val) (h1 : (y 1).val = (a 1).val) :
    k0_pay5 (F := Ideal) x g a = hidB x z g (keep i) y := by
  have ha : (a 0).val < 1024 := (a 0).isLt
  have e1 : y 1 = a 1 := Fin.ext h1
  have e0 : (⟨(y 0).val - 16, by omega⟩ : Fin 1024) = a 0 := Fin.ext (by show (y 0).val - 16 = (a 0).val; omega)
  have e : hidB x z g (keep i) y = Cert.Up.nrm (fun j => x (ix2 (⟨(y 0).val - 16, by omega⟩ : Fin 1024) j)) (fun j => g (ix2 0 j)) (y 1) := dif_neg (show ¬(y 0).val < 16 by omega)
  rw [e, e1, e0]
  exact (congrArg _ (eq_ix2 a)).trans (rms_at x g (a 0) (a 1))

variable (m : (ℓ : Loc nD τ sig) → Buf (Elt Ideal) ℓ)

set_option maxHeartbeats 8000000 in
/-- The rows kept at the first point. -/
theorem h_A (c : Dev nD) (t : Fin cfg0.N) (h0 : t.val < 352) (h1 : t.val % 11 = 0) (h2 : t.val % 353 = 0) (h3 : t.val % 2 = 0) (h4 : ¬t.val % 2 = 1) (y : S1040x2048.Idx) :
    (outsAt0 m c t.val t.isLt).2.1 y = hidB (iblk m c 0 t) (iblk m c 1 t) (iblk m c 2 t) (keep (grid0.coords t)) y := by
  rw [outsAt0_A m c t ⟨h0, h1⟩ h2 h3 h4]
  frame_open
  frame_out
  canon_tiles x h using (View.cover_of_tiledBy _ ![16, 2048] (by sl_kernel_rfl) y)
  case piece0 => exact hid_lo (iblk m c 0 t) (iblk m c 1 t) (iblk m c 2 t) (grid0.coords t) x y h0 h1
  case piece1 => exact hid_hi (iblk m c 0 t) (iblk m c 1 t) (iblk m c 2 t) (grid0.coords t) x y h0 h1

set_option maxHeartbeats 8000000 in
/-- The rows kept at an odd point that starts a row tile. -/
theorem h_D (c : Dev nD) (t : Fin cfg0.N) (h0 : t.val < 352) (h1 : t.val % 11 = 0) (h2 : ¬t.val % 353 = 0) (h3 : ¬t.val % 2 = 0) (h4 : t.val % 2 = 1) (y : S1040x2048.Idx) :
    (outsAt0 m c t.val t.isLt).2.1 y = hidB (iblk m c 0 t) (iblk m c 1 t) (iblk m c 2 t) (keep (grid0.coords t)) y := by
  rw [outsAt0_D m c t ⟨h0, h1⟩ h2 h3 h4]
  generalize outsAt0 m c (t.val - 1) _ = P
  frame_open
  frame_out
  canon_tiles x h using (View.cover_of_tiledBy _ ![16, 2048] (by sl_kernel_rfl) y)
  case piece0 => exact hid_lo (iblk m c 0 t) (iblk m c 1 t) (iblk m c 2 t) (grid0.coords t) x y h0 h1
  case piece1 => exact hid_hi (iblk m c 0 t) (iblk m c 1 t) (iblk m c 2 t) (grid0.coords t) x y h0 h1

set_option maxHeartbeats 8000000 in
/-- The rows kept at an even point that starts a row tile. -/
theorem h_E (c : Dev nD) (t : Fin cfg0.N) (h0 : t.val < 352) (h1 : t.val % 11 = 0) (h2 : ¬t.val % 353 = 0) (h3 : t.val % 2 = 0) (h4 : ¬t.val % 2 = 1) (y : S1040x2048.Idx) :
    (outsAt0 m c t.val t.isLt).2.1 y = hidB (iblk m c 0 t) (iblk m c 1 t) (iblk m c 2 t) (keep (grid0.coords t)) y := by
  rw [outsAt0_E m c t ⟨h0, h1⟩ h2 h3 h4]
  generalize outsAt0 m c (t.val - 1) _ = P
  frame_open
  frame_out
  canon_tiles x h using (View.cover_of_tiledBy _ ![16, 2048] (by sl_kernel_rfl) y)
  case piece0 => exact hid_lo (iblk m c 0 t) (iblk m c 1 t) (iblk m c 2 t) (grid0.coords t) x y h0 h1
  case piece1 => exact hid_hi (iblk m c 0 t) (iblk m c 1 t) (iblk m c 2 t) (grid0.coords t) x y h0 h1

/-- The rows stay at an odd point inside a row tile. -/
theorem h_B (c : Dev nD) (t : Fin cfg0.N) (h0 : t.val < 352) (h1 : ¬t.val % 11 = 0) (h2 : ¬t.val % 353 = 0) (h3 : ¬t.val % 2 = 0) (h4 : t.val % 2 = 1) :
    (outsAt0 m c t.val t.isLt).2.1 = (outsAt0 m c (t.val - 1) (Nat.lt_of_le_of_lt (Nat.sub_le _ _) t.isLt)).2.1 := by
  rw [outsAt0_B m c t (fun h => h1 h.2) h2 h3 h4]
  rfl

/-- The rows stay at an even point inside a row tile. -/
theorem h_C (c : Dev nD) (t : Fin cfg0.N) (h0 : t.val < 352) (h1 : ¬t.val % 11 = 0) (h2 : ¬t.val % 353 = 0) (h3 : t.val % 2 = 0) (h4 : ¬t.val % 2 = 1) :
    (outsAt0 m c t.val t.isLt).2.1 = (outsAt0 m c (t.val - 1) (Nat.lt_of_le_of_lt (Nat.sub_le _ _) t.isLt)).2.1 := by
  rw [outsAt0_C m c t (fun h => h1 h.2) h2 h3 h4]
  rfl

set_option maxHeartbeats 8000000 in
/-- The projected rows stored at the first point. -/
theorem r_A (c : Dev nD) (t : Fin cfg0.N) (h0 : t.val < 352) (h1 : t.val % 11 = 0) (h2 : t.val % 353 = 0) (h3 : t.val % 2 = 0) (h4 : ¬t.val % 2 = 1) (y : S1040x1024.Idx) :
    (outsAt0 m c t.val t.isLt).2.2.1 y = rawB (outsAt0 m c t.val t.isLt).2.1 (iblk m c 3 t) (iblk m c 4 t) y := by
  rw [outsAt0_A m c t ⟨h0, h1⟩ h2 h3 h4]
  frame_open
  frame_out
  simp only [readCov_whole]
  canon_tiles x h
  case piece0 => exact raw_v _ (iblk m c 3 t) (iblk m c 4 t) 256 768 rfl (by decide) _ x _ h0 _ h1
  case piece1 => exact raw_w _ (iblk m c 3 t) (iblk m c 4 t) 256 (by decide) _ x _ h0 _ h1
  case piece2 => exact raw_v _ (iblk m c 3 t) (iblk m c 4 t) 0 512 rfl (by decide) _ x _ h0 _ h1
  case piece3 => exact raw_w _ (iblk m c 3 t) (iblk m c 4 t) 0 (by decide) _ x _ h0 _ (h1.trans (Nat.zero_add _).symm)

set_option maxHeartbeats 8000000 in
/-- The projected rows stored at an odd point inside a row tile. -/
theorem r_B (c : Dev nD) (t : Fin cfg0.N) (h0 : t.val < 352) (h1 : ¬t.val % 11 = 0) (h2 : ¬t.val % 353 = 0) (h3 : ¬t.val % 2 = 0) (h4 : t.val % 2 = 1) (y : S1040x1024.Idx) :
    (outsAt0 m c t.val t.isLt).2.2.2 y = rawB (outsAt0 m c t.val t.isLt).2.1 (iblk m c 3 t) (iblk m c 4 t) y := by
  rw [outsAt0_B m c t (fun h => h1 h.2) h2 h3 h4]
  generalize outsAt0 m c (t.val - 1) _ = P
  frame_open
  frame_out
  simp only [Idealize.ShloMosaic.read_unread_whole]
  canon_tiles x h
  case piece0 => exact raw_v _ (iblk m c 3 t) (iblk m c 4 t) 256 768 rfl (by decide) _ x _ h0 _ h1
  case piece1 => exact raw_w _ (iblk m c 3 t) (iblk m c 4 t) 256 (by decide) _ x _ h0 _ h1
  case piece2 => exact raw_v _ (iblk m c 3 t) (iblk m c 4 t) 0 512 rfl (by decide) _ x _ h0 _ h1
  case piece3 => exact raw_w _ (iblk m c 3 t) (iblk m c 4 t) 0 (by decide) _ x _ h0 _ (h1.trans (Nat.zero_add _).symm)

set_option maxHeartbeats 8000000 in
/-- The projected rows stored at an even point inside a row tile. -/
theorem r_C (c : Dev nD) (t : Fin cfg0.N) (h0 : t.val < 352) (h1 : ¬t.val % 11 = 0) (h2 : ¬t.val % 353 = 0) (h3 : t.val % 2 = 0) (h4 : ¬t.val % 2 = 1) (y : S1040x1024.Idx) :
    (outsAt0 m c t.val t.isLt).2.2.1 y = rawB (outsAt0 m c t.val t.isLt).2.1 (iblk m c 3 t) (iblk m c 4 t) y := by
  rw [outsAt0_C m c t (fun h => h1 h.2) h2 h3 h4]
  generalize outsAt0 m c (t.val - 1) _ = P
  frame_open
  frame_out
  simp only [Idealize.ShloMosaic.read_unread_whole]
  canon_tiles x h
  case piece0 => exact raw_v _ (iblk m c 3 t) (iblk m c 4 t) 256 768 rfl (by decide) _ x _ h0 _ h1
  case piece1 => exact raw_w _ (iblk m c 3 t) (iblk m c 4 t) 256 (by decide) _ x _ h0 _ h1
  case piece2 => exact raw_v _ (iblk m c 3 t) (iblk m c 4 t) 0 512 rfl (by decide) _ x _ h0 _ h1
  case piece3 => exact raw_w _ (iblk m c 3 t) (iblk m c 4 t) 0 (by decide) _ x _ h0 _ (h1.trans (Nat.zero_add _).symm)

set_option maxHeartbeats 8000000 in
/-- The projected rows stored at an odd point that starts a row tile. -/
theorem r_D (c : Dev nD) (t : Fin cfg0.N) (h0 : t.val < 352) (h1 : t.val % 11 = 0) (h2 : ¬t.val % 353 = 0) (h3 : ¬t.val % 2 = 0) (h4 : t.val % 2 = 1) (y : S1040x1024.Idx) :
    (outsAt0 m c t.val t.isLt).2.2.2 y = rawB (outsAt0 m c t.val t.isLt).2.1 (iblk m c 3 t) (iblk m c 4 t) y := by
  rw [outsAt0_D m c t ⟨h0, h1⟩ h2 h3 h4]
  generalize outsAt0 m c (t.val - 1) _ = P
  frame_open
  frame_out
  simp only [readCov_whole]
  canon_tiles x h
  case piece0 => exact raw_v _ (iblk m c 3 t) (iblk m c 4 t) 256 768 rfl (by decide) _ x _ h0 _ h1
  case piece1 => exact raw_w _ (iblk m c 3 t) (iblk m c 4 t) 256 (by decide) _ x _ h0 _ h1
  case piece2 => exact raw_v _ (iblk m c 3 t) (iblk m c 4 t) 0 512 rfl (by decide) _ x _ h0 _ h1
  case piece3 => exact raw_w _ (iblk m c 3 t) (iblk m c 4 t) 0 (by decide) _ x _ h0 _ (h1.trans (Nat.zero_add _).symm)

set_option maxHeartbeats 8000000 in
/-- The projected rows stored at an even point that starts a row tile. -/
theorem r_E (c : Dev nD) (t : Fin cfg0.N) (h0 : t.val < 352) (h1 : t.val % 11 = 0) (h2 : ¬t.val % 353 = 0) (h3 : t.val % 2 = 0) (h4 : ¬t.val % 2 = 1) (y : S1040x1024.Idx) :
    (outsAt0 m c t.val t.isLt).2.2.1 y = rawB (outsAt0 m c t.val t.isLt).2.1 (iblk m c 3 t) (iblk m c 4 t) y := by
  rw [outsAt0_E m c t ⟨h0, h1⟩ h2 h3 h4]
  generalize outsAt0 m c (t.val - 1) _ = P
  frame_open
  frame_out
  simp only [readCov_whole]
  canon_tiles x h
  case piece0 => exact raw_v _ (iblk m c 3 t) (iblk m c 4 t) 256 768 rfl (by decide) _ x _ h0 _ h1
  case piece1 => exact raw_w _ (iblk m c 3 t) (iblk m c 4 t) 256 (by decide) _ x _ h0 _ h1
  case piece2 => exact raw_v _ (iblk m c 3 t) (iblk m c 4 t) 0 512 rfl (by decide) _ x _ h0 _ h1
  case piece3 => exact raw_w _ (iblk m c 3 t) (iblk m c 4 t) 0 (by decide) _ x _ h0 _ (h1.trans (Nat.zero_add _).symm)

end Cert.Kernel4Ideal.Value
-- ==== Proof.UpRef.lean ====
/- The reference feed-forward input: what its printed run computes, read at one place of the result. -/
module

public import proofs.«01_k».proof.Proof.Gen.Reference4Ideal.Run
public import proofs.«01_k».proof.Proof.UpMath

@[expose] public section

set_option maxRecDepth 16384

noncomputable section

namespace Cert.Reference4Ideal.Value

open Cert.Reference4Ideal Cert.Reference4Ideal.Gen Idealize.ShloMosaic Idealize.ShloMosaic.TcCoe Idealize.SL.Sem

/-- The normalised input. -/
def HH (X : FVec Ideal S8x4096x2048 .f32) (g : FVec Ideal S2048 .f32) : FVec Ideal S8x4096x2048 .f32 :=
  mulf (mulf X (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf X X) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))

/-- The projected rows. -/
def UU (H : FVec Ideal S8x4096x2048 .f32) (W : FVec Ideal S2048x11264 .f32) : FVec Ideal S8x4096x11264 .f32 :=
  Host.dotGeneral dot_S8x4096x2048_S2048x11264_S8x4096x11264_2_0_01_1_n_n none H W

/-- The projected rows after two rows of zeros. -/
def PD (U : FVec Ideal S8x4096x11264 .f32) : FVec Ideal S8x4098x11264 .f32 :=
  pad S8x4098x11264 ![0, 2, 0] ![0, 0, 0] ![0, 0, 0] U (sitofp .f32 (constantI S_ 32 0#32)) pads_S8x4096x11264_S8x4098x11264_000_200_000 h_S_

/-- The filtered rows. -/
def CV (C : FVec Ideal S3x11264 .f32) (P : FVec Ideal S8x4098x11264 .f32) : FVec Ideal S8x4096x11264 .f32 :=
  addf (addf (mulf (broadcastInDim S8x4096x11264 ![0, 1, 2] bcast_S1x1x11264_S8x4096x11264_0_1_2 (broadcastInDim S1x1x11264 ![2] bcast_S11264_S1x1x11264_2 (shapeCast _ (extractStridedSlice S1x11264 ![0, 0] C slices_S3x11264_S1x11264_0_0) shapeCasts_S1x11264_S11264))) (extractStridedSlice S8x4096x11264 ![0, 0, 0] P slices_S8x4098x11264_S8x4096x11264_0_0_0))
    (mulf (broadcastInDim S8x4096x11264 ![0, 1, 2] bcast_S1x1x11264_S8x4096x11264_0_1_2 (broadcastInDim S1x1x11264 ![2] bcast_S11264_S1x1x11264_2 (shapeCast _ (extractStridedSlice S1x11264 ![1, 0] C slices_S3x11264_S1x11264_1_0) shapeCasts_S1x11264_S11264))) (extractStridedSlice S8x4096x11264 ![0, 1, 0] P slices_S8x4098x11264_S8x4096x11264_0_1_0)))
    (mulf (broadcastInDim S8x4096x11264 ![0, 1, 2] bcast_S1x1x11264_S8x4096x11264_0_1_2 (broadcastInDim S1x1x11264 ![2] bcast_S11264_S1x1x11264_2 (shapeCast _ (extractStridedSlice S1x11264 ![2, 0] C slices_S3x11264_S1x11264_2_0) shapeCasts_S1x11264_S11264))) (extractStridedSlice S8x4096x11264 ![0, 2, 0] P slices_S8x4098x11264_S8x4096x11264_0_2_0))

/-- The gated product of the two halves. -/
def OT (V : FVec Ideal S8x4096x11264 .f32) : FVec Ideal S32768x5632 .bf16 :=
  truncf .bf16 (shapeCast _ (mulf (mulf (extractStridedSlice S8x4096x5632 ![0, 0, 0] V slices_S8x4096x11264_S8x4096x5632_0_0_0) (Host.divf (broadcastInDim S8x4096x5632 ![] bcast_S_S8x4096x5632 (constant S_ .f32 0x3F800000#32)) (addf (broadcastInDim S8x4096x5632 ![] bcast_S_S8x4096x5632 (constant S_ .f32 0x3F800000#32)) (Host.exp (Host.negf (extractStridedSlice S8x4096x5632 ![0, 0, 0] V slices_S8x4096x11264_S8x4096x5632_0_0_0)))))) (extractStridedSlice S8x4096x5632 ![0, 0, 5632] V slices_S8x4096x11264_S8x4096x5632_0_0_5632)) shapeCasts_S8x4096x5632_S32768x5632) bitsLt_bf16_f32

variable (m : (ℓ : Loc nD τ sig) → Buf (Elt Ideal) ℓ)

/-- The result is the gated product of the filtered projections of the arguments. -/
theorem res0 (c : Dev nD) : res_main_v40 m c = (OT (CV (m ((c.tc : Thread nD τ).loc main_arg3)) (PD (UU (HH (m ((c.tc : Thread nD τ).loc main_arg0)) (m ((c.tc : Thread nD τ).loc main_arg1))) (m ((c.tc : Thread nD τ).loc main_arg2))))) : FVec Ideal S32768x5632 .bf16) := rfl

/-- A normalised entry. -/
theorem HH_at (X : FVec Ideal S8x4096x2048 .f32) (g : FVec Ideal S2048 .f32) (b : Fin 8) (q : Fin 4096) (k : Fin 2048) :
    HH X g (ix3 b q k) = Cert.Up.nrm (fun j => X (ix3 b q j)) (fun j => g (ix1 j)) k := by
  pointwise [HH, Cert.Up.nrm]

/-- A projected entry. -/
theorem UU_at (H : FVec Ideal S8x4096x2048 .f32) (W : FVec Ideal S2048x11264 .f32) (b : Fin 8) (q : Fin 4096) (n : Fin 11264) :
    UU H W (ix3 b q n) = ∑ k : Fin 2048, H (ix3 b q k) * W (ix2 k n) := by
  pointwise [UU]

/-- The first two rows are zero. -/
theorem PD_lo (U : FVec Ideal S8x4096x11264 .f32) (b : Fin 8) (q : Fin 4098) (n : Fin 11264) (h : q.val < 2) : PD U (ix3 b q n) = 0 := by
  pointwise [PD]
  rw [dif_neg (by omega)]
  show (((0#32 : BitVec 32).toInt : ℝ) : EReal) = 0
  simp

/-- The later rows are the projected rows. -/
theorem PD_hi (U : FVec Ideal S8x4096x11264 .f32) (b : Fin 8) (q : Fin 4098) (p : Fin 4096) (n : Fin 11264) (h : q.val = p.val + 2) : PD U (ix3 b q n) = U (ix3 b p n) := by
  pointwise [PD]
  rw [dif_pos (by omega)]
  have e : (⟨q.val - 2, by omega⟩ : Fin 4096) = p := Fin.ext (by show q.val - 2 = p.val; omega)
  simp only [e]

/-- A filtered entry. -/
theorem CV_at (C : FVec Ideal S3x11264 .f32) (P : FVec Ideal S8x4098x11264 .f32) (b : Fin 8) (q : Fin 4096) (n : Fin 11264) (q0 q1 q2 : Fin 4098)
    (h0 : q0.val = q.val) (h1 : q1.val = q.val + 1) (h2 : q2.val = q.val + 2) :
    CV C P (ix3 b q n) = Cert.Up.mix (C (ix2 0 n)) (C (ix2 1 n)) (C (ix2 2 n)) (P (ix3 b q0 n)) (P (ix3 b q1 n)) (P (ix3 b q2 n)) := by
  pointwise [CV, Cert.Up.mix]
  have e0 : (⟨q.val, by omega⟩ : Fin 4098) = q0 := Fin.ext h0.symm
  have e1 : (⟨1 + q.val, by omega⟩ : Fin 4098) = q1 := Fin.ext (by show 1 + q.val = q1.val; omega)
  have e2 : (⟨2 + q.val, by omega⟩ : Fin 4098) = q2 := Fin.ext (by show 2 + q.val = q2.val; omega)
  simp only [e0, e1, e2]

/-- An entry of the gated product. -/
theorem OT_at (V : FVec Ideal S8x4096x11264 .f32) (R : Fin 32768) (n : Fin 5632) (b : Fin 8) (q : Fin 4096) (n0 n1 : Fin 11264)
    (hR : R.val = 4096 * b.val + q.val) (h0 : n0.val = n.val) (h1 : n1.val = 5632 + n.val) :
    OT V (ix2 R n) = Cert.Up.glu (V (ix3 b q n0)) (V (ix3 b q n1)) := by
  pointwise [OT, Cert.Up.glu]
  have eb : (⟨R.val / 4096, by omega⟩ : Fin 8) = b := Fin.ext (by show R.val / 4096 = b.val; omega)
  have eq : (⟨R.val % 4096, by omega⟩ : Fin 4096) = q := Fin.ext (by show R.val % 4096 = q.val; omega)
  have e0 : (⟨n.val, by omega⟩ : Fin 11264) = n0 := Fin.ext h0.symm
  have e1 : (⟨5632 + n.val, by omega⟩ : Fin 11264) = n1 := Fin.ext h1.symm
  simp only [eb, eq, e0, e1]

end Cert.Reference4Ideal.Value
-- ==== Proof.UpIn.lean ====
/- The blocks the kernel reads at a grid point, as places of the arrays it is called with. -/
module

public import proofs.«01_k».proof.Proof.UpFrame
public import proofs.«01_k».proof.Proof.UpS
public import proofs.«01_k».proof.Proof.UpRef
public import Idealize.ShloMosaic.Lib.Pipeline.ValueKit
public import Idealize.ShloMosaic.Lib.Pointwise
public import Idealize.ShloMosaic.Lib.StableHlo.RunRead

@[expose] public section

set_option maxRecDepth 16384

noncomputable section

namespace Cert.Kernel4Ideal.Value

open Cert.Kernel4Ideal Cert.Kernel4Ideal.Gen Cert.Kernel4Ideal.Run Idealize.ShloMosaic Idealize.ShloMosaic.TcCoe Idealize.SL.Sem

/-- The block each window stages at a grid point. -/
theorem idx : ∀ t : Fin cfg0.N, win0_0.index t = ![min t.val 351 / 11, 0] ∧ win0_1.index t = ![64 * (min t.val 351 / 11) - 1, 0] ∧ win0_2.index t = ![0, 0]
    ∧ win0_3.index t = ![0, min t.val 351 % 11] ∧ win0_4.index t = ![0, 11 + min t.val 351 % 11] ∧ win0_5.index t = ![0, (t.val - 1) % 11]
    ∧ win0_6.index t = ![0, 11 + (t.val - 1) % 11] ∧ win0_7.index t = ![(t.val - 1) / 11, (t.val - 1) % 11] :=
  (by decide +kernel : ∀ t : Fin grid0.N, _)

/-- The first grid point leaves the result block it holds unwritten. -/
theorem flush_pos : ∀ t : Fin cfg0.N, win0_7.flush t = true → t.val ≠ 0 :=
  (by decide +kernel : ∀ t : Fin grid0.N, win0_7.flush t = true → t.val ≠ 0)

/-- Whether a row tile starts a sequence. -/
theorem starts : ∀ t : Fin cfg0.N, Scalar.cmpi .eq (Scalar.remsi (Scalar.muli (Scalar.divsi (Scalar.minsi (BitVec.ofNat 32 (grid0.coords t 0).val) 351#32) 11#32) 1024#32) 4096#32) 0#32 = if min t.val 351 / 11 % 4 = 0 then 1#1 else 0#1 :=
  (by decide +kernel : ∀ t : Fin grid0.N, _)

/-- The factor of the halo rows: zero where the row tile starts a sequence. -/
theorem keep_at (t : Fin cfg0.N) : keep (grid0.coords t) = if min t.val 351 / 11 % 4 = 0 then 0 else 1 := by
  unfold keep k0_pay6
  simp only []
  rw [starts t]
  split <;> pointwise

variable (m : (ℓ : Loc nD τ sig) → Buf (Elt Ideal) ℓ)

/-- The tokens. -/
abbrev aX (c : Dev nD) : FVec Ideal S8x4096x2048 .f32 := m ((c : Thread nD τ).loc main_arg0)
/-- The gains. -/
abbrev aG (c : Dev nD) : FVec Ideal S2048 .f32 := m ((c : Thread nD τ).loc main_arg1)
/-- The weights. -/
abbrev aW (c : Dev nD) : FVec Ideal S2048x11264 .f32 := m ((c : Thread nD τ).loc main_arg2)
/-- The filter's coefficients. -/
abbrev aC (c : Dev nD) : FVec Ideal S3x11264 .f32 := m ((c : Thread nD τ).loc main_arg3)

/-- The staged tokens, as the region finds them. -/
theorem V0_at (c : Dev nD) (R : Fin 32768) (k : Fin 2048) :
    @Eq EReal ((show FVec Ideal S32768x2048 .f32 from V m c main_v0) (ix2 R k)) (aX m c (ix3 ⟨R.val / 4096, by omega⟩ ⟨R.val % 4096, Nat.mod_lt _ (by norm_num)⟩ k)) := by
  have h : @Eq (FVec Ideal S32768x2048 .f32) (V m c main_v0) (shapeCast S32768x2048 (aX m c) shapeCasts_S8x4096x2048_S32768x2048) := by
    entry_read; rfl
  rw [h]
  pointwise

/-- The staged gains, as the region finds them. -/
theorem V3_at (c : Dev nD) (k : Fin 2048) :
    @Eq EReal ((show FVec Ideal S1x2048 .f32 from V m c main_v3) (ix2 0 k)) (aG m c (ix1 k)) := by
  have h : @Eq (FVec Ideal S1x2048 .f32) (V m c main_v3) (shapeCast S1x2048 (aG m c) shapeCasts_S2048_S1x2048) := by
    entry_read; rfl
  rw [h]
  pointwise

/-- The staged weights, as the region finds them. -/
theorem V1_at (c : Dev nD) (k : Fin 2048) (j : Fin 11264) :
    @Eq EReal ((show FVec Ideal S2048x11264 .bf16 from V m c main_v1) (ix2 k j)) (aW m c (ix2 k j)) := by
  have h : @Eq (FVec Ideal S2048x11264 .bf16) (V m c main_v1) (truncf .bf16 (aW m c) bitsLt_bf16_f32) := by
    entry_read; rfl
  rw [h]
  pointwise

/-- The staged coefficients, as the region finds them: the first three rows are the filter's. -/
theorem V2_at (c : Dev nD) (p : Fin 8) (q : Fin 3) (hp : p.val = q.val) (j : Fin 11264) :
    @Eq EReal ((show FVec Ideal S8x11264 .f32 from V m c main_v2) (ix2 p j)) (aC m c (ix2 q j)) := by
  have h : @Eq (FVec Ideal S8x11264 .f32) (V m c main_v2) (pad S8x11264 ![0, 0] ![5, 0] ![0, 0] (aC m c) (sitofp .f32 (constantI S_ 32 0#32)) pads_S3x11264_S8x11264_050_000 h_S_) := by
    entry_read; rfl
  rw [h]
  pointwise
  rw [dif_pos (by omega)]
  have e : (⟨p.val, by omega⟩ : Fin 3) = q := Fin.ext hp
  simp only [e]

/-- The token block. -/
theorem in0 (c : Dev nD) (t : Fin cfg0.N) (r : Fin 1024) (k : Fin 2048) (R : Fin 32768) (hR : R.val = 1024 * (min t.val 351 / 11) + r.val) :
    @Eq EReal ((show FVec Ideal S1024x2048 .f32 from iblk m c 0 t) (ix2 r k)) ((show FVec Ideal S32768x2048 .f32 from V m c main_v0) (ix2 R k)) := by
  blk_ext [iblk, idx t]

/-- The halo block. -/
theorem in1 (c : Dev nD) (t : Fin cfg0.N) (r : Fin 16) (k : Fin 2048) (R : Fin 32768) (hR : R.val = 16 * (64 * (min t.val 351 / 11) - 1) + r.val) :
    @Eq EReal ((show FVec Ideal S16x2048 .f32 from iblk m c 1 t) (ix2 r k)) ((show FVec Ideal S32768x2048 .f32 from V m c main_v0) (ix2 R k)) := by
  blk_ext [iblk, idx t]

/-- The gains. -/
theorem in2 (c : Dev nD) (t : Fin cfg0.N) (k : Fin 2048) :
    @Eq EReal ((show FVec Ideal S1x2048 .f32 from iblk m c 2 t) (ix2 0 k)) ((show FVec Ideal S1x2048 .f32 from V m c main_v3) (ix2 0 k)) := by
  blk_ext [iblk, idx t]

/-- The weight block of the gate half. -/
theorem in3 (c : Dev nD) (t : Fin cfg0.N) (k : Fin 2048) (n : Fin 512) (N : Fin 11264) (hN : N.val = 512 * (min t.val 351 % 11) + n.val) :
    @Eq EReal ((show FVec Ideal S2048x512 .bf16 from iblk m c 3 t) (ix2 k n)) ((show FVec Ideal S2048x11264 .bf16 from V m c main_v1) (ix2 k N)) := by
  blk_ext [iblk, idx t]

/-- The weight block of the value half. -/
theorem in4 (c : Dev nD) (t : Fin cfg0.N) (k : Fin 2048) (n : Fin 512) (N : Fin 11264) (hN : N.val = 512 * (11 + min t.val 351 % 11) + n.val) :
    @Eq EReal ((show FVec Ideal S2048x512 .bf16 from iblk m c 4 t) (ix2 k n)) ((show FVec Ideal S2048x11264 .bf16 from V m c main_v1) (ix2 k N)) := by
  blk_ext [iblk, idx t]

/-- The coefficient block of the gate half. -/
theorem in5 (c : Dev nD) (t : Fin cfg0.N) (p : Fin 8) (n : Fin 512) (N : Fin 11264) (hN : N.val = 512 * ((t.val - 1) % 11) + n.val) :
    @Eq EReal ((show FVec Ideal S8x512 .f32 from iblk m c 5 t) (ix2 p n)) ((show FVec Ideal S8x11264 .f32 from V m c main_v2) (ix2 p N)) := by
  blk_ext [iblk, idx t]

/-- The coefficient block of the value half. -/
theorem in6 (c : Dev nD) (t : Fin cfg0.N) (p : Fin 8) (n : Fin 512) (N : Fin 11264) (hN : N.val = 512 * (11 + (t.val - 1) % 11) + n.val) :
    @Eq EReal ((show FVec Ideal S8x512 .f32 from iblk m c 6 t) (ix2 p n)) ((show FVec Ideal S8x11264 .f32 from V m c main_v2) (ix2 p N)) := by
  blk_ext [iblk, idx t]

end Cert.Kernel4Ideal.Value
-- ==== Proof.UpB.lean ====
/- What the kernel stores at an odd point inside a row tile: the filtered, gated product of the rows projected at the point before. -/
module

public import proofs.«01_k».proof.Proof.UpFrame
public import proofs.«01_k».proof.Proof.UpTile
public import Idealize.ShloMosaic.Lib.Pipeline.ReadBack

@[expose] public section

set_option maxRecDepth 16384

noncomputable section

namespace Cert.Kernel4Ideal.Value

open Cert.Kernel4Ideal Cert.Kernel4Ideal.Gen Cert.Kernel4Ideal.Run Idealize.ShloMosaic Idealize.ShloMosaic.TcCoe Idealize.SL.Sem

variable (m : (ℓ : Loc nD τ sig) → Buf (Elt Ideal) ℓ)

set_option maxHeartbeats 8000000 in
/-- The block stored at an odd point inside a row tile. -/
theorem out_B (c : Dev nD) (t : Fin cfg0.N) (h0 : t.val < 352) (h1 : ¬t.val % 11 = 0) (h2 : ¬t.val % 353 = 0) (h3 : ¬t.val % 2 = 0) (h4 : t.val % 2 = 1) (y : S1024x512.Idx) :
    (outsAt0 m c t.val t.isLt).1 y = outB (outsAt0 m c (t.val - 1) (Nat.lt_of_le_of_lt (Nat.sub_le _ _) t.isLt)).2.2.1 (iblk m c 5 t) (iblk m c 6 t) y := by
  rw [outsAt0_B m c t (fun h => h1 h.2) h2 h3 h4]
  generalize outsAt0 m c (t.val - 1) _ = P
  frame_open
  frame_out
  simp only [Idealize.ShloMosaic.read_unread_whole]
  canon_tiles x h
  case piece0 => exact tile_ld P.2.2.1 (iblk m c 5 t) (iblk m c 6 t) 960 384 896 rfl _ _ _ _ x _ h0 _ h1
  case piece1 => exact tile_ld P.2.2.1 (iblk m c 5 t) (iblk m c 6 t) 960 256 768 rfl _ _ _ _ x _ h0 _ h1
  case piece2 => exact tile_ld P.2.2.1 (iblk m c 5 t) (iblk m c 6 t) 896 384 896 rfl _ _ _ _ x _ h0 _ h1
  case piece3 => exact tile_ld P.2.2.1 (iblk m c 5 t) (iblk m c 6 t) 896 256 768 rfl _ _ _ _ x _ h0 _ h1
  case piece4 => exact tile_ld P.2.2.1 (iblk m c 5 t) (iblk m c 6 t) 832 384 896 rfl _ _ _ _ x _ h0 _ h1
  case piece5 => exact tile_ld P.2.2.1 (iblk m c 5 t) (iblk m c 6 t) 832 256 768 rfl _ _ _ _ x _ h0 _ h1
  case piece6 => exact tile_ld P.2.2.1 (iblk m c 5 t) (iblk m c 6 t) 768 384 896 rfl _ _ _ _ x _ h0 _ h1
  case piece7 => exact tile_ld P.2.2.1 (iblk m c 5 t) (iblk m c 6 t) 768 256 768 rfl _ _ _ _ x _ h0 _ h1
  case piece8 => exact tile_ld P.2.2.1 (iblk m c 5 t) (iblk m c 6 t) 704 384 896 rfl _ _ _ _ x _ h0 _ h1
  case piece9 => exact tile_ld P.2.2.1 (iblk m c 5 t) (iblk m c 6 t) 704 256 768 rfl _ _ _ _ x _ h0 _ h1
  case piece10 => exact tile_ld P.2.2.1 (iblk m c 5 t) (iblk m c 6 t) 640 384 896 rfl _ _ _ _ x _ h0 _ h1
  case piece11 => exact tile_ld P.2.2.1 (iblk m c 5 t) (iblk m c 6 t) 640 256 768 rfl _ _ _ _ x _ h0 _ h1
  case piece12 => exact tile_ld P.2.2.1 (iblk m c 5 t) (iblk m c 6 t) 576 384 896 rfl _ _ _ _ x _ h0 _ h1
  case piece13 => exact tile_ld P.2.2.1 (iblk m c 5 t) (iblk m c 6 t) 576 256 768 rfl _ _ _ _ x _ h0 _ h1
  case piece14 => exact tile_ld P.2.2.1 (iblk m c 5 t) (iblk m c 6 t) 512 384 896 rfl _ _ _ _ x _ h0 _ h1
  case piece15 => exact tile_ld P.2.2.1 (iblk m c 5 t) (iblk m c 6 t) 512 256 768 rfl _ _ _ _ x _ h0 _ h1
  case piece16 => exact tile_ld P.2.2.1 (iblk m c 5 t) (iblk m c 6 t) 448 384 896 rfl _ _ _ _ x _ h0 _ h1
  case piece17 => exact tile_ld P.2.2.1 (iblk m c 5 t) (iblk m c 6 t) 448 256 768 rfl _ _ _ _ x _ h0 _ h1
  case piece18 => exact tile_ld P.2.2.1 (iblk m c 5 t) (iblk m c 6 t) 384 384 896 rfl _ _ _ _ x _ h0 _ h1
  case piece19 => exact tile_ld P.2.2.1 (iblk m c 5 t) (iblk m c 6 t) 384 256 768 rfl _ _ _ _ x _ h0 _ h1
  case piece20 => exact tile_ld P.2.2.1 (iblk m c 5 t) (iblk m c 6 t) 320 384 896 rfl _ _ _ _ x _ h0 _ h1
  case piece21 => exact tile_ld P.2.2.1 (iblk m c 5 t) (iblk m c 6 t) 320 256 768 rfl _ _ _ _ x _ h0 _ h1
  case piece22 => exact tile_ld P.2.2.1 (iblk m c 5 t) (iblk m c 6 t) 256 384 896 rfl _ _ _ _ x _ h0 _ h1
  case piece23 => exact tile_ld P.2.2.1 (iblk m c 5 t) (iblk m c 6 t) 256 256 768 rfl _ _ _ _ x _ h0 _ h1
  case piece24 => exact tile_ld P.2.2.1 (iblk m c 5 t) (iblk m c 6 t) 192 384 896 rfl _ _ _ _ x _ h0 _ h1
  case piece25 => exact tile_ld P.2.2.1 (iblk m c 5 t) (iblk m c 6 t) 192 256 768 rfl _ _ _ _ x _ h0 _ h1
  case piece26 => exact tile_ld P.2.2.1 (iblk m c 5 t) (iblk m c 6 t) 128 384 896 rfl _ _ _ _ x _ h0 _ h1
  case piece27 => exact tile_ld P.2.2.1 (iblk m c 5 t) (iblk m c 6 t) 128 256 768 rfl _ _ _ _ x _ h0 _ h1
  case piece28 => exact tile_ld P.2.2.1 (iblk m c 5 t) (iblk m c 6 t) 64 384 896 rfl _ _ _ _ x _ h0 _ h1
  case piece29 => exact tile_ld P.2.2.1 (iblk m c 5 t) (iblk m c 6 t) 64 256 768 rfl _ _ _ _ x _ h0 _ h1
  case piece30 => exact tile_ld P.2.2.1 (iblk m c 5 t) (iblk m c 6 t) 0 384 896 rfl _ _ _ _ x _ (h0.trans (Nat.zero_add _).symm) _ h1
  case piece31 => exact tile_ld P.2.2.1 (iblk m c 5 t) (iblk m c 6 t) 0 256 768 rfl _ _ _ _ x _ (h0.trans (Nat.zero_add _).symm) _ h1
  case piece32 => exact tile_ld P.2.2.1 (iblk m c 5 t) (iblk m c 6 t) 960 128 640 rfl _ _ _ _ x _ h0 _ h1
  case piece33 => exact tile_ld P.2.2.1 (iblk m c 5 t) (iblk m c 6 t) 960 0 512 rfl _ _ _ _ x _ h0 _ (h1.trans (Nat.zero_add _).symm)
  case piece34 => exact tile_ld P.2.2.1 (iblk m c 5 t) (iblk m c 6 t) 896 128 640 rfl _ _ _ _ x _ h0 _ h1
  case piece35 => exact tile_ld P.2.2.1 (iblk m c 5 t) (iblk m c 6 t) 896 0 512 rfl _ _ _ _ x _ h0 _ (h1.trans (Nat.zero_add _).symm)
  case piece36 => exact tile_ld P.2.2.1 (iblk m c 5 t) (iblk m c 6 t) 832 128 640 rfl _ _ _ _ x _ h0 _ h1
  case piece37 => exact tile_ld P.2.2.1 (iblk m c 5 t) (iblk m c 6 t) 832 0 512 rfl _ _ _ _ x _ h0 _ (h1.trans (Nat.zero_add _).symm)
  case piece38 => exact tile_ld P.2.2.1 (iblk m c 5 t) (iblk m c 6 t) 768 128 640 rfl _ _ _ _ x _ h0 _ h1
  case piece39 => exact tile_ld P.2.2.1 (iblk m c 5 t) (iblk m c 6 t) 768 0 512 rfl _ _ _ _ x _ h0 _ (h1.trans (Nat.zero_add _).symm)
  case piece40 => exact tile_ld P.2.2.1 (iblk m c 5 t) (iblk m c 6 t) 704 128 640 rfl _ _ _ _ x _ h0 _ h1
  case piece41 => exact tile_ld P.2.2.1 (iblk m c 5 t) (iblk m c 6 t) 704 0 512 rfl _ _ _ _ x _ h0 _ (h1.trans (Nat.zero_add _).symm)
  case piece42 => exact tile_ld P.2.2.1 (iblk m c 5 t) (iblk m c 6 t) 640 128 640 rfl _ _ _ _ x _ h0 _ h1
  case piece43 => exact tile_ld P.2.2.1 (iblk m c 5 t) (iblk m c 6 t) 640 0 512 rfl _ _ _ _ x _ h0 _ (h1.trans (Nat.zero_add _).symm)
  case piece44 => exact tile_ld P.2.2.1 (iblk m c 5 t) (iblk m c 6 t) 576 128 640 rfl _ _ _ _ x _ h0 _ h1
  case piece45 => exact tile_ld P.2.2.1 (iblk m c 5 t) (iblk m c 6 t) 576 0 512 rfl _ _ _ _ x _ h0 _ (h1.trans (Nat.zero_add _).symm)
  case piece46 => exact tile_ld P.2.2.1 (iblk m c 5 t) (iblk m c 6 t) 512 128 640 rfl _ _ _ _ x _ h0 _ h1
  case piece47 => exact tile_ld P.2.2.1 (iblk m c 5 t) (iblk m c 6 t) 512 0 512 rfl _ _ _ _ x _ h0 _ (h1.trans (Nat.zero_add _).symm)
  case piece48 => exact tile_ld P.2.2.1 (iblk m c 5 t) (iblk m c 6 t) 448 128 640 rfl _ _ _ _ x _ h0 _ h1
  case piece49 => exact tile_ld P.2.2.1 (iblk m c 5 t) (iblk m c 6 t) 448 0 512 rfl _ _ _ _ x _ h0 _ (h1.trans (Nat.zero_add _).symm)
  case piece50 => exact tile_ld P.2.2.1 (iblk m c 5 t) (iblk m c 6 t) 384 128 640 rfl _ _ _ _ x _ h0 _ h1
  case piece51 => exact tile_ld P.2.2.1 (iblk m c 5 t) (iblk m c 6 t) 384 0 512 rfl _ _ _ _ x _ h0 _ (h1.trans (Nat.zero_add _).symm)
  case piece52 => exact tile_ld P.2.2.1 (iblk m c 5 t) (iblk m c 6 t) 320 128 640 rfl _ _ _ _ x _ h0 _ h1
  case piece53 => exact tile_ld P.2.2.1 (iblk m c 5 t) (iblk m c 6 t) 320 0 512 rfl _ _ _ _ x _ h0 _ (h1.trans (Nat.zero_add _).symm)
  case piece54 => exact tile_ld P.2.2.1 (iblk m c 5 t) (iblk m c 6 t) 256 128 640 rfl _ _ _ _ x _ h0 _ h1
  case piece55 => exact tile_ld P.2.2.1 (iblk m c 5 t) (iblk m c 6 t) 256 0 512 rfl _ _ _ _ x _ h0 _ (h1.trans (Nat.zero_add _).symm)
  case piece56 => exact tile_ld P.2.2.1 (iblk m c 5 t) (iblk m c 6 t) 192 128 640 rfl _ _ _ _ x _ h0 _ h1
  case piece57 => exact tile_ld P.2.2.1 (iblk m c 5 t) (iblk m c 6 t) 192 0 512 rfl _ _ _ _ x _ h0 _ (h1.trans (Nat.zero_add _).symm)
  case piece58 => exact tile_ld P.2.2.1 (iblk m c 5 t) (iblk m c 6 t) 128 128 640 rfl _ _ _ _ x _ h0 _ h1
  case piece59 => exact tile_ld P.2.2.1 (iblk m c 5 t) (iblk m c 6 t) 128 0 512 rfl _ _ _ _ x _ h0 _ (h1.trans (Nat.zero_add _).symm)
  case piece60 => exact tile_ld P.2.2.1 (iblk m c 5 t) (iblk m c 6 t) 64 128 640 rfl _ _ _ _ x _ h0 _ h1
  case piece61 => exact tile_ld P.2.2.1 (iblk m c 5 t) (iblk m c 6 t) 64 0 512 rfl _ _ _ _ x _ h0 _ (h1.trans (Nat.zero_add _).symm)
  case piece62 => exact tile_ld P.2.2.1 (iblk m c 5 t) (iblk m c 6 t) 0 128 640 rfl _ _ _ _ x _ (h0.trans (Nat.zero_add _).symm) _ h1
  case piece63 => exact tile_ld P.2.2.1 (iblk m c 5 t) (iblk m c 6 t) 0 0 512 rfl _ _ _ _ x _ (h0.trans (Nat.zero_add _).symm) _ (h1.trans (Nat.zero_add _).symm)

end Cert.Kernel4Ideal.Value
-- ==== Proof.UpC.lean ====
/- What the kernel stores at an even point inside a row tile: the filtered, gated product of the rows projected at the point before. -/
module

public import proofs.«01_k».proof.Proof.UpFrame
public import proofs.«01_k».proof.Proof.UpTile
public import Idealize.ShloMosaic.Lib.Pipeline.ReadBack

@[expose] public section

set_option maxRecDepth 16384

noncomputable section

namespace Cert.Kernel4Ideal.Value

open Cert.Kernel4Ideal Cert.Kernel4Ideal.Gen Cert.Kernel4Ideal.Run Idealize.ShloMosaic Idealize.ShloMosaic.TcCoe Idealize.SL.Sem

variable (m : (ℓ : Loc nD τ sig) → Buf (Elt Ideal) ℓ)

set_option maxHeartbeats 8000000 in
/-- The block stored at an even point inside a row tile. -/
theorem out_C (c : Dev nD) (t : Fin cfg0.N) (hf : ¬(t.val < 352 ∧ t.val % 11 = 0)) (h2 : ¬t.val % 353 = 0) (h3 : t.val % 2 = 0) (h4 : ¬t.val % 2 = 1) (y : S1024x512.Idx) :
    (outsAt0 m c t.val t.isLt).1 y = outB (outsAt0 m c (t.val - 1) (Nat.lt_of_le_of_lt (Nat.sub_le _ _) t.isLt)).2.2.2 (iblk m c 5 t) (iblk m c 6 t) y := by
  rw [outsAt0_C m c t hf h2 h3 h4]
  generalize outsAt0 m c (t.val - 1) _ = P
  frame_open
  frame_out
  simp only [Idealize.ShloMosaic.read_unread_whole]
  canon_tiles x h
  case piece0 => exact tile_ld P.2.2.2 (iblk m c 5 t) (iblk m c 6 t) 960 384 896 rfl _ _ _ _ x _ h0 _ h1
  case piece1 => exact tile_ld P.2.2.2 (iblk m c 5 t) (iblk m c 6 t) 960 256 768 rfl _ _ _ _ x _ h0 _ h1
  case piece2 => exact tile_ld P.2.2.2 (iblk m c 5 t) (iblk m c 6 t) 896 384 896 rfl _ _ _ _ x _ h0 _ h1
  case piece3 => exact tile_ld P.2.2.2 (iblk m c 5 t) (iblk m c 6 t) 896 256 768 rfl _ _ _ _ x _ h0 _ h1
  case piece4 => exact tile_ld P.2.2.2 (iblk m c 5 t) (iblk m c 6 t) 832 384 896 rfl _ _ _ _ x _ h0 _ h1
  case piece5 => exact tile_ld P.2.2.2 (iblk m c 5 t) (iblk m c 6 t) 832 256 768 rfl _ _ _ _ x _ h0 _ h1
  case piece6 => exact tile_ld P.2.2.2 (iblk m c 5 t) (iblk m c 6 t) 768 384 896 rfl _ _ _ _ x _ h0 _ h1
  case piece7 => exact tile_ld P.2.2.2 (iblk m c 5 t) (iblk m c 6 t) 768 256 768 rfl _ _ _ _ x _ h0 _ h1
  case piece8 => exact tile_ld P.2.2.2 (iblk m c 5 t) (iblk m c 6 t) 704 384 896 rfl _ _ _ _ x _ h0 _ h1
  case piece9 => exact tile_ld P.2.2.2 (iblk m c 5 t) (iblk m c 6 t) 704 256 768 rfl _ _ _ _ x _ h0 _ h1
  case piece10 => exact tile_ld P.2.2.2 (iblk m c 5 t) (iblk m c 6 t) 640 384 896 rfl _ _ _ _ x _ h0 _ h1
  case piece11 => exact tile_ld P.2.2.2 (iblk m c 5 t) (iblk m c 6 t) 640 256 768 rfl _ _ _ _ x _ h0 _ h1
  case piece12 => exact tile_ld P.2.2.2 (iblk m c 5 t) (iblk m c 6 t) 576 384 896 rfl _ _ _ _ x _ h0 _ h1
  case piece13 => exact tile_ld P.2.2.2 (iblk m c 5 t) (iblk m c 6 t) 576 256 768 rfl _ _ _ _ x _ h0 _ h1
  case piece14 => exact tile_ld P.2.2.2 (iblk m c 5 t) (iblk m c 6 t) 512 384 896 rfl _ _ _ _ x _ h0 _ h1
  case piece15 => exact tile_ld P.2.2.2 (iblk m c 5 t) (iblk m c 6 t) 512 256 768 rfl _ _ _ _ x _ h0 _ h1
  case piece16 => exact tile_ld P.2.2.2 (iblk m c 5 t) (iblk m c 6 t) 448 384 896 rfl _ _ _ _ x _ h0 _ h1
  case piece17 => exact tile_ld P.2.2.2 (iblk m c 5 t) (iblk m c 6 t) 448 256 768 rfl _ _ _ _ x _ h0 _ h1
  case piece18 => exact tile_ld P.2.2.2 (iblk m c 5 t) (iblk m c 6 t) 384 384 896 rfl _ _ _ _ x _ h0 _ h1
  case piece19 => exact tile_ld P.2.2.2 (iblk m c 5 t) (iblk m c 6 t) 384 256 768 rfl _ _ _ _ x _ h0 _ h1
  case piece20 => exact tile_ld P.2.2.2 (iblk m c 5 t) (iblk m c 6 t) 320 384 896 rfl _ _ _ _ x _ h0 _ h1
  case piece21 => exact tile_ld P.2.2.2 (iblk m c 5 t) (iblk m c 6 t) 320 256 768 rfl _ _ _ _ x _ h0 _ h1
  case piece22 => exact tile_ld P.2.2.2 (iblk m c 5 t) (iblk m c 6 t) 256 384 896 rfl _ _ _ _ x _ h0 _ h1
  case piece23 => exact tile_ld P.2.2.2 (iblk m c 5 t) (iblk m c 6 t) 256 256 768 rfl _ _ _ _ x _ h0 _ h1
  case piece24 => exact tile_ld P.2.2.2 (iblk m c 5 t) (iblk m c 6 t) 192 384 896 rfl _ _ _ _ x _ h0 _ h1
  case piece25 => exact tile_ld P.2.2.2 (iblk m c 5 t) (iblk m c 6 t) 192 256 768 rfl _ _ _ _ x _ h0 _ h1
  case piece26 => exact tile_ld P.2.2.2 (iblk m c 5 t) (iblk m c 6 t) 128 384 896 rfl _ _ _ _ x _ h0 _ h1
  case piece27 => exact tile_ld P.2.2.2 (iblk m c 5 t) (iblk m c 6 t) 128 256 768 rfl _ _ _ _ x _ h0 _ h1
  case piece28 => exact tile_ld P.2.2.2 (iblk m c 5 t) (iblk m c 6 t) 64 384 896 rfl _ _ _ _ x _ h0 _ h1
  case piece29 => exact tile_ld P.2.2.2 (iblk m c 5 t) (iblk m c 6 t) 64 256 768 rfl _ _ _ _ x _ h0 _ h1
  case piece30 => exact tile_ld P.2.2.2 (iblk m c 5 t) (iblk m c 6 t) 0 384 896 rfl _ _ _ _ x _ (h0.trans (Nat.zero_add _).symm) _ h1
  case piece31 => exact tile_ld P.2.2.2 (iblk m c 5 t) (iblk m c 6 t) 0 256 768 rfl _ _ _ _ x _ (h0.trans (Nat.zero_add _).symm) _ h1
  case piece32 => exact tile_ld P.2.2.2 (iblk m c 5 t) (iblk m c 6 t) 960 128 640 rfl _ _ _ _ x _ h0 _ h1
  case piece33 => exact tile_ld P.2.2.2 (iblk m c 5 t) (iblk m c 6 t) 960 0 512 rfl _ _ _ _ x _ h0 _ (h1.trans (Nat.zero_add _).symm)
  case piece34 => exact tile_ld P.2.2.2 (iblk m c 5 t) (iblk m c 6 t) 896 128 640 rfl _ _ _ _ x _ h0 _ h1
  case piece35 => exact tile_ld P.2.2.2 (iblk m c 5 t) (iblk m c 6 t) 896 0 512 rfl _ _ _ _ x _ h0 _ (h1.trans (Nat.zero_add _).symm)
  case piece36 => exact tile_ld P.2.2.2 (iblk m c 5 t) (iblk m c 6 t) 832 128 640 rfl _ _ _ _ x _ h0 _ h1
  case piece37 => exact tile_ld P.2.2.2 (iblk m c 5 t) (iblk m c 6 t) 832 0 512 rfl _ _ _ _ x _ h0 _ (h1.trans (Nat.zero_add _).symm)
  case piece38 => exact tile_ld P.2.2.2 (iblk m c 5 t) (iblk m c 6 t) 768 128 640 rfl _ _ _ _ x _ h0 _ h1
  case piece39 => exact tile_ld P.2.2.2 (iblk m c 5 t) (iblk m c 6 t) 768 0 512 rfl _ _ _ _ x _ h0 _ (h1.trans (Nat.zero_add _).symm)
  case piece40 => exact tile_ld P.2.2.2 (iblk m c 5 t) (iblk m c 6 t) 704 128 640 rfl _ _ _ _ x _ h0 _ h1
  case piece41 => exact tile_ld P.2.2.2 (iblk m c 5 t) (iblk m c 6 t) 704 0 512 rfl _ _ _ _ x _ h0 _ (h1.trans (Nat.zero_add _).symm)
  case piece42 => exact tile_ld P.2.2.2 (iblk m c 5 t) (iblk m c 6 t) 640 128 640 rfl _ _ _ _ x _ h0 _ h1
  case piece43 => exact tile_ld P.2.2.2 (iblk m c 5 t) (iblk m c 6 t) 640 0 512 rfl _ _ _ _ x _ h0 _ (h1.trans (Nat.zero_add _).symm)
  case piece44 => exact tile_ld P.2.2.2 (iblk m c 5 t) (iblk m c 6 t) 576 128 640 rfl _ _ _ _ x _ h0 _ h1
  case piece45 => exact tile_ld P.2.2.2 (iblk m c 5 t) (iblk m c 6 t) 576 0 512 rfl _ _ _ _ x _ h0 _ (h1.trans (Nat.zero_add _).symm)
  case piece46 => exact tile_ld P.2.2.2 (iblk m c 5 t) (iblk m c 6 t) 512 128 640 rfl _ _ _ _ x _ h0 _ h1
  case piece47 => exact tile_ld P.2.2.2 (iblk m c 5 t) (iblk m c 6 t) 512 0 512 rfl _ _ _ _ x _ h0 _ (h1.trans (Nat.zero_add _).symm)
  case piece48 => exact tile_ld P.2.2.2 (iblk m c 5 t) (iblk m c 6 t) 448 128 640 rfl _ _ _ _ x _ h0 _ h1
  case piece49 => exact tile_ld P.2.2.2 (iblk m c 5 t) (iblk m c 6 t) 448 0 512 rfl _ _ _ _ x _ h0 _ (h1.trans (Nat.zero_add _).symm)
  case piece50 => exact tile_ld P.2.2.2 (iblk m c 5 t) (iblk m c 6 t) 384 128 640 rfl _ _ _ _ x _ h0 _ h1
  case piece51 => exact tile_ld P.2.2.2 (iblk m c 5 t) (iblk m c 6 t) 384 0 512 rfl _ _ _ _ x _ h0 _ (h1.trans (Nat.zero_add _).symm)
  case piece52 => exact tile_ld P.2.2.2 (iblk m c 5 t) (iblk m c 6 t) 320 128 640 rfl _ _ _ _ x _ h0 _ h1
  case piece53 => exact tile_ld P.2.2.2 (iblk m c 5 t) (iblk m c 6 t) 320 0 512 rfl _ _ _ _ x _ h0 _ (h1.trans (Nat.zero_add _).symm)
  case piece54 => exact tile_ld P.2.2.2 (iblk m c 5 t) (iblk m c 6 t) 256 128 640 rfl _ _ _ _ x _ h0 _ h1
  case piece55 => exact tile_ld P.2.2.2 (iblk m c 5 t) (iblk m c 6 t) 256 0 512 rfl _ _ _ _ x _ h0 _ (h1.trans (Nat.zero_add _).symm)
  case piece56 => exact tile_ld P.2.2.2 (iblk m c 5 t) (iblk m c 6 t) 192 128 640 rfl _ _ _ _ x _ h0 _ h1
  case piece57 => exact tile_ld P.2.2.2 (iblk m c 5 t) (iblk m c 6 t) 192 0 512 rfl _ _ _ _ x _ h0 _ (h1.trans (Nat.zero_add _).symm)
  case piece58 => exact tile_ld P.2.2.2 (iblk m c 5 t) (iblk m c 6 t) 128 128 640 rfl _ _ _ _ x _ h0 _ h1
  case piece59 => exact tile_ld P.2.2.2 (iblk m c 5 t) (iblk m c 6 t) 128 0 512 rfl _ _ _ _ x _ h0 _ (h1.trans (Nat.zero_add _).symm)
  case piece60 => exact tile_ld P.2.2.2 (iblk m c 5 t) (iblk m c 6 t) 64 128 640 rfl _ _ _ _ x _ h0 _ h1
  case piece61 => exact tile_ld P.2.2.2 (iblk m c 5 t) (iblk m c 6 t) 64 0 512 rfl _ _ _ _ x _ h0 _ (h1.trans (Nat.zero_add _).symm)
  case piece62 => exact tile_ld P.2.2.2 (iblk m c 5 t) (iblk m c 6 t) 0 128 640 rfl _ _ _ _ x _ (h0.trans (Nat.zero_add _).symm) _ h1
  case piece63 => exact tile_ld P.2.2.2 (iblk m c 5 t) (iblk m c 6 t) 0 0 512 rfl _ _ _ _ x _ (h0.trans (Nat.zero_add _).symm) _ (h1.trans (Nat.zero_add _).symm)

end Cert.Kernel4Ideal.Value
-- ==== Proof.UpD.lean ====
/- What the kernel stores at an odd point that starts a row tile: the filtered, gated product of the rows projected at the point before. -/
module

public import proofs.«01_k».proof.Proof.UpFrame
public import proofs.«01_k».proof.Proof.UpTile
public import Idealize.ShloMosaic.Lib.Pipeline.ReadBack

@[expose] public section

set_option maxRecDepth 16384

noncomputable section

namespace Cert.Kernel4Ideal.Value

open Cert.Kernel4Ideal Cert.Kernel4Ideal.Gen Cert.Kernel4Ideal.Run Idealize.ShloMosaic Idealize.ShloMosaic.TcCoe Idealize.SL.Sem

variable (m : (ℓ : Loc nD τ sig) → Buf (Elt Ideal) ℓ)

set_option maxHeartbeats 8000000 in
/-- The block stored at an odd point that starts a row tile. -/
theorem out_D (c : Dev nD) (t : Fin cfg0.N) (h0 : t.val < 352) (h1 : t.val % 11 = 0) (h2 : ¬t.val % 353 = 0) (h3 : ¬t.val % 2 = 0) (h4 : t.val % 2 = 1) (y : S1024x512.Idx) :
    (outsAt0 m c t.val t.isLt).1 y = outB (outsAt0 m c (t.val - 1) (Nat.lt_of_le_of_lt (Nat.sub_le _ _) t.isLt)).2.2.1 (iblk m c 5 t) (iblk m c 6 t) y := by
  rw [outsAt0_D m c t ⟨h0, h1⟩ h2 h3 h4]
  generalize outsAt0 m c (t.val - 1) _ = P
  frame_open
  frame_out
  simp only [Idealize.ShloMosaic.read_unread_whole]
  canon_tiles x h
  case piece0 => exact tile_ld P.2.2.1 (iblk m c 5 t) (iblk m c 6 t) 960 384 896 rfl _ _ _ _ x _ h0 _ h1
  case piece1 => exact tile_ld P.2.2.1 (iblk m c 5 t) (iblk m c 6 t) 960 256 768 rfl _ _ _ _ x _ h0 _ h1
  case piece2 => exact tile_ld P.2.2.1 (iblk m c 5 t) (iblk m c 6 t) 896 384 896 rfl _ _ _ _ x _ h0 _ h1
  case piece3 => exact tile_ld P.2.2.1 (iblk m c 5 t) (iblk m c 6 t) 896 256 768 rfl _ _ _ _ x _ h0 _ h1
  case piece4 => exact tile_ld P.2.2.1 (iblk m c 5 t) (iblk m c 6 t) 832 384 896 rfl _ _ _ _ x _ h0 _ h1
  case piece5 => exact tile_ld P.2.2.1 (iblk m c 5 t) (iblk m c 6 t) 832 256 768 rfl _ _ _ _ x _ h0 _ h1
  case piece6 => exact tile_ld P.2.2.1 (iblk m c 5 t) (iblk m c 6 t) 768 384 896 rfl _ _ _ _ x _ h0 _ h1
  case piece7 => exact tile_ld P.2.2.1 (iblk m c 5 t) (iblk m c 6 t) 768 256 768 rfl _ _ _ _ x _ h0 _ h1
  case piece8 => exact tile_ld P.2.2.1 (iblk m c 5 t) (iblk m c 6 t) 704 384 896 rfl _ _ _ _ x _ h0 _ h1
  case piece9 => exact tile_ld P.2.2.1 (iblk m c 5 t) (iblk m c 6 t) 704 256 768 rfl _ _ _ _ x _ h0 _ h1
  case piece10 => exact tile_ld P.2.2.1 (iblk m c 5 t) (iblk m c 6 t) 640 384 896 rfl _ _ _ _ x _ h0 _ h1
  case piece11 => exact tile_ld P.2.2.1 (iblk m c 5 t) (iblk m c 6 t) 640 256 768 rfl _ _ _ _ x _ h0 _ h1
  case piece12 => exact tile_ld P.2.2.1 (iblk m c 5 t) (iblk m c 6 t) 576 384 896 rfl _ _ _ _ x _ h0 _ h1
  case piece13 => exact tile_ld P.2.2.1 (iblk m c 5 t) (iblk m c 6 t) 576 256 768 rfl _ _ _ _ x _ h0 _ h1
  case piece14 => exact tile_ld P.2.2.1 (iblk m c 5 t) (iblk m c 6 t) 512 384 896 rfl _ _ _ _ x _ h0 _ h1
  case piece15 => exact tile_ld P.2.2.1 (iblk m c 5 t) (iblk m c 6 t) 512 256 768 rfl _ _ _ _ x _ h0 _ h1
  case piece16 => exact tile_ld P.2.2.1 (iblk m c 5 t) (iblk m c 6 t) 448 384 896 rfl _ _ _ _ x _ h0 _ h1
  case piece17 => exact tile_ld P.2.2.1 (iblk m c 5 t) (iblk m c 6 t) 448 256 768 rfl _ _ _ _ x _ h0 _ h1
  case piece18 => exact tile_ld P.2.2.1 (iblk m c 5 t) (iblk m c 6 t) 384 384 896 rfl _ _ _ _ x _ h0 _ h1
  case piece19 => exact tile_ld P.2.2.1 (iblk m c 5 t) (iblk m c 6 t) 384 256 768 rfl _ _ _ _ x _ h0 _ h1
  case piece20 => exact tile_ld P.2.2.1 (iblk m c 5 t) (iblk m c 6 t) 320 384 896 rfl _ _ _ _ x _ h0 _ h1
  case piece21 => exact tile_ld P.2.2.1 (iblk m c 5 t) (iblk m c 6 t) 320 256 768 rfl _ _ _ _ x _ h0 _ h1
  case piece22 => exact tile_ld P.2.2.1 (iblk m c 5 t) (iblk m c 6 t) 256 384 896 rfl _ _ _ _ x _ h0 _ h1
  case piece23 => exact tile_ld P.2.2.1 (iblk m c 5 t) (iblk m c 6 t) 256 256 768 rfl _ _ _ _ x _ h0 _ h1
  case piece24 => exact tile_ld P.2.2.1 (iblk m c 5 t) (iblk m c 6 t) 192 384 896 rfl _ _ _ _ x _ h0 _ h1
  case piece25 => exact tile_ld P.2.2.1 (iblk m c 5 t) (iblk m c 6 t) 192 256 768 rfl _ _ _ _ x _ h0 _ h1
  case piece26 => exact tile_ld P.2.2.1 (iblk m c 5 t) (iblk m c 6 t) 128 384 896 rfl _ _ _ _ x _ h0 _ h1
  case piece27 => exact tile_ld P.2.2.1 (iblk m c 5 t) (iblk m c 6 t) 128 256 768 rfl _ _ _ _ x _ h0 _ h1
  case piece28 => exact tile_ld P.2.2.1 (iblk m c 5 t) (iblk m c 6 t) 64 384 896 rfl _ _ _ _ x _ h0 _ h1
  case piece29 => exact tile_ld P.2.2.1 (iblk m c 5 t) (iblk m c 6 t) 64 256 768 rfl _ _ _ _ x _ h0 _ h1
  case piece30 => exact tile_ld P.2.2.1 (iblk m c 5 t) (iblk m c 6 t) 0 384 896 rfl _ _ _ _ x _ (h0.trans (Nat.zero_add _).symm) _ h1
  case piece31 => exact tile_ld P.2.2.1 (iblk m c 5 t) (iblk m c 6 t) 0 256 768 rfl _ _ _ _ x _ (h0.trans (Nat.zero_add _).symm) _ h1
  case piece32 => exact tile_ld P.2.2.1 (iblk m c 5 t) (iblk m c 6 t) 960 128 640 rfl _ _ _ _ x _ h0 _ h1
  case piece33 => exact tile_ld P.2.2.1 (iblk m c 5 t) (iblk m c 6 t) 960 0 512 rfl _ _ _ _ x _ h0 _ (h1.trans (Nat.zero_add _).symm)
  case piece34 => exact tile_ld P.2.2.1 (iblk m c 5 t) (iblk m c 6 t) 896 128 640 rfl _ _ _ _ x _ h0 _ h1
  case piece35 => exact tile_ld P.2.2.1 (iblk m c 5 t) (iblk m c 6 t) 896 0 512 rfl _ _ _ _ x _ h0 _ (h1.trans (Nat.zero_add _).symm)
  case piece36 => exact tile_ld P.2.2.1 (iblk m c 5 t) (iblk m c 6 t) 832 128 640 rfl _ _ _ _ x _ h0 _ h1
  case piece37 => exact tile_ld P.2.2.1 (iblk m c 5 t) (iblk m c 6 t) 832 0 512 rfl _ _ _ _ x _ h0 _ (h1.trans (Nat.zero_add _).symm)
  case piece38 => exact tile_ld P.2.2.1 (iblk m c 5 t) (iblk m c 6 t) 768 128 640 rfl _ _ _ _ x _ h0 _ h1
  case piece39 => exact tile_ld P.2.2.1 (iblk m c 5 t) (iblk m c 6 t) 768 0 512 rfl _ _ _ _ x _ h0 _ (h1.trans (Nat.zero_add _).symm)
  case piece40 => exact tile_ld P.2.2.1 (iblk m c 5 t) (iblk m c 6 t) 704 128 640 rfl _ _ _ _ x _ h0 _ h1
  case piece41 => exact tile_ld P.2.2.1 (iblk m c 5 t) (iblk m c 6 t) 704 0 512 rfl _ _ _ _ x _ h0 _ (h1.trans (Nat.zero_add _).symm)
  case piece42 => exact tile_ld P.2.2.1 (iblk m c 5 t) (iblk m c 6 t) 640 128 640 rfl _ _ _ _ x _ h0 _ h1
  case piece43 => exact tile_ld P.2.2.1 (iblk m c 5 t) (iblk m c 6 t) 640 0 512 rfl _ _ _ _ x _ h0 _ (h1.trans (Nat.zero_add _).symm)
  case piece44 => exact tile_ld P.2.2.1 (iblk m c 5 t) (iblk m c 6 t) 576 128 640 rfl _ _ _ _ x _ h0 _ h1
  case piece45 => exact tile_ld P.2.2.1 (iblk m c 5 t) (iblk m c 6 t) 576 0 512 rfl _ _ _ _ x _ h0 _ (h1.trans (Nat.zero_add _).symm)
  case piece46 => exact tile_ld P.2.2.1 (iblk m c 5 t) (iblk m c 6 t) 512 128 640 rfl _ _ _ _ x _ h0 _ h1
  case piece47 => exact tile_ld P.2.2.1 (iblk m c 5 t) (iblk m c 6 t) 512 0 512 rfl _ _ _ _ x _ h0 _ (h1.trans (Nat.zero_add _).symm)
  case piece48 => exact tile_ld P.2.2.1 (iblk m c 5 t) (iblk m c 6 t) 448 128 640 rfl _ _ _ _ x _ h0 _ h1
  case piece49 => exact tile_ld P.2.2.1 (iblk m c 5 t) (iblk m c 6 t) 448 0 512 rfl _ _ _ _ x _ h0 _ (h1.trans (Nat.zero_add _).symm)
  case piece50 => exact tile_ld P.2.2.1 (iblk m c 5 t) (iblk m c 6 t) 384 128 640 rfl _ _ _ _ x _ h0 _ h1
  case piece51 => exact tile_ld P.2.2.1 (iblk m c 5 t) (iblk m c 6 t) 384 0 512 rfl _ _ _ _ x _ h0 _ (h1.trans (Nat.zero_add _).symm)
  case piece52 => exact tile_ld P.2.2.1 (iblk m c 5 t) (iblk m c 6 t) 320 128 640 rfl _ _ _ _ x _ h0 _ h1
  case piece53 => exact tile_ld P.2.2.1 (iblk m c 5 t) (iblk m c 6 t) 320 0 512 rfl _ _ _ _ x _ h0 _ (h1.trans (Nat.zero_add _).symm)
  case piece54 => exact tile_ld P.2.2.1 (iblk m c 5 t) (iblk m c 6 t) 256 128 640 rfl _ _ _ _ x _ h0 _ h1
  case piece55 => exact tile_ld P.2.2.1 (iblk m c 5 t) (iblk m c 6 t) 256 0 512 rfl _ _ _ _ x _ h0 _ (h1.trans (Nat.zero_add _).symm)
  case piece56 => exact tile_ld P.2.2.1 (iblk m c 5 t) (iblk m c 6 t) 192 128 640 rfl _ _ _ _ x _ h0 _ h1
  case piece57 => exact tile_ld P.2.2.1 (iblk m c 5 t) (iblk m c 6 t) 192 0 512 rfl _ _ _ _ x _ h0 _ (h1.trans (Nat.zero_add _).symm)
  case piece58 => exact tile_ld P.2.2.1 (iblk m c 5 t) (iblk m c 6 t) 128 128 640 rfl _ _ _ _ x _ h0 _ h1
  case piece59 => exact tile_ld P.2.2.1 (iblk m c 5 t) (iblk m c 6 t) 128 0 512 rfl _ _ _ _ x _ h0 _ (h1.trans (Nat.zero_add _).symm)
  case piece60 => exact tile_ld P.2.2.1 (iblk m c 5 t) (iblk m c 6 t) 64 128 640 rfl _ _ _ _ x _ h0 _ h1
  case piece61 => exact tile_ld P.2.2.1 (iblk m c 5 t) (iblk m c 6 t) 64 0 512 rfl _ _ _ _ x _ h0 _ (h1.trans (Nat.zero_add _).symm)
  case piece62 => exact tile_ld P.2.2.1 (iblk m c 5 t) (iblk m c 6 t) 0 128 640 rfl _ _ _ _ x _ (h0.trans (Nat.zero_add _).symm) _ h1
  case piece63 => exact tile_ld P.2.2.1 (iblk m c 5 t) (iblk m c 6 t) 0 0 512 rfl _ _ _ _ x _ (h0.trans (Nat.zero_add _).symm) _ (h1.trans (Nat.zero_add _).symm)

end Cert.Kernel4Ideal.Value
-- ==== Proof.UpE.lean ====
/- What the kernel stores at an even point that starts a row tile: the filtered, gated product of the rows projected at the point before. -/
module

public import proofs.«01_k».proof.Proof.UpFrame
public import proofs.«01_k».proof.Proof.UpTile
public import Idealize.ShloMosaic.Lib.Pipeline.ReadBack

@[expose] public section

set_option maxRecDepth 16384

noncomputable section

namespace Cert.Kernel4Ideal.Value

open Cert.Kernel4Ideal Cert.Kernel4Ideal.Gen Cert.Kernel4Ideal.Run Idealize.ShloMosaic Idealize.ShloMosaic.TcCoe Idealize.SL.Sem

variable (m : (ℓ : Loc nD τ sig) → Buf (Elt Ideal) ℓ)

set_option maxHeartbeats 8000000 in
/-- The block stored at an even point that starts a row tile. -/
theorem out_E (c : Dev nD) (t : Fin cfg0.N) (h0 : t.val < 352) (h1 : t.val % 11 = 0) (h2 : ¬t.val % 353 = 0) (h3 : t.val % 2 = 0) (h4 : ¬t.val % 2 = 1) (y : S1024x512.Idx) :
    (outsAt0 m c t.val t.isLt).1 y = outB (outsAt0 m c (t.val - 1) (Nat.lt_of_le_of_lt (Nat.sub_le _ _) t.isLt)).2.2.2 (iblk m c 5 t) (iblk m c 6 t) y := by
  rw [outsAt0_E m c t ⟨h0, h1⟩ h2 h3 h4]
  generalize outsAt0 m c (t.val - 1) _ = P
  frame_open
  frame_out
  simp only [Idealize.ShloMosaic.read_unread_whole]
  canon_tiles x h
  case piece0 => exact tile_ld P.2.2.2 (iblk m c 5 t) (iblk m c 6 t) 960 384 896 rfl _ _ _ _ x _ h0 _ h1
  case piece1 => exact tile_ld P.2.2.2 (iblk m c 5 t) (iblk m c 6 t) 960 256 768 rfl _ _ _ _ x _ h0 _ h1
  case piece2 => exact tile_ld P.2.2.2 (iblk m c 5 t) (iblk m c 6 t) 896 384 896 rfl _ _ _ _ x _ h0 _ h1
  case piece3 => exact tile_ld P.2.2.2 (iblk m c 5 t) (iblk m c 6 t) 896 256 768 rfl _ _ _ _ x _ h0 _ h1
  case piece4 => exact tile_ld P.2.2.2 (iblk m c 5 t) (iblk m c 6 t) 832 384 896 rfl _ _ _ _ x _ h0 _ h1
  case piece5 => exact tile_ld P.2.2.2 (iblk m c 5 t) (iblk m c 6 t) 832 256 768 rfl _ _ _ _ x _ h0 _ h1
  case piece6 => exact tile_ld P.2.2.2 (iblk m c 5 t) (iblk m c 6 t) 768 384 896 rfl _ _ _ _ x _ h0 _ h1
  case piece7 => exact tile_ld P.2.2.2 (iblk m c 5 t) (iblk m c 6 t) 768 256 768 rfl _ _ _ _ x _ h0 _ h1
  case piece8 => exact tile_ld P.2.2.2 (iblk m c 5 t) (iblk m c 6 t) 704 384 896 rfl _ _ _ _ x _ h0 _ h1
  case piece9 => exact tile_ld P.2.2.2 (iblk m c 5 t) (iblk m c 6 t) 704 256 768 rfl _ _ _ _ x _ h0 _ h1
  case piece10 => exact tile_ld P.2.2.2 (iblk m c 5 t) (iblk m c 6 t) 640 384 896 rfl _ _ _ _ x _ h0 _ h1
  case piece11 => exact tile_ld P.2.2.2 (iblk m c 5 t) (iblk m c 6 t) 640 256 768 rfl _ _ _ _ x _ h0 _ h1
  case piece12 => exact tile_ld P.2.2.2 (iblk m c 5 t) (iblk m c 6 t) 576 384 896 rfl _ _ _ _ x _ h0 _ h1
  case piece13 => exact tile_ld P.2.2.2 (iblk m c 5 t) (iblk m c 6 t) 576 256 768 rfl _ _ _ _ x _ h0 _ h1
  case piece14 => exact tile_ld P.2.2.2 (iblk m c 5 t) (iblk m c 6 t) 512 384 896 rfl _ _ _ _ x _ h0 _ h1
  case piece15 => exact tile_ld P.2.2.2 (iblk m c 5 t) (iblk m c 6 t) 512 256 768 rfl _ _ _ _ x _ h0 _ h1
  case piece16 => exact tile_ld P.2.2.2 (iblk m c 5 t) (iblk m c 6 t) 448 384 896 rfl _ _ _ _ x _ h0 _ h1
  case piece17 => exact tile_ld P.2.2.2 (iblk m c 5 t) (iblk m c 6 t) 448 256 768 rfl _ _ _ _ x _ h0 _ h1
  case piece18 => exact tile_ld P.2.2.2 (iblk m c 5 t) (iblk m c 6 t) 384 384 896 rfl _ _ _ _ x _ h0 _ h1
  case piece19 => exact tile_ld P.2.2.2 (iblk m c 5 t) (iblk m c 6 t) 384 256 768 rfl _ _ _ _ x _ h0 _ h1
  case piece20 => exact tile_ld P.2.2.2 (iblk m c 5 t) (iblk m c 6 t) 320 384 896 rfl _ _ _ _ x _ h0 _ h1
  case piece21 => exact tile_ld P.2.2.2 (iblk m c 5 t) (iblk m c 6 t) 320 256 768 rfl _ _ _ _ x _ h0 _ h1
  case piece22 => exact tile_ld P.2.2.2 (iblk m c 5 t) (iblk m c 6 t) 256 384 896 rfl _ _ _ _ x _ h0 _ h1
  case piece23 => exact tile_ld P.2.2.2 (iblk m c 5 t) (iblk m c 6 t) 256 256 768 rfl _ _ _ _ x _ h0 _ h1
  case piece24 => exact tile_ld P.2.2.2 (iblk m c 5 t) (iblk m c 6 t) 192 384 896 rfl _ _ _ _ x _ h0 _ h1
  case piece25 => exact tile_ld P.2.2.2 (iblk m c 5 t) (iblk m c 6 t) 192 256 768 rfl _ _ _ _ x _ h0 _ h1
  case piece26 => exact tile_ld P.2.2.2 (iblk m c 5 t) (iblk m c 6 t) 128 384 896 rfl _ _ _ _ x _ h0 _ h1
  case piece27 => exact tile_ld P.2.2.2 (iblk m c 5 t) (iblk m c 6 t) 128 256 768 rfl _ _ _ _ x _ h0 _ h1
  case piece28 => exact tile_ld P.2.2.2 (iblk m c 5 t) (iblk m c 6 t) 64 384 896 rfl _ _ _ _ x _ h0 _ h1
  case piece29 => exact tile_ld P.2.2.2 (iblk m c 5 t) (iblk m c 6 t) 64 256 768 rfl _ _ _ _ x _ h0 _ h1
  case piece30 => exact tile_ld P.2.2.2 (iblk m c 5 t) (iblk m c 6 t) 0 384 896 rfl _ _ _ _ x _ (h0.trans (Nat.zero_add _).symm) _ h1
  case piece31 => exact tile_ld P.2.2.2 (iblk m c 5 t) (iblk m c 6 t) 0 256 768 rfl _ _ _ _ x _ (h0.trans (Nat.zero_add _).symm) _ h1
  case piece32 => exact tile_ld P.2.2.2 (iblk m c 5 t) (iblk m c 6 t) 960 128 640 rfl _ _ _ _ x _ h0 _ h1
  case piece33 => exact tile_ld P.2.2.2 (iblk m c 5 t) (iblk m c 6 t) 960 0 512 rfl _ _ _ _ x _ h0 _ (h1.trans (Nat.zero_add _).symm)
  case piece34 => exact tile_ld P.2.2.2 (iblk m c 5 t) (iblk m c 6 t) 896 128 640 rfl _ _ _ _ x _ h0 _ h1
  case piece35 => exact tile_ld P.2.2.2 (iblk m c 5 t) (iblk m c 6 t) 896 0 512 rfl _ _ _ _ x _ h0 _ (h1.trans (Nat.zero_add _).symm)
  case piece36 => exact tile_ld P.2.2.2 (iblk m c 5 t) (iblk m c 6 t) 832 128 640 rfl _ _ _ _ x _ h0 _ h1
  case piece37 => exact tile_ld P.2.2.2 (iblk m c 5 t) (iblk m c 6 t) 832 0 512 rfl _ _ _ _ x _ h0 _ (h1.trans (Nat.zero_add _).symm)
  case piece38 => exact tile_ld P.2.2.2 (iblk m c 5 t) (iblk m c 6 t) 768 128 640 rfl _ _ _ _ x _ h0 _ h1
  case piece39 => exact tile_ld P.2.2.2 (iblk m c 5 t) (iblk m c 6 t) 768 0 512 rfl _ _ _ _ x _ h0 _ (h1.trans (Nat.zero_add _).symm)
  case piece40 => exact tile_ld P.2.2.2 (iblk m c 5 t) (iblk m c 6 t) 704 128 640 rfl _ _ _ _ x _ h0 _ h1
  case piece41 => exact tile_ld P.2.2.2 (iblk m c 5 t) (iblk m c 6 t) 704 0 512 rfl _ _ _ _ x _ h0 _ (h1.trans (Nat.zero_add _).symm)
  case piece42 => exact tile_ld P.2.2.2 (iblk m c 5 t) (iblk m c 6 t) 640 128 640 rfl _ _ _ _ x _ h0 _ h1
  case piece43 => exact tile_ld P.2.2.2 (iblk m c 5 t) (iblk m c 6 t) 640 0 512 rfl _ _ _ _ x _ h0 _ (h1.trans (Nat.zero_add _).symm)
  case piece44 => exact tile_ld P.2.2.2 (iblk m c 5 t) (iblk m c 6 t) 576 128 640 rfl _ _ _ _ x _ h0 _ h1
  case piece45 => exact tile_ld P.2.2.2 (iblk m c 5 t) (iblk m c 6 t) 576 0 512 rfl _ _ _ _ x _ h0 _ (h1.trans (Nat.zero_add _).symm)
  case piece46 => exact tile_ld P.2.2.2 (iblk m c 5 t) (iblk m c 6 t) 512 128 640 rfl _ _ _ _ x _ h0 _ h1
  case piece47 => exact tile_ld P.2.2.2 (iblk m c 5 t) (iblk m c 6 t) 512 0 512 rfl _ _ _ _ x _ h0 _ (h1.trans (Nat.zero_add _).symm)
  case piece48 => exact tile_ld P.2.2.2 (iblk m c 5 t) (iblk m c 6 t) 448 128 640 rfl _ _ _ _ x _ h0 _ h1
  case piece49 => exact tile_ld P.2.2.2 (iblk m c 5 t) (iblk m c 6 t) 448 0 512 rfl _ _ _ _ x _ h0 _ (h1.trans (Nat.zero_add _).symm)
  case piece50 => exact tile_ld P.2.2.2 (iblk m c 5 t) (iblk m c 6 t) 384 128 640 rfl _ _ _ _ x _ h0 _ h1
  case piece51 => exact tile_ld P.2.2.2 (iblk m c 5 t) (iblk m c 6 t) 384 0 512 rfl _ _ _ _ x _ h0 _ (h1.trans (Nat.zero_add _).symm)
  case piece52 => exact tile_ld P.2.2.2 (iblk m c 5 t) (iblk m c 6 t) 320 128 640 rfl _ _ _ _ x _ h0 _ h1
  case piece53 => exact tile_ld P.2.2.2 (iblk m c 5 t) (iblk m c 6 t) 320 0 512 rfl _ _ _ _ x _ h0 _ (h1.trans (Nat.zero_add _).symm)
  case piece54 => exact tile_ld P.2.2.2 (iblk m c 5 t) (iblk m c 6 t) 256 128 640 rfl _ _ _ _ x _ h0 _ h1
  case piece55 => exact tile_ld P.2.2.2 (iblk m c 5 t) (iblk m c 6 t) 256 0 512 rfl _ _ _ _ x _ h0 _ (h1.trans (Nat.zero_add _).symm)
  case piece56 => exact tile_ld P.2.2.2 (iblk m c 5 t) (iblk m c 6 t) 192 128 640 rfl _ _ _ _ x _ h0 _ h1
  case piece57 => exact tile_ld P.2.2.2 (iblk m c 5 t) (iblk m c 6 t) 192 0 512 rfl _ _ _ _ x _ h0 _ (h1.trans (Nat.zero_add _).symm)
  case piece58 => exact tile_ld P.2.2.2 (iblk m c 5 t) (iblk m c 6 t) 128 128 640 rfl _ _ _ _ x _ h0 _ h1
  case piece59 => exact tile_ld P.2.2.2 (iblk m c 5 t) (iblk m c 6 t) 128 0 512 rfl _ _ _ _ x _ h0 _ (h1.trans (Nat.zero_add _).symm)
  case piece60 => exact tile_ld P.2.2.2 (iblk m c 5 t) (iblk m c 6 t) 64 128 640 rfl _ _ _ _ x _ h0 _ h1
  case piece61 => exact tile_ld P.2.2.2 (iblk m c 5 t) (iblk m c 6 t) 64 0 512 rfl _ _ _ _ x _ h0 _ (h1.trans (Nat.zero_add _).symm)
  case piece62 => exact tile_ld P.2.2.2 (iblk m c 5 t) (iblk m c 6 t) 0 128 640 rfl _ _ _ _ x _ (h0.trans (Nat.zero_add _).symm) _ h1
  case piece63 => exact tile_ld P.2.2.2 (iblk m c 5 t) (iblk m c 6 t) 0 0 512 rfl _ _ _ _ x _ (h0.trans (Nat.zero_add _).symm) _ (h1.trans (Nat.zero_add _).symm)

end Cert.Kernel4Ideal.Value
-- ==== Proof.UpPoint.lean ====
/- The array that `Kernel4Ideal`'s region leaves is the reference's term: the feed-forward input. -/
module

public import proofs.«01_k».proof.Proof.UpIn
public import proofs.«01_k».proof.Proof.UpB
public import proofs.«01_k».proof.Proof.UpC
public import proofs.«01_k».proof.Proof.UpD
public import proofs.«01_k».proof.Proof.UpE
public import Idealize.ShloMosaic.Lib.Claim

@[expose] public section

set_option maxRecDepth 16384

noncomputable section

namespace Cert.Kernel4Ideal.Value

open Cert.Kernel4Ideal Cert.Kernel4Ideal.Gen Cert.Kernel4Ideal.Run Idealize.ShloMosaic Idealize.ShloMosaic.TcCoe Idealize.SL.Sem
open Cert.Reference4Ideal.Value (HH UU PD CV OT HH_at UU_at PD_lo PD_hi CV_at OT_at)

/-- The reference's result, over the kernel's four arguments. -/
def REF (X : FVec Ideal S8x4096x2048 .f32) (g : FVec Ideal S2048 .f32) (W : FVec Ideal S2048x11264 .f32) (C : FVec Ideal S3x11264 .f32) : FVec Ideal S32768x5632 .bf16 :=
  OT (CV C (PD (UU (HH X g) W)))

/-- The normalised rows that row tile `T` keeps: sixteen rows before the tile, zero where a sequence starts, then the tile's own. -/
def hs (X : FVec Ideal S8x4096x2048 .f32) (g : FVec Ideal S2048 .f32) (T : ℕ) (j : Fin 1040) (k : Fin 2048) : EReal :=
  if T % 4 = 0 ∧ j.val < 16 then 0
  else Cert.Up.nrm (fun i => X (ix3 ⟨(1024 * T + j.val - 16) / 4096 % 8, Nat.mod_lt _ (by norm_num)⟩ ⟨(1024 * T + j.val - 16) % 4096, Nat.mod_lt _ (by norm_num)⟩ i)) (fun i => g (ix1 i)) k

/-- The kept rows projected. -/
def pr (X : FVec Ideal S8x4096x2048 .f32) (g : FVec Ideal S2048 .f32) (W : FVec Ideal S2048x11264 .f32) (T : ℕ) (j : Fin 1040) (n : Fin 11264) : EReal :=
  ∑ k : Fin 2048, hs X g T j k * W (ix2 k n)

/-- A kept row, projected, is a row of the reference's padded projection. -/
theorem tap (X : FVec Ideal S8x4096x2048 .f32) (g : FVec Ideal S2048 .f32) (W : FVec Ideal S2048x11264 .f32) (T : ℕ) (hT : T < 32) (j : Fin 1040) (hj : 14 ≤ j.val)
    (b : Fin 8) (hb : b.val = T / 4) (q : Fin 4098) (hq : q.val + 14 = 1024 * (T % 4) + j.val) (n : Fin 11264) :
    pr X g W T j n = PD (UU (HH X g) W) (ix3 b q n) := by
  have hjl := j.isLt
  by_cases h : q.val < 2
  · rw [PD_lo _ b q n h, pr]
    refine Finset.sum_eq_zero fun k _ => ?_
    rw [hs, if_pos (by omega), zero_mul]
  · rw [PD_hi _ b q ⟨q.val - 2, by omega⟩ n (by show q.val = q.val - 2 + 2; omega), UU_at, pr]
    refine Finset.sum_congr rfl fun k _ => ?_
    rw [hs, if_neg (by omega), HH_at]
    have e0 : (⟨(1024 * T + j.val - 16) / 4096 % 8, Nat.mod_lt _ (by norm_num)⟩ : Fin 8) = b := Fin.ext (by show (1024 * T + j.val - 16) / 4096 % 8 = b.val; omega)
    have e1 : (⟨(1024 * T + j.val - 16) % 4096, Nat.mod_lt _ (by norm_num)⟩ : Fin 4096) = ⟨q.val - 2, by omega⟩ := Fin.ext (by show (1024 * T + j.val - 16) % 4096 = q.val - 2; omega)
    rw [e0, e1]

variable (m : (ℓ : Loc nD τ sig) → Buf (Elt Ideal) ℓ)

/-- The rows a point that starts a row tile stores. -/
theorem new_at (c : Dev nD) (t : Fin cfg0.N) (ht : t.val < 352) (j : Fin 1040) (k : Fin 2048) :
    hidB (iblk m c 0 t) (iblk m c 1 t) (iblk m c 2 t) (keep (grid0.coords t)) (ix2 j k) = hs (aX m c) (aG m c) (t.val / 11) j k := by
  have hm : min t.val 351 = t.val := by omega
  have hjl := j.isLt
  show hid (iblk m c 0 t) (iblk m c 1 t) (iblk m c 2 t) (keep (grid0.coords t)) j k = _
  have eg : (fun i => (show FVec Ideal S1x2048 .f32 from iblk m c 2 t) (ix2 0 i)) = fun i => aG m c (ix1 i) := funext fun i => (in2 m c t i).trans (V3_at m c i)
  rw [keep_at t, hm]
  by_cases h : j.val < 16
  · rw [hid, dif_pos h]
    by_cases h4 : t.val / 11 % 4 = 0
    · rw [if_pos h4, hs, if_pos ⟨h4, h⟩, mul_zero]
    · rw [if_neg h4, hs, if_neg (by omega), mul_one]
      refine congrFun (congrArg₂ Cert.Up.nrm (funext fun i => ?_) eg) k
      refine (in1 m c t ⟨j.val, h⟩ i ⟨1024 * (t.val / 11) + j.val - 16, by omega⟩ (by show 1024 * (t.val / 11) + j.val - 16 = 16 * (64 * (min t.val 351 / 11) - 1) + j.val; omega)).trans ((V0_at m c _ i).trans ?_)
      have e0 : (⟨(1024 * (t.val / 11) + j.val - 16) / 4096, by omega⟩ : Fin 8) = ⟨(1024 * (t.val / 11) + j.val - 16) / 4096 % 8, Nat.mod_lt _ (by norm_num)⟩ := Fin.ext (by show (1024 * (t.val / 11) + j.val - 16) / 4096 = (1024 * (t.val / 11) + j.val - 16) / 4096 % 8; omega)
      exact congrArg (fun z => aX m c (ix3 z _ i)) e0
  · rw [hid, dif_neg h, hs, if_neg (by omega)]
    refine congrFun (congrArg₂ Cert.Up.nrm (funext fun i => ?_) eg) k
    refine (in0 m c t ⟨j.val - 16, by omega⟩ i ⟨1024 * (t.val / 11) + j.val - 16, by omega⟩ (by show 1024 * (t.val / 11) + j.val - 16 = 1024 * (min t.val 351 / 11) + (j.val - 16); omega)).trans ((V0_at m c _ i).trans ?_)
    have e0 : (⟨(1024 * (t.val / 11) + j.val - 16) / 4096, by omega⟩ : Fin 8) = ⟨(1024 * (t.val / 11) + j.val - 16) / 4096 % 8, Nat.mod_lt _ (by norm_num)⟩ := Fin.ext (by show (1024 * (t.val / 11) + j.val - 16) / 4096 = (1024 * (t.val / 11) + j.val - 16) / 4096 % 8; omega)
    exact congrArg (fun z => aX m c (ix3 z _ i)) e0

/-- The rows kept after any point of a row tile are that tile's. -/
theorem kept (c : Dev nD) (n : ℕ) : ∀ (hn : n < cfg0.N) (h : n < 352) (j : Fin 1040) (k : Fin 2048),
    @Eq EReal ((show FVec Ideal S1040x2048 .bf16 from (outsAt0 m c n hn).2.1) (ix2 j k)) (hs (aX m c) (aG m c) (n / 11) j k) := by
  induction n with
  | zero => exact fun hn h j k => (h_A m c ⟨0, hn⟩ h (by norm_num) (by norm_num) (by norm_num) (by norm_num) (ix2 j k)).trans (new_at m c ⟨0, hn⟩ h j k)
  | succ n ih =>
    intro hn h j k
    by_cases h1 : (n + 1) % 11 = 0
    · by_cases h3 : (n + 1) % 2 = 0
      · exact (h_E m c ⟨n + 1, hn⟩ h h1 (by show ¬(n + 1) % 353 = 0; omega) h3 (by show ¬(n + 1) % 2 = 1; omega) (ix2 j k)).trans (new_at m c ⟨n + 1, hn⟩ h j k)
      · exact (h_D m c ⟨n + 1, hn⟩ h h1 (by show ¬(n + 1) % 353 = 0; omega) h3 (by show (n + 1) % 2 = 1; omega) (ix2 j k)).trans (new_at m c ⟨n + 1, hn⟩ h j k)
    · have e : (n + 1) / 11 = n / 11 := by omega
      rw [e]
      by_cases h3 : (n + 1) % 2 = 0
      · exact (congrFun (h_C m c ⟨n + 1, hn⟩ h h1 (by show ¬(n + 1) % 353 = 0; omega) h3 (by show ¬(n + 1) % 2 = 1; omega)) (ix2 j k)).trans (ih (by omega) (by omega) j k)
      · exact (congrFun (h_B m c ⟨n + 1, hn⟩ h h1 (by show ¬(n + 1) % 353 = 0; omega) h3 (by show (n + 1) % 2 = 1; omega)) (ix2 j k)).trans (ih (by omega) (by omega) j k)

/-- The projected rows stored at a grid point: in one buffer at even points, in the other at odd ones. -/
def pj (c : Dev nD) (n : ℕ) (hn : n < cfg0.N) : FVec Ideal S1040x1024 .f32 :=
  if n % 2 = 0 then (outsAt0 m c n hn).2.2.1 else (outsAt0 m c n hn).2.2.2

/-- What is stored is the projection of what is kept. -/
theorem pj_raw (c : Dev nD) (t : Fin cfg0.N) (ht : t.val < 352) (y : S1040x1024.Idx) :
    pj m c t.val t.isLt y = rawB (outsAt0 m c t.val t.isLt).2.1 (iblk m c 3 t) (iblk m c 4 t) y := by
  unfold pj
  by_cases h3 : t.val % 2 = 0
  · rw [if_pos h3]
    by_cases h1 : t.val % 11 = 0
    · by_cases h2 : t.val % 353 = 0
      · exact r_A m c t ht h1 h2 h3 (by omega) y
      · exact r_E m c t ht h1 h2 h3 (by omega) y
    · exact r_C m c t ht h1 (by omega) h3 (by omega) y
  · rw [if_neg h3]
    by_cases h1 : t.val % 11 = 0
    · exact r_D m c t ht h1 (by omega) h3 (by omega) y
    · exact r_B m c t ht h1 (by omega) h3 (by omega) y

/-- The gate half of the stored rows. -/
theorem pj_lo (c : Dev nD) (n : ℕ) (hn : n < cfg0.N) (ht : n < 352) (j : Fin 1040) (l : Fin 1024) (hl : l.val < 512) (N : Fin 11264) (hN : N.val = 512 * (n % 11) + l.val) :
    pj m c n hn (ix2 j l) = pr (aX m c) (aG m c) (aW m c) (n / 11) j N := by
  refine (pj_raw m c ⟨n, hn⟩ ht (ix2 j l)).trans ?_
  show raw _ _ _ j l = _
  rw [raw, dif_pos hl, pr]
  refine Finset.sum_congr rfl fun k _ => Ideal.mul_congr (kept m c n hn ht j k) ?_
  exact (in3 m c ⟨n, hn⟩ k ⟨l.val, hl⟩ N (by show N.val = 512 * (min n 351 % 11) + l.val; rw [show min n 351 = n by omega]; exact hN)).trans (V1_at m c k N)

/-- The value half of the stored rows. -/
theorem pj_hi (c : Dev nD) (n : ℕ) (hn : n < cfg0.N) (ht : n < 352) (j : Fin 1040) (l : Fin 1024) (s : Fin 512) (hl : l.val = 512 + s.val) (N : Fin 11264) (hN : N.val = 5632 + (512 * (n % 11) + s.val)) :
    pj m c n hn (ix2 j l) = pr (aX m c) (aG m c) (aW m c) (n / 11) j N := by
  refine (pj_raw m c ⟨n, hn⟩ ht (ix2 j l)).trans ?_
  show raw _ _ _ j l = _
  rw [raw, dif_neg (by omega), pr]
  refine Finset.sum_congr rfl fun k _ => Ideal.mul_congr (kept m c n hn ht j k) ?_
  have es : (⟨l.val - 512, by omega⟩ : Fin 512) = s := Fin.ext (by show l.val - 512 = s.val; omega)
  rw [es]
  exact (in4 m c ⟨n, hn⟩ k s N (by show N.val = 512 * (11 + min n 351 % 11) + s.val; rw [show min n 351 = n by omega]; omega)).trans (V1_at m c k N)

/-- A point after the first stores the filtered, gated rows that the point before it projected. -/
theorem out_pj (c : Dev nD) (t : Fin cfg0.N) (h : t.val ≠ 0) (y : S1024x512.Idx) :
    (outsAt0 m c t.val t.isLt).1 y = outB (pj m c (t.val - 1) (Nat.lt_of_le_of_lt (Nat.sub_le _ _) t.isLt)) (iblk m c 5 t) (iblk m c 6 t) y := by
  have hlt : t.val < 353 := t.isLt
  unfold pj
  by_cases h3 : t.val % 2 = 0
  · rw [if_neg (show ¬(t.val - 1) % 2 = 0 by omega)]
    by_cases h0 : t.val < 352
    · by_cases h1 : t.val % 11 = 0
      · exact out_E m c t h0 h1 (by omega) h3 (by omega) y
      · exact out_C m c t (fun h => h1 h.2) (by omega) h3 (by omega) y
    · exact out_C m c t (fun h => h0 h.1) (by omega) h3 (by omega) y
  · rw [if_pos (show (t.val - 1) % 2 = 0 by omega)]
    by_cases h1 : t.val % 11 = 0
    · exact out_D m c t (by omega) h1 (by omega) h3 (by omega) y
    · exact out_B m c t (by omega) h1 (by omega) h3 (by omega) y

/-- The filter over projected rows is the reference's. -/
theorem fl_at (c : Dev nD) (P : FVec Ideal S1040x1024 .f32) (K : FVec Ideal S8x512 .f32) (r : Fin 1024) (n : Fin 512) (L : Fin 1024) (T : ℕ) (hT : T < 32) (N : Fin 11264)
    (hP : ∀ j : Fin 1040, P (ix2 j L) = pr (aX m c) (aG m c) (aW m c) T j N)
    (hK : ∀ (p : Fin 8) (q : Fin 3), p.val = q.val → K (ix2 p n) = aC m c (ix2 q N))
    (b : Fin 8) (hb : b.val = T / 4) (q : Fin 4096) (hq : q.val = 1024 * (T % 4) + r.val) :
    fl P K r n L = CV (aC m c) (PD (UU (HH (aX m c) (aG m c)) (aW m c))) (ix3 b q N) := by
  have hr := r.isLt
  have hql := q.isLt
  rw [CV_at _ _ b q N ⟨q.val, by omega⟩ ⟨q.val + 1, by omega⟩ ⟨q.val + 2, by omega⟩ rfl rfl rfl, fl, hK 0 0 rfl, hK 1 1 rfl, hK 2 2 rfl, hP, hP, hP]
  rw [tap (aX m c) (aG m c) (aW m c) T hT ⟨r.val + 14, by omega⟩ (by show 14 ≤ r.val + 14; omega) b hb ⟨q.val, by omega⟩ (by show q.val + 14 = 1024 * (T % 4) + (r.val + 14); omega) N,
    tap (aX m c) (aG m c) (aW m c) T hT ⟨r.val + 15, by omega⟩ (by show 14 ≤ r.val + 15; omega) b hb ⟨q.val + 1, by omega⟩ (by show q.val + 1 + 14 = 1024 * (T % 4) + (r.val + 15); omega) N,
    tap (aX m c) (aG m c) (aW m c) T hT ⟨r.val + 16, by omega⟩ (by show 14 ≤ r.val + 16; omega) b hb ⟨q.val + 2, by omega⟩ (by show q.val + 2 + 14 = 1024 * (T % 4) + (r.val + 16); omega) N]

/-- What the body stores at an index of a grid point's block is the reference at the place of that index in the array. -/
theorem point (c : Dev nD) (t : Fin cfg0.N) (h : t.val ≠ 0) (r : Fin 1024) (n : Fin 512) (R : Fin 32768) (N : Fin 5632)
    (hR : R.val = (t.val - 1) / 11 * 1024 + r.val) (hN : N.val = (t.val - 1) % 11 * 512 + n.val) :
    @Eq EReal ((show FVec Ideal S1024x512 .bf16 from (outsAt0 m c t.val t.isLt).1) (ix2 r n)) (REF (aX m c) (aG m c) (aW m c) (aC m c) (ix2 R N)) := by
  have hlt : t.val < 353 := t.isLt
  have hr := r.isLt
  have hn := n.isLt
  have hd : (t.val - 1) / 11 < 32 := by omega
  refine (out_pj m c t h (ix2 r n)).trans ?_
  rw [REF, OT_at _ R N ⟨(t.val - 1) / 11 / 4, by omega⟩ ⟨1024 * ((t.val - 1) / 11 % 4) + r.val, by omega⟩ ⟨N.val, by omega⟩ ⟨5632 + N.val, by omega⟩
    (by show R.val = 4096 * ((t.val - 1) / 11 / 4) + (1024 * ((t.val - 1) / 11 % 4) + r.val); omega) rfl rfl]
  show Cert.Up.glu (fl _ _ r n ⟨n.val, by omega⟩) (fl _ _ r n ⟨512 + n.val, by omega⟩) = _
  refine congrArg₂ Cert.Up.glu ?_ ?_
  · exact fl_at m c _ _ r n ⟨n.val, by omega⟩ ((t.val - 1) / 11) hd ⟨N.val, by omega⟩
      (fun j => pj_lo m c (t.val - 1) _ (by omega) j ⟨n.val, by omega⟩ hn ⟨N.val, by omega⟩ (by show N.val = 512 * ((t.val - 1) % 11) + n.val; omega))
      (fun p q hpq => (in5 m c t p n ⟨N.val, by omega⟩ (by show N.val = 512 * ((t.val - 1) % 11) + n.val; omega)).trans (V2_at m c p q hpq _)) _ rfl _ rfl
  · exact fl_at m c _ _ r n ⟨512 + n.val, by omega⟩ ((t.val - 1) / 11) hd ⟨5632 + N.val, by omega⟩
      (fun j => pj_hi m c (t.val - 1) _ (by omega) j ⟨512 + n.val, by omega⟩ n rfl ⟨5632 + N.val, by omega⟩ (by show 5632 + N.val = 5632 + (512 * ((t.val - 1) % 11) + n.val); omega))
      (fun p q hpq => (in6 m c t p n ⟨5632 + N.val, by omega⟩ (by show 5632 + N.val = 512 * (11 + (t.val - 1) % 11) + n.val; omega)).trans (V2_at m c p q hpq _)) _ rfl _ rfl

/-- The result array after the run is the reference's result. -/
theorem final (c : Dev nD) : (dats m 0 c).arrAt 7 (cfgs 0).N = REF (aX m c) (aG m c) (aW m c) (aC m c) := by
  refine (dats m 0 c).arrAt_eq_of_covers 7 _ (by decide +kernel) fun t hf y => ?_
  have hp : t.val ≠ 0 := flush_pos t hf
  blk_simp
  rw [after0_7]
  have hlt : t.val < 353 := t.isLt
  have h0 : (y 0).val < 1024 := (y 0).isLt
  have h1 : (y 1).val < 512 := (y 1).isLt
  refine (congrArg (outsAt0 m c t.val t.isLt).1 (eq_ix2 y)).trans ((point m c t hp (y 0) (y 1) ⟨(t.val - 1) / 11 * 1024 + (y 0).val, by omega⟩ ⟨(t.val - 1) % 11 * 512 + (y 1).val, by omega⟩ rfl rfl).trans (congrArg _ ?_))
  blk_ext [idx t]

end Cert.Kernel4Ideal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Value
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite
public import proofs.«01_k».proof.Proof.Down
public import proofs.«01_k».proof.Proof.Out
public import proofs.«01_k».proof.Proof.BandOut
public import proofs.«01_k».proof.Proof.BandLse
public import proofs.«01_k».proof.Proof.BandPre
public import proofs.«01_k».proof.Proof.UpPoint
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The `down projection` reference runs and leaves its arguments. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's array and the reference's result are one function of the arguments. -/
theorem algebraic : Cert.algebraic_KernelIdeal_ReferenceIdeal := by
  intro m ρ m' ρ' _ hagree
  refine ⟨_, (θ_run Cert.KernelIdeal.defs _ _).mono (fun _ h c => ⟨(h c).1.trans (Cert.KernelIdeal.Value.final m c), (h c).2⟩)
    (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := hagree c
  rw [h0, h1, h2]
  rfl

/-- The `output projection` reference runs and leaves its arguments. -/
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel's array and the reference's result are one function of the arguments. -/
theorem algebraic2 : Cert.algebraic_Kernel2Ideal_Reference2Ideal := by
  intro m ρ m' ρ' _ hagree
  refine ⟨_, (θ_run Cert.Kernel2Ideal.defs _ _).mono (fun _ h c => ⟨(h c).1.trans (Cert.Kernel2Ideal.Value.final m c), (h c).2⟩)
    (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  obtain ⟨h0, h1, h2⟩ := hagree c
  rw [h0, h1, h2]
  rfl

/-- The `band attention` reference runs and leaves its arguments. -/
theorem frame_ri3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The named constant is the reciprocal of the logarithm of two, as the kernel's word rounds it. -/
theorem preserves3 : Cert.preserves_Kernel3_Kernel3Ideal :=
  IdealRules.named_const.statement Cert.Kernel3Ideal.κ "log2e" .f32 0x3FB8AA3B#32 (((Real.log 2)⁻¹ : ℝ) : EReal) rfl

/-- The kernel's two arrays and the reference's two results are the same functions of real queries, keys and biases. -/
theorem algebraic3 : Cert.algebraic_Kernel3Ideal_Reference3Ideal_pre_finite := by
  intro m ρ m' ρ' hpre hagree
  refine ⟨_, _, (θ_run Cert.Kernel3Ideal.defs _ _).mono (fun _ h c =>
      have hr := Cert.Pre_finite.real _ _ _ _ (hpre c)
      ⟨(h c).1.trans (Cert.Kernel3Ideal.Value.final4 m c hr.1 hr.2.1 hr.2.2), (h c).2.1.trans (Cert.Kernel3Ideal.Value.final5 m c hr.1 hr.2.1 hr.2.2), (h c).2.2⟩)
    (Cert.Kernel3Ideal.Value.run_blocks (F := Ideal) m ρ), ?_⟩
  refine (θ_run Cert.Reference3Ideal.defs _ _).mono (fun _ h c => ⟨(h c).1.trans ?_, (h c).2.1.trans ?_, (h c).2.2⟩)
    (Cert.Reference3Ideal.Value.run (F := Ideal) m' ρ')
  · obtain ⟨h0, h1, h2, h3⟩ := hagree c
    rw [Cert.Reference3Ideal.Value.res0, h0, h1, h2, h3]
    rfl
  · obtain ⟨h0, h1, h2, h3⟩ := hagree c
    rw [Cert.Reference3Ideal.Value.res1, h0, h1, h3]
    rfl

/-- The up projection's program and its ideal form have one table of kernel bodies. -/
theorem table4 {F : FTy → Type} [FloatOps F] : Cert.Kernel4.defs₀ (F := F) = Cert.Kernel4Ideal.defs₀ (F := F) := by
  unfold Cert.Kernel4.defs₀ Cert.Kernel4Ideal.defs₀
  refine congrArg Defs.onTc ?_
  funext l x
  rcases l with ⟨⟨⟩⟩ <;> rfl

/-- The two programs have one table of bodies and regions. -/
theorem defs4 {F : FTy → Type} [FloatOps F] : Cert.Kernel4.defs (F := F) = Cert.Kernel4Ideal.defs (F := F) :=
  congrArg (Pipeline.defs Cert.Kernel4Ideal.pcfgs) table4

/-- The up projection's kernel runs and leaves its arguments: the run of its ideal form, at the machine's floats. -/
theorem frame_kernel4 : Cert.quiescent_Kernel4 := fun m ρ _ => by
  rw [defs4]
  exact Cert.Kernel4Ideal.Run.frame (F := Bits) m ρ

/-- The `up projection` reference runs and leaves its arguments. -/
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel's array and the reference's result are one function of the arguments. -/
theorem algebraic4 : Cert.algebraic_Kernel4Ideal_Reference4Ideal := by
  intro m ρ m' ρ' _ hagree
  refine ⟨_, (θ_run Cert.Kernel4Ideal.defs _ _).mono (fun _ h c => ⟨(h c).1.trans (Cert.Kernel4Ideal.Value.final m c), (h c).2⟩)
    (Cert.Kernel4Ideal.Run.run_blocks (F := Ideal) m ρ), ?_⟩
  refine (θ_run Cert.Reference4Ideal.defs _ _).mono (fun _ h c => ⟨(h c).1.trans ?_, (h c).2⟩)
    (Cert.Reference4Ideal.Value.run (F := Ideal) m' ρ')
  obtain ⟨h0, h1, h2, h3⟩ := hagree c
  rw [Cert.Reference4Ideal.Value.res0, h0, h1, h2, h3]
  rfl

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Pre_finite.Gen.facts,
    fun m ρ _ => Cert.Kernel.Gen.frame m ρ,
    fun m ρ _ => Cert.KernelIdeal.Gen.frame m ρ,
    frame_ri,
    fun m ρ _ => Cert.Kernel2.Gen.frame m ρ,
    fun m ρ _ => Cert.Kernel2Ideal.Gen.frame m ρ,
    frame_ri2,
    fun m ρ _ => Cert.Kernel3.Gen.frame m ρ,
    fun m ρ _ => Cert.Kernel3Ideal.Gen.frame m ρ,
    fun m ρ _ => Cert.Kernel3Ideal.Gen.frame m ρ,
    frame_ri3,
    fun m ρ _ => frame_ri3 m ρ trivial,
    frame_kernel4,
    fun m ρ _ => Cert.Kernel4Ideal.Run.frame m ρ,
    frame_ri4,
    trivial,
    algebraic,
    trivial,
    algebraic2,
    preserves3,
    algebraic3,
    trivial,
    algebraic4⟩

end Cert.Proof

end
